-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_queries_and_keys [hPre_finite_queries_and_keys : Cert.Pre_finite_queries_and_keys.Facts] (m : (ℓ : Loc Cert.MlaIdeal.nD Cert.MlaIdeal.τ Cert.MlaIdeal.sig) → Buf (Elt Ideal) ℓ) : Prop :=
  ∀ c : Dev Cert.MlaIdeal.nD,
    (Cert.Pre_finite_queries_and_keys.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_queries_and_keys [hPre_finite_queries_and_keys : Cert.Pre_finite_queries_and_keys.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_queries_and_keys.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_Ffn [hPre_tiles_in_range : Cert.Pre_tiles_in_range.Facts] (m : (ℓ : Loc Cert.Ffn.nD Cert.Ffn.τ Cert.Ffn.sig) → Buf (Elt Bits) ℓ) : Prop :=
  ∀ c : Dev Cert.Ffn.nD,
    (Cert.Pre_tiles_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_tiles_in_range : Cert.Pre_tiles_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_tiles_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_tiles_in_range [hPre_tiles_in_range : Cert.Pre_tiles_in_range.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tiles_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_Ctx1 (m : (ℓ : Loc Cert.Ctx1.nD Cert.Ctx1.τ Cert.Ctx1.sig) → Buf (Elt Bits) ℓ) : Prop :=
  True

def Pre_Ctx1Ideal (m : (ℓ : Loc Cert.Ctx1Ideal.nD Cert.Ctx1Ideal.τ Cert.Ctx1Ideal.sig) → Buf (Elt Ideal) ℓ) : Prop :=
  True

def Pre_CtxRef1Ideal (m : (ℓ : Loc Cert.CtxRef1Ideal.nD Cert.CtxRef1Ideal.τ Cert.CtxRef1Ideal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite_queries_and_keys [hMlaIdeal : Cert.MlaIdeal.Facts] [hPre_finite_queries_and_keys : Cert.Pre_finite_queries_and_keys.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_queries_and_keys m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite_queries_and_keys [hMlaRefIdeal : Cert.MlaRefIdeal.Facts] [hPre_finite_queries_and_keys : Cert.Pre_finite_queries_and_keys.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_queries_and_keys m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Ffn [hFfn : Cert.Ffn.Facts] [hPre_tiles_in_range : Cert.Pre_tiles_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_tiles_in_range : Cert.Pre_tiles_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_tiles_in_range [hFfnRefIdeal : Cert.FfnRefIdeal.Facts] [hPre_tiles_in_range : Cert.Pre_tiles_in_range.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tiles_in_range m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7)
      ∧ r.2.mem ((c.tc : Thread Cert.Ctx.nD Cert.Ctx.τ).loc Cert.Ctx.main_arg8) = m ((c.tc : Thread Cert.Ctx.nD Cert.Ctx.τ).loc Cert.Ctx.main_arg8)
      ∧ r.2.mem ((c.tc : Thread Cert.Ctx.nD Cert.Ctx.τ).loc Cert.Ctx.main_arg9) = m ((c.tc : Thread Cert.Ctx.nD Cert.Ctx.τ).loc Cert.Ctx.main_arg9)
      ∧ r.2.mem ((c.tc : Thread Cert.Ctx.nD Cert.Ctx.τ).loc Cert.Ctx.main_arg10) = m ((c.tc : Thread Cert.Ctx.nD Cert.Ctx.τ).loc Cert.Ctx.main_arg10)
      ∧ r.2.mem ((c.tc : Thread Cert.Ctx.nD Cert.Ctx.τ).loc Cert.Ctx.main_arg11) = m ((c.tc : Thread Cert.Ctx.nD Cert.Ctx.τ).loc Cert.Ctx.main_arg11))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
      ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
      ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9)
      ∧ r.2.mem ((c.tc : Thread Cert.CtxIdeal.nD Cert.CtxIdeal.τ).loc Cert.CtxIdeal.main_arg10) = m ((c.tc : Thread Cert.CtxIdeal.nD Cert.CtxIdeal.τ).loc Cert.CtxIdeal.main_arg10)
      ∧ r.2.mem ((c.tc : Thread Cert.CtxIdeal.nD Cert.CtxIdeal.τ).loc Cert.CtxIdeal.main_arg11) = m ((c.tc : Thread Cert.CtxIdeal.nD Cert.CtxIdeal.τ).loc Cert.CtxIdeal.main_arg11))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7)
      ∧ r.2.mem ((c.tc : Thread Cert.CtxRefIdeal.nD Cert.CtxRefIdeal.τ).loc Cert.CtxRefIdeal.main_arg8) = m ((c.tc : Thread Cert.CtxRefIdeal.nD Cert.CtxRefIdeal.τ).loc Cert.CtxRefIdeal.main_arg8)
      ∧ r.2.mem ((c.tc : Thread Cert.CtxRefIdeal.nD Cert.CtxRefIdeal.τ).loc Cert.CtxRefIdeal.main_arg9) = m ((c.tc : Thread Cert.CtxRefIdeal.nD Cert.CtxRefIdeal.τ).loc Cert.CtxRefIdeal.main_arg9)
      ∧ r.2.mem ((c.tc : Thread Cert.CtxRefIdeal.nD Cert.CtxRefIdeal.τ).loc Cert.CtxRefIdeal.main_arg10) = m ((c.tc : Thread Cert.CtxRefIdeal.nD Cert.CtxRefIdeal.τ).loc Cert.CtxRefIdeal.main_arg10)
      ∧ r.2.mem ((c.tc : Thread Cert.CtxRefIdeal.nD Cert.CtxRefIdeal.τ).loc Cert.CtxRefIdeal.main_arg11) = m ((c.tc : Thread Cert.CtxRefIdeal.nD Cert.CtxRefIdeal.τ).loc Cert.CtxRefIdeal.main_arg11))
      ∧ r.2.sem = fun _ => 0)

def quiescent_Ctx1 [hCtx1 : Cert.Ctx1.Facts] : Prop :=
  ∀ (m : (ℓ : Loc Cert.Ctx1.nD Cert.Ctx1.τ Cert.Ctx1.sig) → Buf (Elt Bits) ℓ) (g : Dev Cert.Ctx1.nD → PrngReg), Pre_Ctx1 m →
    θ_run (Cert.Ctx1.defs (F := Bits)) (onTc (τ := Cert.Ctx1.τ) (Cert.Ctx1.main (F := Bits))) ⟨m, fun _ => 0, g⟩ (fun r => (∀ c : Dev Cert.Ctx1.nD,
      r.2.mem ((c.tc : Thread Cert.Ctx1.nD Cert.Ctx1.τ).loc Cert.Ctx1.main_arg0) = m ((c.tc : Thread Cert.Ctx1.nD Cert.Ctx1.τ).loc Cert.Ctx1.main_arg0)
      ∧ r.2.mem ((c.tc : Thread Cert.Ctx1.nD Cert.Ctx1.τ).loc Cert.Ctx1.main_arg1) = m ((c.tc : Thread Cert.Ctx1.nD Cert.Ctx1.τ).loc Cert.Ctx1.main_arg1)
      ∧ r.2.mem ((c.tc : Thread Cert.Ctx1.nD Cert.Ctx1.τ).loc Cert.Ctx1.main_arg2) = m ((c.tc : Thread Cert.Ctx1.nD Cert.Ctx1.τ).loc Cert.Ctx1.main_arg2)
      ∧ r.2.mem ((c.tc : Thread Cert.Ctx1.nD Cert.Ctx1.τ).loc Cert.Ctx1.main_arg3) = m ((c.tc : Thread Cert.Ctx1.nD Cert.Ctx1.τ).loc Cert.Ctx1.main_arg3)
      ∧ r.2.mem ((c.tc : Thread Cert.Ctx1.nD Cert.Ctx1.τ).loc Cert.Ctx1.main_arg4) = m ((c.tc : Thread Cert.Ctx1.nD Cert.Ctx1.τ).loc Cert.Ctx1.main_arg4)
      ∧ r.2.mem ((c.tc : Thread Cert.Ctx1.nD Cert.Ctx1.τ).loc Cert.Ctx1.main_arg5) = m ((c.tc : Thread Cert.Ctx1.nD Cert.Ctx1.τ).loc Cert.Ctx1.main_arg5)
      ∧ r.2.mem ((c.tc : Thread Cert.Ctx1.nD Cert.Ctx1.τ).loc Cert.Ctx1.main_arg6) = m ((c.tc : Thread Cert.Ctx1.nD Cert.Ctx1.τ).loc Cert.Ctx1.main_arg6)
      ∧ r.2.mem ((c.tc : Thread Cert.Ctx1.nD Cert.Ctx1.τ).loc Cert.Ctx1.main_arg7) = m ((c.tc : Thread Cert.Ctx1.nD Cert.Ctx1.τ).loc Cert.Ctx1.main_arg7)
      ∧ r.2.mem ((c.tc : Thread Cert.Ctx1.nD Cert.Ctx1.τ).loc Cert.Ctx1.main_arg8) = m ((c.tc : Thread Cert.Ctx1.nD Cert.Ctx1.τ).loc Cert.Ctx1.main_arg8)
      ∧ r.2.mem ((c.tc : Thread Cert.Ctx1.nD Cert.Ctx1.τ).loc Cert.Ctx1.main_arg9) = m ((c.tc : Thread Cert.Ctx1.nD Cert.Ctx1.τ).loc Cert.Ctx1.main_arg9)
      ∧ r.2.mem ((c.tc : Thread Cert.Ctx1.nD Cert.Ctx1.τ).loc Cert.Ctx1.main_arg10) = m ((c.tc : Thread Cert.Ctx1.nD Cert.Ctx1.τ).loc Cert.Ctx1.main_arg10)
      ∧ r.2.mem ((c.tc : Thread Cert.Ctx1.nD Cert.Ctx1.τ).loc Cert.Ctx1.main_arg11) = m ((c.tc : Thread Cert.Ctx1.nD Cert.Ctx1.τ).loc Cert.Ctx1.main_arg11)
      ∧ r.2.mem ((c.tc : Thread Cert.Ctx1.nD Cert.Ctx1.τ).loc Cert.Ctx1.main_arg12) = m ((c.tc : Thread Cert.Ctx1.nD Cert.Ctx1.τ).loc Cert.Ctx1.main_arg12))
      ∧ r.2.sem = fun _ => 0)

def quiescent_Ctx1Ideal [hCtx1Ideal : Cert.Ctx1Ideal.Facts] : Prop :=
  ∀ (m : (ℓ : Loc Cert.Ctx1Ideal.nD Cert.Ctx1Ideal.τ Cert.Ctx1Ideal.sig) → Buf (Elt Ideal) ℓ) (g : Dev Cert.Ctx1Ideal.nD → PrngReg), Pre_Ctx1Ideal m →
    θ_run (Cert.Ctx1Ideal.defs (F := Ideal)) (onTc (τ := Cert.Ctx1Ideal.τ) (Cert.Ctx1Ideal.main (F := Ideal))) ⟨m, fun _ => 0, g⟩ (fun r => (∀ c : Dev Cert.Ctx1Ideal.nD,
      r.2.mem ((c.tc : Thread Cert.Ctx1Ideal.nD Cert.Ctx1Ideal.τ).loc Cert.Ctx1Ideal.main_arg0) = m ((c.tc : Thread Cert.Ctx1Ideal.nD Cert.Ctx1Ideal.τ).loc Cert.Ctx1Ideal.main_arg0)
      ∧ r.2.mem ((c.tc : Thread Cert.Ctx1Ideal.nD Cert.Ctx1Ideal.τ).loc Cert.Ctx1Ideal.main_arg1) = m ((c.tc : Thread Cert.Ctx1Ideal.nD Cert.Ctx1Ideal.τ).loc Cert.Ctx1Ideal.main_arg1)
      ∧ r.2.mem ((c.tc : Thread Cert.Ctx1Ideal.nD Cert.Ctx1Ideal.τ).loc Cert.Ctx1Ideal.main_arg2) = m ((c.tc : Thread Cert.Ctx1Ideal.nD Cert.Ctx1Ideal.τ).loc Cert.Ctx1Ideal.main_arg2)
      ∧ r.2.mem ((c.tc : Thread Cert.Ctx1Ideal.nD Cert.Ctx1Ideal.τ).loc Cert.Ctx1Ideal.main_arg3) = m ((c.tc : Thread Cert.Ctx1Ideal.nD Cert.Ctx1Ideal.τ).loc Cert.Ctx1Ideal.main_arg3)
      ∧ r.2.mem ((c.tc : Thread Cert.Ctx1Ideal.nD Cert.Ctx1Ideal.τ).loc Cert.Ctx1Ideal.main_arg4) = m ((c.tc : Thread Cert.Ctx1Ideal.nD Cert.Ctx1Ideal.τ).loc Cert.Ctx1Ideal.main_arg4)
      ∧ r.2.mem ((c.tc : Thread Cert.Ctx1Ideal.nD Cert.Ctx1Ideal.τ).loc Cert.Ctx1Ideal.main_arg5) = m ((c.tc : Thread Cert.Ctx1Ideal.nD Cert.Ctx1Ideal.τ).loc Cert.Ctx1Ideal.main_arg5)
      ∧ r.2.mem ((c.tc : Thread Cert.Ctx1Ideal.nD Cert.Ctx1Ideal.τ).loc Cert.Ctx1Ideal.main_arg6) = m ((c.tc : Thread Cert.Ctx1Ideal.nD Cert.Ctx1Ideal.τ).loc Cert.Ctx1Ideal.main_arg6)
      ∧ r.2.mem ((c.tc : Thread Cert.Ctx1Ideal.nD Cert.Ctx1Ideal.τ).loc Cert.Ctx1Ideal.main_arg7) = m ((c.tc : Thread Cert.Ctx1Ideal.nD Cert.Ctx1Ideal.τ).loc Cert.Ctx1Ideal.main_arg7)
      ∧ r.2.mem ((c.tc : Thread Cert.Ctx1Ideal.nD Cert.Ctx1Ideal.τ).loc Cert.Ctx1Ideal.main_arg8) = m ((c.tc : Thread Cert.Ctx1Ideal.nD Cert.Ctx1Ideal.τ).loc Cert.Ctx1Ideal.main_arg8)
      ∧ r.2.mem ((c.tc : Thread Cert.Ctx1Ideal.nD Cert.Ctx1Ideal.τ).loc Cert.Ctx1Ideal.main_arg9) = m ((c.tc : Thread Cert.Ctx1Ideal.nD Cert.Ctx1Ideal.τ).loc Cert.Ctx1Ideal.main_arg9)
      ∧ r.2.mem ((c.tc : Thread Cert.Ctx1Ideal.nD Cert.Ctx1Ideal.τ).loc Cert.Ctx1Ideal.main_arg10) = m ((c.tc : Thread Cert.Ctx1Ideal.nD Cert.Ctx1Ideal.τ).loc Cert.Ctx1Ideal.main_arg10)
      ∧ r.2.mem ((c.tc : Thread Cert.Ctx1Ideal.nD Cert.Ctx1Ideal.τ).loc Cert.Ctx1Ideal.main_arg11) = m ((c.tc : Thread Cert.Ctx1Ideal.nD Cert.Ctx1Ideal.τ).loc Cert.Ctx1Ideal.main_arg11)
      ∧ r.2.mem ((c.tc : Thread Cert.Ctx1Ideal.nD Cert.Ctx1Ideal.τ).loc Cert.Ctx1Ideal.main_arg12) = m ((c.tc : Thread Cert.Ctx1Ideal.nD Cert.Ctx1Ideal.τ).loc Cert.Ctx1Ideal.main_arg12))
      ∧ r.2.sem = fun _ => 0)

def quiescent_CtxRef1Ideal [hCtxRef1Ideal : Cert.CtxRef1Ideal.Facts] : Prop :=
  ∀ (m : (ℓ : Loc Cert.CtxRef1Ideal.nD Cert.CtxRef1Ideal.τ Cert.CtxRef1Ideal.sig) → Buf (Elt Ideal) ℓ) (g : Dev Cert.CtxRef1Ideal.nD → PrngReg), Pre_CtxRef1Ideal m →
    θ_run (Cert.CtxRef1Ideal.defs (F := Ideal)) (onTc (τ := Cert.CtxRef1Ideal.τ) (Cert.CtxRef1Ideal.main (F := Ideal))) ⟨m, fun _ => 0, g⟩ (fun r => (∀ c : Dev Cert.CtxRef1Ideal.nD,
      r.2.mem ((c.tc : Thread Cert.CtxRef1Ideal.nD Cert.CtxRef1Ideal.τ).loc Cert.CtxRef1Ideal.main_arg0) = m ((c.tc : Thread Cert.CtxRef1Ideal.nD Cert.CtxRef1Ideal.τ).loc Cert.CtxRef1Ideal.main_arg0)
      ∧ r.2.mem ((c.tc : Thread Cert.CtxRef1Ideal.nD Cert.CtxRef1Ideal.τ).loc Cert.CtxRef1Ideal.main_arg1) = m ((c.tc : Thread Cert.CtxRef1Ideal.nD Cert.CtxRef1Ideal.τ).loc Cert.CtxRef1Ideal.main_arg1)
      ∧ r.2.mem ((c.tc : Thread Cert.CtxRef1Ideal.nD Cert.CtxRef1Ideal.τ).loc Cert.CtxRef1Ideal.main_arg2) = m ((c.tc : Thread Cert.CtxRef1Ideal.nD Cert.CtxRef1Ideal.τ).loc Cert.CtxRef1Ideal.main_arg2)
      ∧ r.2.mem ((c.tc : Thread Cert.CtxRef1Ideal.nD Cert.CtxRef1Ideal.τ).loc Cert.CtxRef1Ideal.main_arg3) = m ((c.tc : Thread Cert.CtxRef1Ideal.nD Cert.CtxRef1Ideal.τ).loc Cert.CtxRef1Ideal.main_arg3)
      ∧ r.2.mem ((c.tc : Thread Cert.CtxRef1Ideal.nD Cert.CtxRef1Ideal.τ).loc Cert.CtxRef1Ideal.main_arg4) = m ((c.tc : Thread Cert.CtxRef1Ideal.nD Cert.CtxRef1Ideal.τ).loc Cert.CtxRef1Ideal.main_arg4)
      ∧ r.2.mem ((c.tc : Thread Cert.CtxRef1Ideal.nD Cert.CtxRef1Ideal.τ).loc Cert.CtxRef1Ideal.main_arg5) = m ((c.tc : Thread Cert.CtxRef1Ideal.nD Cert.CtxRef1Ideal.τ).loc Cert.CtxRef1Ideal.main_arg5)
      ∧ r.2.mem ((c.tc : Thread Cert.CtxRef1Ideal.nD Cert.CtxRef1Ideal.τ).loc Cert.CtxRef1Ideal.main_arg6) = m ((c.tc : Thread Cert.CtxRef1Ideal.nD Cert.CtxRef1Ideal.τ).loc Cert.CtxRef1Ideal.main_arg6)
      ∧ r.2.mem ((c.tc : Thread Cert.CtxRef1Ideal.nD Cert.CtxRef1Ideal.τ).loc Cert.CtxRef1Ideal.main_arg7) = m ((c.tc : Thread Cert.CtxRef1Ideal.nD Cert.CtxRef1Ideal.τ).loc Cert.CtxRef1Ideal.main_arg7)
      ∧ r.2.mem ((c.tc : Thread Cert.CtxRef1Ideal.nD Cert.CtxRef1Ideal.τ).loc Cert.CtxRef1Ideal.main_arg8) = m ((c.tc : Thread Cert.CtxRef1Ideal.nD Cert.CtxRef1Ideal.τ).loc Cert.CtxRef1Ideal.main_arg8)
      ∧ r.2.mem ((c.tc : Thread Cert.CtxRef1Ideal.nD Cert.CtxRef1Ideal.τ).loc Cert.CtxRef1Ideal.main_arg9) = m ((c.tc : Thread Cert.CtxRef1Ideal.nD Cert.CtxRef1Ideal.τ).loc Cert.CtxRef1Ideal.main_arg9)
      ∧ r.2.mem ((c.tc : Thread Cert.CtxRef1Ideal.nD Cert.CtxRef1Ideal.τ).loc Cert.CtxRef1Ideal.main_arg10) = m ((c.tc : Thread Cert.CtxRef1Ideal.nD Cert.CtxRef1Ideal.τ).loc Cert.CtxRef1Ideal.main_arg10)
      ∧ r.2.mem ((c.tc : Thread Cert.CtxRef1Ideal.nD Cert.CtxRef1Ideal.τ).loc Cert.CtxRef1Ideal.main_arg11) = m ((c.tc : Thread Cert.CtxRef1Ideal.nD Cert.CtxRef1Ideal.τ).loc Cert.CtxRef1Ideal.main_arg11)
      ∧ r.2.mem ((c.tc : Thread Cert.CtxRef1Ideal.nD Cert.CtxRef1Ideal.τ).loc Cert.CtxRef1Ideal.main_arg12) = m ((c.tc : Thread Cert.CtxRef1Ideal.nD Cert.CtxRef1Ideal.τ).loc Cert.CtxRef1Ideal.main_arg12))
      ∧ r.2.sem = fun _ => 0)

def preserves_Mla_MlaIdeal : Prop :=
  IdealRules.named_const.Statement Cert.MlaIdeal.κ "mla_scale" .f32 0x3DD105EC#32 (((Real.sqrt 96)⁻¹ : ℝ) : EReal)

def algebraic_MlaIdeal_MlaRefIdeal_pre_finite_queries_and_keys [hMlaIdeal : Cert.MlaIdeal.Facts] [hMlaRefIdeal : Cert.MlaRefIdeal.Facts] [hPre_finite_queries_and_keys : Cert.Pre_finite_queries_and_keys.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_queries_and_keys m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v2) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v30) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Ffn_FfnIdeal : Prop :=
  True

def algebraic_FfnIdeal_FfnRefIdeal [hFfnIdeal : Cert.FfnIdeal.Facts] [hFfnRefIdeal : Cert.FfnRefIdeal.Facts] [hPre_tiles_in_range : Cert.Pre_tiles_in_range.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ctx_CtxIdeal : Prop :=
  True

def algebraic_CtxIdeal_CtxRefIdeal [hCtxIdeal : Cert.CtxIdeal.Facts] [hCtxRefIdeal : Cert.CtxRefIdeal.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)
      ∧ m' ((c.tc : Thread Cert.CtxRefIdeal.nD Cert.CtxRefIdeal.τ).loc Cert.CtxRefIdeal.main_arg8) = m ((c.tc : Thread Cert.CtxIdeal.nD Cert.CtxIdeal.τ).loc Cert.CtxIdeal.main_arg8)
      ∧ m' ((c.tc : Thread Cert.CtxRefIdeal.nD Cert.CtxRefIdeal.τ).loc Cert.CtxRefIdeal.main_arg9) = m ((c.tc : Thread Cert.CtxIdeal.nD Cert.CtxIdeal.τ).loc Cert.CtxIdeal.main_arg9)
      ∧ m' ((c.tc : Thread Cert.CtxRefIdeal.nD Cert.CtxRefIdeal.τ).loc Cert.CtxRefIdeal.main_arg10) = m ((c.tc : Thread Cert.CtxIdeal.nD Cert.CtxIdeal.τ).loc Cert.CtxIdeal.main_arg10)
      ∧ m' ((c.tc : Thread Cert.CtxRefIdeal.nD Cert.CtxRefIdeal.τ).loc Cert.CtxRefIdeal.main_arg11) = m ((c.tc : Thread Cert.CtxIdeal.nD Cert.CtxIdeal.τ).loc Cert.CtxIdeal.main_arg11)) →
    ∃ (v0 : (c : Dev Cert.CtxIdeal.nD) → Buf (Elt Ideal) ((c.tc : Thread Cert.CtxIdeal.nD Cert.CtxIdeal.τ).loc Cert.CtxIdeal.main_v58)) (v1 : (c : Dev Cert.CtxIdeal.nD) → Buf (Elt Ideal) ((c.tc : Thread Cert.CtxIdeal.nD Cert.CtxIdeal.τ).loc Cert.CtxIdeal.main_v59)) (v2 : (c : Dev Cert.CtxIdeal.nD) → Buf (Elt Ideal) ((c.tc : Thread Cert.CtxIdeal.nD Cert.CtxIdeal.τ).loc Cert.CtxIdeal.main_v60)) (v3 : (c : Dev Cert.CtxIdeal.nD) → Buf (Elt Ideal) ((c.tc : Thread Cert.CtxIdeal.nD Cert.CtxIdeal.τ).loc Cert.CtxIdeal.main_v61)) (v4 : (c : Dev Cert.CtxIdeal.nD) → Buf (Elt Ideal) ((c.tc : Thread Cert.CtxIdeal.nD Cert.CtxIdeal.τ).loc Cert.CtxIdeal.main_v62)) (v5 : (c : Dev Cert.CtxIdeal.nD) → Buf (Elt Ideal) ((c.tc : Thread Cert.CtxIdeal.nD Cert.CtxIdeal.τ).loc Cert.CtxIdeal.main_v63)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v58) = v0 c
          ∧ r.2.mem ((c.tc : Thread Cert.CtxIdeal.nD Cert.CtxIdeal.τ).loc Cert.CtxIdeal.main_v59) = v1 c
          ∧ r.2.mem ((c.tc : Thread Cert.CtxIdeal.nD Cert.CtxIdeal.τ).loc Cert.CtxIdeal.main_v60) = v2 c
          ∧ r.2.mem ((c.tc : Thread Cert.CtxIdeal.nD Cert.CtxIdeal.τ).loc Cert.CtxIdeal.main_v61) = v3 c
          ∧ r.2.mem ((c.tc : Thread Cert.CtxIdeal.nD Cert.CtxIdeal.τ).loc Cert.CtxIdeal.main_v62) = v4 c
          ∧ r.2.mem ((c.tc : Thread Cert.CtxIdeal.nD Cert.CtxIdeal.τ).loc Cert.CtxIdeal.main_v63) = v5 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7)
          ∧ r.2.mem ((c.tc : Thread Cert.CtxIdeal.nD Cert.CtxIdeal.τ).loc Cert.CtxIdeal.main_arg8) = m ((c.tc : Thread Cert.CtxIdeal.nD Cert.CtxIdeal.τ).loc Cert.CtxIdeal.main_arg8)
          ∧ r.2.mem ((c.tc : Thread Cert.CtxIdeal.nD Cert.CtxIdeal.τ).loc Cert.CtxIdeal.main_arg9) = m ((c.tc : Thread Cert.CtxIdeal.nD Cert.CtxIdeal.τ).loc Cert.CtxIdeal.main_arg9)
          ∧ r.2.mem ((c.tc : Thread Cert.CtxIdeal.nD Cert.CtxIdeal.τ).loc Cert.CtxIdeal.main_arg10) = m ((c.tc : Thread Cert.CtxIdeal.nD Cert.CtxIdeal.τ).loc Cert.CtxIdeal.main_arg10)
          ∧ r.2.mem ((c.tc : Thread Cert.CtxIdeal.nD Cert.CtxIdeal.τ).loc Cert.CtxIdeal.main_arg11) = m ((c.tc : Thread Cert.CtxIdeal.nD Cert.CtxIdeal.τ).loc Cert.CtxIdeal.main_arg11))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v63) = v0 c
          ∧ r.2.mem ((c.tc : Thread Cert.CtxRefIdeal.nD Cert.CtxRefIdeal.τ).loc Cert.CtxRefIdeal.main_v34) = v1 c
          ∧ r.2.mem ((c.tc : Thread Cert.CtxRefIdeal.nD Cert.CtxRefIdeal.τ).loc Cert.CtxRefIdeal.main_v75) = v2 c
          ∧ r.2.mem ((c.tc : Thread Cert.CtxRefIdeal.nD Cert.CtxRefIdeal.τ).loc Cert.CtxRefIdeal.main_v78) = v3 c
          ∧ r.2.mem ((c.tc : Thread Cert.CtxRefIdeal.nD Cert.CtxRefIdeal.τ).loc Cert.CtxRefIdeal.main_v81) = v4 c
          ∧ r.2.mem ((c.tc : Thread Cert.CtxRefIdeal.nD Cert.CtxRefIdeal.τ).loc Cert.CtxRefIdeal.main_v88) = v5 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7)
          ∧ r.2.mem ((c.tc : Thread Cert.CtxRefIdeal.nD Cert.CtxRefIdeal.τ).loc Cert.CtxRefIdeal.main_arg8) = m' ((c.tc : Thread Cert.CtxRefIdeal.nD Cert.CtxRefIdeal.τ).loc Cert.CtxRefIdeal.main_arg8)
          ∧ r.2.mem ((c.tc : Thread Cert.CtxRefIdeal.nD Cert.CtxRefIdeal.τ).loc Cert.CtxRefIdeal.main_arg9) = m' ((c.tc : Thread Cert.CtxRefIdeal.nD Cert.CtxRefIdeal.τ).loc Cert.CtxRefIdeal.main_arg9)
          ∧ r.2.mem ((c.tc : Thread Cert.CtxRefIdeal.nD Cert.CtxRefIdeal.τ).loc Cert.CtxRefIdeal.main_arg10) = m' ((c.tc : Thread Cert.CtxRefIdeal.nD Cert.CtxRefIdeal.τ).loc Cert.CtxRefIdeal.main_arg10)
          ∧ r.2.mem ((c.tc : Thread Cert.CtxRefIdeal.nD Cert.CtxRefIdeal.τ).loc Cert.CtxRefIdeal.main_arg11) = m' ((c.tc : Thread Cert.CtxRefIdeal.nD Cert.CtxRefIdeal.τ).loc Cert.CtxRefIdeal.main_arg11))

def preserves_Ctx1_Ctx1Ideal : Prop :=
  True

def algebraic_Ctx1Ideal_CtxRef1Ideal [hCtx1Ideal : Cert.Ctx1Ideal.Facts] [hCtxRef1Ideal : Cert.CtxRef1Ideal.Facts] : Prop :=
  ∀ (m : (ℓ : Loc Cert.Ctx1Ideal.nD Cert.Ctx1Ideal.τ Cert.Ctx1Ideal.sig) → Buf (Elt Ideal) ℓ) (g : Dev Cert.Ctx1Ideal.nD → PrngReg)
    (m' : (ℓ : Loc Cert.CtxRef1Ideal.nD Cert.CtxRef1Ideal.τ Cert.CtxRef1Ideal.sig) → Buf (Elt Ideal) ℓ) (g' : Dev Cert.CtxRef1Ideal.nD → PrngReg), Pre_Ctx1Ideal m →
    (∀ c : Dev Cert.Ctx1Ideal.nD,
      m' ((c.tc : Thread Cert.CtxRef1Ideal.nD Cert.CtxRef1Ideal.τ).loc Cert.CtxRef1Ideal.main_arg0) = m ((c.tc : Thread Cert.Ctx1Ideal.nD Cert.Ctx1Ideal.τ).loc Cert.Ctx1Ideal.main_arg0)
      ∧ m' ((c.tc : Thread Cert.CtxRef1Ideal.nD Cert.CtxRef1Ideal.τ).loc Cert.CtxRef1Ideal.main_arg1) = m ((c.tc : Thread Cert.Ctx1Ideal.nD Cert.Ctx1Ideal.τ).loc Cert.Ctx1Ideal.main_arg1)
      ∧ m' ((c.tc : Thread Cert.CtxRef1Ideal.nD Cert.CtxRef1Ideal.τ).loc Cert.CtxRef1Ideal.main_arg2) = m ((c.tc : Thread Cert.Ctx1Ideal.nD Cert.Ctx1Ideal.τ).loc Cert.Ctx1Ideal.main_arg2)
      ∧ m' ((c.tc : Thread Cert.CtxRef1Ideal.nD Cert.CtxRef1Ideal.τ).loc Cert.CtxRef1Ideal.main_arg3) = m ((c.tc : Thread Cert.Ctx1Ideal.nD Cert.Ctx1Ideal.τ).loc Cert.Ctx1Ideal.main_arg3)
      ∧ m' ((c.tc : Thread Cert.CtxRef1Ideal.nD Cert.CtxRef1Ideal.τ).loc Cert.CtxRef1Ideal.main_arg4) = m ((c.tc : Thread Cert.Ctx1Ideal.nD Cert.Ctx1Ideal.τ).loc Cert.Ctx1Ideal.main_arg4)
      ∧ m' ((c.tc : Thread Cert.CtxRef1Ideal.nD Cert.CtxRef1Ideal.τ).loc Cert.CtxRef1Ideal.main_arg5) = m ((c.tc : Thread Cert.Ctx1Ideal.nD Cert.Ctx1Ideal.τ).loc Cert.Ctx1Ideal.main_arg5)
      ∧ m' ((c.tc : Thread Cert.CtxRef1Ideal.nD Cert.CtxRef1Ideal.τ).loc Cert.CtxRef1Ideal.main_arg6) = m ((c.tc : Thread Cert.Ctx1Ideal.nD Cert.Ctx1Ideal.τ).loc Cert.Ctx1Ideal.main_arg6)
      ∧ m' ((c.tc : Thread Cert.CtxRef1Ideal.nD Cert.CtxRef1Ideal.τ).loc Cert.CtxRef1Ideal.main_arg7) = m ((c.tc : Thread Cert.Ctx1Ideal.nD Cert.Ctx1Ideal.τ).loc Cert.Ctx1Ideal.main_arg7)
      ∧ m' ((c.tc : Thread Cert.CtxRef1Ideal.nD Cert.CtxRef1Ideal.τ).loc Cert.CtxRef1Ideal.main_arg8) = m ((c.tc : Thread Cert.Ctx1Ideal.nD Cert.Ctx1Ideal.τ).loc Cert.Ctx1Ideal.main_arg8)
      ∧ m' ((c.tc : Thread Cert.CtxRef1Ideal.nD Cert.CtxRef1Ideal.τ).loc Cert.CtxRef1Ideal.main_arg9) = m ((c.tc : Thread Cert.Ctx1Ideal.nD Cert.Ctx1Ideal.τ).loc Cert.Ctx1Ideal.main_arg9)
      ∧ m' ((c.tc : Thread Cert.CtxRef1Ideal.nD Cert.CtxRef1Ideal.τ).loc Cert.CtxRef1Ideal.main_arg10) = m ((c.tc : Thread Cert.Ctx1Ideal.nD Cert.Ctx1Ideal.τ).loc Cert.Ctx1Ideal.main_arg10)
      ∧ m' ((c.tc : Thread Cert.CtxRef1Ideal.nD Cert.CtxRef1Ideal.τ).loc Cert.CtxRef1Ideal.main_arg11) = m ((c.tc : Thread Cert.Ctx1Ideal.nD Cert.Ctx1Ideal.τ).loc Cert.Ctx1Ideal.main_arg11)
      ∧ m' ((c.tc : Thread Cert.CtxRef1Ideal.nD Cert.CtxRef1Ideal.τ).loc Cert.CtxRef1Ideal.main_arg12) = m ((c.tc : Thread Cert.Ctx1Ideal.nD Cert.Ctx1Ideal.τ).loc Cert.Ctx1Ideal.main_arg12)) →
    ∃ (v0 : (c : Dev Cert.Ctx1Ideal.nD) → Buf (Elt Ideal) ((c.tc : Thread Cert.Ctx1Ideal.nD Cert.Ctx1Ideal.τ).loc Cert.Ctx1Ideal.main_v66)) (v1 : (c : Dev Cert.Ctx1Ideal.nD) → Buf (Elt Ideal) ((c.tc : Thread Cert.Ctx1Ideal.nD Cert.Ctx1Ideal.τ).loc Cert.Ctx1Ideal.main_v67)),
      θ_run (Cert.Ctx1Ideal.defs (F := Ideal)) (onTc (τ := Cert.Ctx1Ideal.τ) (Cert.Ctx1Ideal.main (F := Ideal))) ⟨m, fun _ => 0, g⟩ (fun r => ∀ c : Dev Cert.Ctx1Ideal.nD,
          r.2.mem ((c.tc : Thread Cert.Ctx1Ideal.nD Cert.Ctx1Ideal.τ).loc Cert.Ctx1Ideal.main_v66) = v0 c
          ∧ r.2.mem ((c.tc : Thread Cert.Ctx1Ideal.nD Cert.Ctx1Ideal.τ).loc Cert.Ctx1Ideal.main_v67) = v1 c
          ∧ r.2.mem ((c.tc : Thread Cert.Ctx1Ideal.nD Cert.Ctx1Ideal.τ).loc Cert.Ctx1Ideal.main_arg0) = m ((c.tc : Thread Cert.Ctx1Ideal.nD Cert.Ctx1Ideal.τ).loc Cert.Ctx1Ideal.main_arg0)
          ∧ r.2.mem ((c.tc : Thread Cert.Ctx1Ideal.nD Cert.Ctx1Ideal.τ).loc Cert.Ctx1Ideal.main_arg1) = m ((c.tc : Thread Cert.Ctx1Ideal.nD Cert.Ctx1Ideal.τ).loc Cert.Ctx1Ideal.main_arg1)
          ∧ r.2.mem ((c.tc : Thread Cert.Ctx1Ideal.nD Cert.Ctx1Ideal.τ).loc Cert.Ctx1Ideal.main_arg2) = m ((c.tc : Thread Cert.Ctx1Ideal.nD Cert.Ctx1Ideal.τ).loc Cert.Ctx1Ideal.main_arg2)
          ∧ r.2.mem ((c.tc : Thread Cert.Ctx1Ideal.nD Cert.Ctx1Ideal.τ).loc Cert.Ctx1Ideal.main_arg3) = m ((c.tc : Thread Cert.Ctx1Ideal.nD Cert.Ctx1Ideal.τ).loc Cert.Ctx1Ideal.main_arg3)
          ∧ r.2.mem ((c.tc : Thread Cert.Ctx1Ideal.nD Cert.Ctx1Ideal.τ).loc Cert.Ctx1Ideal.main_arg4) = m ((c.tc : Thread Cert.Ctx1Ideal.nD Cert.Ctx1Ideal.τ).loc Cert.Ctx1Ideal.main_arg4)
          ∧ r.2.mem ((c.tc : Thread Cert.Ctx1Ideal.nD Cert.Ctx1Ideal.τ).loc Cert.Ctx1Ideal.main_arg5) = m ((c.tc : Thread Cert.Ctx1Ideal.nD Cert.Ctx1Ideal.τ).loc Cert.Ctx1Ideal.main_arg5)
          ∧ r.2.mem ((c.tc : Thread Cert.Ctx1Ideal.nD Cert.Ctx1Ideal.τ).loc Cert.Ctx1Ideal.main_arg6) = m ((c.tc : Thread Cert.Ctx1Ideal.nD Cert.Ctx1Ideal.τ).loc Cert.Ctx1Ideal.main_arg6)
          ∧ r.2.mem ((c.tc : Thread Cert.Ctx1Ideal.nD Cert.Ctx1Ideal.τ).loc Cert.Ctx1Ideal.main_arg7) = m ((c.tc : Thread Cert.Ctx1Ideal.nD Cert.Ctx1Ideal.τ).loc Cert.Ctx1Ideal.main_arg7)
          ∧ r.2.mem ((c.tc : Thread Cert.Ctx1Ideal.nD Cert.Ctx1Ideal.τ).loc Cert.Ctx1Ideal.main_arg8) = m ((c.tc : Thread Cert.Ctx1Ideal.nD Cert.Ctx1Ideal.τ).loc Cert.Ctx1Ideal.main_arg8)
          ∧ r.2.mem ((c.tc : Thread Cert.Ctx1Ideal.nD Cert.Ctx1Ideal.τ).loc Cert.Ctx1Ideal.main_arg9) = m ((c.tc : Thread Cert.Ctx1Ideal.nD Cert.Ctx1Ideal.τ).loc Cert.Ctx1Ideal.main_arg9)
          ∧ r.2.mem ((c.tc : Thread Cert.Ctx1Ideal.nD Cert.Ctx1Ideal.τ).loc Cert.Ctx1Ideal.main_arg10) = m ((c.tc : Thread Cert.Ctx1Ideal.nD Cert.Ctx1Ideal.τ).loc Cert.Ctx1Ideal.main_arg10)
          ∧ r.2.mem ((c.tc : Thread Cert.Ctx1Ideal.nD Cert.Ctx1Ideal.τ).loc Cert.Ctx1Ideal.main_arg11) = m ((c.tc : Thread Cert.Ctx1Ideal.nD Cert.Ctx1Ideal.τ).loc Cert.Ctx1Ideal.main_arg11)
          ∧ r.2.mem ((c.tc : Thread Cert.Ctx1Ideal.nD Cert.Ctx1Ideal.τ).loc Cert.Ctx1Ideal.main_arg12) = m ((c.tc : Thread Cert.Ctx1Ideal.nD Cert.Ctx1Ideal.τ).loc Cert.Ctx1Ideal.main_arg12))
      ∧ θ_run (Cert.CtxRef1Ideal.defs (F := Ideal)) (onTc (τ := Cert.CtxRef1Ideal.τ) (Cert.CtxRef1Ideal.main (F := Ideal))) ⟨m', fun _ => 0, g'⟩ (fun r => ∀ c : Dev Cert.CtxRef1Ideal.nD,
          r.2.mem ((c.tc : Thread Cert.CtxRef1Ideal.nD Cert.CtxRef1Ideal.τ).loc Cert.CtxRef1Ideal.main_v50) = v0 c
          ∧ r.2.mem ((c.tc : Thread Cert.CtxRef1Ideal.nD Cert.CtxRef1Ideal.τ).loc Cert.CtxRef1Ideal.main_v51) = v1 c
          ∧ r.2.mem ((c.tc : Thread Cert.CtxRef1Ideal.nD Cert.CtxRef1Ideal.τ).loc Cert.CtxRef1Ideal.main_arg0) = m' ((c.tc : Thread Cert.CtxRef1Ideal.nD Cert.CtxRef1Ideal.τ).loc Cert.CtxRef1Ideal.main_arg0)
          ∧ r.2.mem ((c.tc : Thread Cert.CtxRef1Ideal.nD Cert.CtxRef1Ideal.τ).loc Cert.CtxRef1Ideal.main_arg1) = m' ((c.tc : Thread Cert.CtxRef1Ideal.nD Cert.CtxRef1Ideal.τ).loc Cert.CtxRef1Ideal.main_arg1)
          ∧ r.2.mem ((c.tc : Thread Cert.CtxRef1Ideal.nD Cert.CtxRef1Ideal.τ).loc Cert.CtxRef1Ideal.main_arg2) = m' ((c.tc : Thread Cert.CtxRef1Ideal.nD Cert.CtxRef1Ideal.τ).loc Cert.CtxRef1Ideal.main_arg2)
          ∧ r.2.mem ((c.tc : Thread Cert.CtxRef1Ideal.nD Cert.CtxRef1Ideal.τ).loc Cert.CtxRef1Ideal.main_arg3) = m' ((c.tc : Thread Cert.CtxRef1Ideal.nD Cert.CtxRef1Ideal.τ).loc Cert.CtxRef1Ideal.main_arg3)
          ∧ r.2.mem ((c.tc : Thread Cert.CtxRef1Ideal.nD Cert.CtxRef1Ideal.τ).loc Cert.CtxRef1Ideal.main_arg4) = m' ((c.tc : Thread Cert.CtxRef1Ideal.nD Cert.CtxRef1Ideal.τ).loc Cert.CtxRef1Ideal.main_arg4)
          ∧ r.2.mem ((c.tc : Thread Cert.CtxRef1Ideal.nD Cert.CtxRef1Ideal.τ).loc Cert.CtxRef1Ideal.main_arg5) = m' ((c.tc : Thread Cert.CtxRef1Ideal.nD Cert.CtxRef1Ideal.τ).loc Cert.CtxRef1Ideal.main_arg5)
          ∧ r.2.mem ((c.tc : Thread Cert.CtxRef1Ideal.nD Cert.CtxRef1Ideal.τ).loc Cert.CtxRef1Ideal.main_arg6) = m' ((c.tc : Thread Cert.CtxRef1Ideal.nD Cert.CtxRef1Ideal.τ).loc Cert.CtxRef1Ideal.main_arg6)
          ∧ r.2.mem ((c.tc : Thread Cert.CtxRef1Ideal.nD Cert.CtxRef1Ideal.τ).loc Cert.CtxRef1Ideal.main_arg7) = m' ((c.tc : Thread Cert.CtxRef1Ideal.nD Cert.CtxRef1Ideal.τ).loc Cert.CtxRef1Ideal.main_arg7)
          ∧ r.2.mem ((c.tc : Thread Cert.CtxRef1Ideal.nD Cert.CtxRef1Ideal.τ).loc Cert.CtxRef1Ideal.main_arg8) = m' ((c.tc : Thread Cert.CtxRef1Ideal.nD Cert.CtxRef1Ideal.τ).loc Cert.CtxRef1Ideal.main_arg8)
          ∧ r.2.mem ((c.tc : Thread Cert.CtxRef1Ideal.nD Cert.CtxRef1Ideal.τ).loc Cert.CtxRef1Ideal.main_arg9) = m' ((c.tc : Thread Cert.CtxRef1Ideal.nD Cert.CtxRef1Ideal.τ).loc Cert.CtxRef1Ideal.main_arg9)
          ∧ r.2.mem ((c.tc : Thread Cert.CtxRef1Ideal.nD Cert.CtxRef1Ideal.τ).loc Cert.CtxRef1Ideal.main_arg10) = m' ((c.tc : Thread Cert.CtxRef1Ideal.nD Cert.CtxRef1Ideal.τ).loc Cert.CtxRef1Ideal.main_arg10)
          ∧ r.2.mem ((c.tc : Thread Cert.CtxRef1Ideal.nD Cert.CtxRef1Ideal.τ).loc Cert.CtxRef1Ideal.main_arg11) = m' ((c.tc : Thread Cert.CtxRef1Ideal.nD Cert.CtxRef1Ideal.τ).loc Cert.CtxRef1Ideal.main_arg11)
          ∧ r.2.mem ((c.tc : Thread Cert.CtxRef1Ideal.nD Cert.CtxRef1Ideal.τ).loc Cert.CtxRef1Ideal.main_arg12) = m' ((c.tc : Thread Cert.CtxRef1Ideal.nD Cert.CtxRef1Ideal.τ).loc Cert.CtxRef1Ideal.main_arg12))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hCtx : Cert.Ctx.Facts) (hCtxIdeal : Cert.CtxIdeal.Facts) (hCtxRefIdeal : Cert.CtxRefIdeal.Facts) (hCtx1 : Cert.Ctx1.Facts) (hCtx1Ideal : Cert.Ctx1Ideal.Facts) (hCtxRef1Ideal : Cert.CtxRef1Ideal.Facts) (hPre_finite_queries_and_keys : Cert.Pre_finite_queries_and_keys.Facts) (hPre_tiles_in_range : Cert.Pre_tiles_in_range.Facts),
    quiescent_Mla (hMla := hMla)
    ∧ quiescent_MlaIdeal (hMlaIdeal := hMlaIdeal)
    ∧ quiescent_MlaIdeal_pre_finite_queries_and_keys (hMlaIdeal := hMlaIdeal) (hPre_finite_queries_and_keys := hPre_finite_queries_and_keys)
    ∧ quiescent_MlaRefIdeal (hMlaRefIdeal := hMlaRefIdeal)
    ∧ quiescent_MlaRefIdeal_pre_finite_queries_and_keys (hMlaRefIdeal := hMlaRefIdeal) (hPre_finite_queries_and_keys := hPre_finite_queries_and_keys)
    ∧ quiescent_Ffn (hFfn := hFfn) (hPre_tiles_in_range := hPre_tiles_in_range)
    ∧ quiescent_FfnIdeal (hFfnIdeal := hFfnIdeal) (hPre_tiles_in_range := hPre_tiles_in_range)
    ∧ quiescent_FfnRefIdeal (hFfnRefIdeal := hFfnRefIdeal)
    ∧ quiescent_FfnRefIdeal_pre_tiles_in_range (hFfnRefIdeal := hFfnRefIdeal) (hPre_tiles_in_range := hPre_tiles_in_range)
    ∧ quiescent_Ctx (hCtx := hCtx)
    ∧ quiescent_CtxIdeal (hCtxIdeal := hCtxIdeal)
    ∧ quiescent_CtxRefIdeal (hCtxRefIdeal := hCtxRefIdeal)
    ∧ quiescent_Ctx1 (hCtx1 := hCtx1)
    ∧ quiescent_Ctx1Ideal (hCtx1Ideal := hCtx1Ideal)
    ∧ quiescent_CtxRef1Ideal (hCtxRef1Ideal := hCtxRef1Ideal)
    ∧ preserves_Mla_MlaIdeal
    ∧ algebraic_MlaIdeal_MlaRefIdeal_pre_finite_queries_and_keys (hMlaIdeal := hMlaIdeal) (hMlaRefIdeal := hMlaRefIdeal) (hPre_finite_queries_and_keys := hPre_finite_queries_and_keys)
    ∧ preserves_Ffn_FfnIdeal
    ∧ algebraic_FfnIdeal_FfnRefIdeal (hFfnIdeal := hFfnIdeal) (hFfnRefIdeal := hFfnRefIdeal) (hPre_tiles_in_range := hPre_tiles_in_range)
    ∧ preserves_Ctx_CtxIdeal
    ∧ algebraic_CtxIdeal_CtxRefIdeal (hCtxIdeal := hCtxIdeal) (hCtxRefIdeal := hCtxRefIdeal)
    ∧ preserves_Ctx1_Ctx1Ideal
    ∧ algebraic_Ctx1Ideal_CtxRef1Ideal (hCtx1Ideal := hCtx1Ideal) (hCtxRef1Ideal := hCtxRef1Ideal)
-- ==== Pre_finite_queries_and_keys.lean ====
abbrev S2x4096x1024 : Shape := ⟨3, ![2, 4096, 1024]⟩
abbrev S2x512x1024 : Shape := ⟨3, ![2, 512, 1024]⟩
abbrev S_ : Shape := ⟨0, ![]⟩

class Facts : Prop where
  bitsLt_bf16_f32 : FTy.bits .bf16 < FTy.bits .f32
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x512x1024 : S_.BroadcastsInDim S2x512x1024 (![] : Fin 0 → Fin S2x512x1024.rank)
  reducesTo_S2x512x1024_S_d0_1_2 : S2x512x1024.ReducesTo [0, 1, 2] S_

variable [Facts]

def fn {F : FTy → Type} [FloatOps F] (main_arg0 : FVec F S2x4096x1024 .bf16) (main_arg1 : FVec F S2x512x1024 .bf16) (main_arg2 : FVec F S2x4096x1024 .bf16) (main_arg3 : FVec F S2x512x1024 .bf16) (main_arg4 : FVec F S2x4096x1024 .bf16) : IVec S_ 1 :=
  let main_v0 : FVec F S2x4096x1024 .f32 := (extf .f32 · bitsLt_bf16_f32) main_arg0
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_c : IVec S_ 1 := constantI S_ 1 1#1
  let main_v4 : IVec S_ 1 := (fun x v => Host.reduce IntOp.andi x v reducesTo_S2x4096x1024_S_d0_1_2 h_S_) main_v3 main_c
  let main_v5 : FVec F S2x512x1024 .f32 := (extf .f32 · bitsLt_bf16_f32) main_arg1
  let main_v6 : FVec F S2x512x1024 .f32 := Host.absf main_v5
  let main_cst_0 : FVec F S_ .f32 := constant S_ .f32 0x7F800000#32
  let main_v7 : FVec F S2x512x1024 .f32 := broadcastInDim S2x512x1024 ![] bcast_S_S2x512x1024 main_cst_0
  let main_v8 : IVec S2x512x1024 1 := cmpf .olt main_v6 main_v7
  let main_c_1 : IVec S_ 1 := constantI S_ 1 1#1
  let main_v9 : IVec S_ 1 := (fun x v => Host.reduce IntOp.andi x v reducesTo_S2x512x1024_S_d0_1_2 h_S_) main_v8 main_c_1
  let main_v10 : IVec S_ 1 := andi main_v4 main_v9
  let main_v11 : FVec F S2x4096x1024 .f32 := (extf .f32 · bitsLt_bf16_f32) main_arg2
  let main_v12 : FVec F S2x4096x1024 .f32 := Host.absf main_v11
  let main_cst_2 : FVec F S_ .f32 := constant S_ .f32 0x7F800000#32
  let main_v13 : FVec F S2x4096x1024 .f32 := broadcastInDim S2x4096x1024 ![] bcast_S_S2x4096x1024 main_cst_2
  let main_v14 : IVec S2x4096x1024 1 := cmpf .olt main_v12 main_v13
  let main_c_3 : IVec S_ 1 := constantI S_ 1 1#1
  let main_v15 : IVec S_ 1 := (fun x v => Host.reduce IntOp.andi x v reducesTo_S2x4096x1024_S_d0_1_2 h_S_) main_v14 main_c_3
  let main_v16 : IVec S_ 1 := andi main_v10 main_v15
  main_v16
-- ==== Pre_tiles_in_range.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  shapeCasts_S1_S_ : S1.ShapeCasts S_

variable [Facts]

def fn {F : FTy → Type} [FloatOps F] (main_arg0 : IVec S288 32) (main_arg1 : IVec S1 32) (main_arg2 : FVec F S73728x1024 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 288#32
  let main_v10 : IVec S_ 1 := cmpi .sle main_v9 main_c_3
  let main_v11 : IVec S_ 1 := andi main_v8 main_v10
  main_v11
-- ==== Mla.lean ====
abbrev S2x4096x1024 : Shape := ⟨3, ![2, 4096, 1024]⟩
abbrev S2x512x1024 : Shape := ⟨3, ![2, 512, 1024]⟩
abbrev S2x4608x1024 : Shape := ⟨3, ![2, 4608, 1024]⟩
abbrev S1x256x128 : Shape := ⟨3, ![1, 256, 128]⟩
abbrev S1x4608x128 : Shape := ⟨3, ![1, 4608, 128]⟩
abbrev S256x128 : Shape := ⟨2, ![256, 128]⟩
abbrev S4608x128 : Shape := ⟨2, ![4608, 128]⟩
abbrev S256x4608 : Shape := ⟨2, ![256, 4608]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x1024, .bf16⟩
  | .hbm, ⟨1, _⟩ => ⟨S2x512x1024, .bf16⟩
  | .hbm, ⟨2, _⟩ => ⟨S2x4096x1024, .bf16⟩
  | .hbm, ⟨3, _⟩ => ⟨S2x512x1024, .bf16⟩
  | .hbm, ⟨4, _⟩ => ⟨S2x4096x1024, .bf16⟩
  | .hbm, ⟨5, _⟩ => ⟨S2x4608x1024, .bf16⟩
  | .hbm, ⟨6, _⟩ => ⟨S2x4608x1024, .bf16⟩
  | .hbm, ⟨7, _⟩ => ⟨S2x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4608x128, .bf16⟩
  | .local _ .vmem, ⟨3, _⟩ => ⟨S1x4608x128, .bf16⟩
  | .local _ .vmem, ⟨4, _⟩ => ⟨S1x4608x128, .bf16⟩
  | .local _ .vmem, ⟨5, _⟩ => ⟨S1x4608x128, .bf16⟩
  | .local _ .vmem, ⟨6, _⟩ => ⟨S1x256x128, .bf16⟩
  | .local _ .vmem, ⟨7, _⟩ => ⟨S1x256x128, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4608x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4608x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mla_scale" => some (((Real.sqrt 96)⁻¹ : ℝ) : EReal)
  | _ => none
-- ==== MlaRefIdeal.lean ====
abbrev S2x4096x1024 : Shape := ⟨3, ![2, 4096, 1024]⟩
abbrev S2x512x1024 : Shape := ⟨3, ![2, 512, 1024]⟩
abbrev S2x4608x1024 : Shape := ⟨3, ![2, 4608, 1024]⟩
abbrev S2x4096x8x1x128 : Shape := ⟨5, ![2, 4096, 8, 1, 128]⟩
abbrev S2x4608x8x128 : Shape := ⟨4, ![2, 4608, 8, 128]⟩
abbrev S2x8x4608x4096x1 : Shape := ⟨5, ![2, 8, 4608, 4096, 1]⟩
abbrev S2x8x1x4096x4608 : Shape := ⟨5, ![2, 8, 1, 4096, 4608]⟩
abbrev S_ : Shape := ⟨0, ![]⟩
abbrev S2x8x1x4096 : Shape := ⟨4, ![2, 8, 1, 4096]⟩
abbrev S2x8x1x4096x1 : Shape := ⟨5, ![2, 8, 1, 4096, 1]⟩
abbrev S2x8x128x1x4096 : Shape := ⟨5, ![2, 8, 128, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x512x1024, .bf16⟩
  | .hbm, ⟨2, _⟩ => ⟨S2x4096x1024, .bf16⟩
  | .hbm, ⟨3, _⟩ => ⟨S2x512x1024, .bf16⟩
  | .hbm, ⟨4, _⟩ => ⟨S2x4096x1024, .bf16⟩
  | .hbm, ⟨5, _⟩ => ⟨S2x4608x1024, .bf16⟩
  | .hbm, ⟨6, _⟩ => ⟨S2x4608x1024, .bf16⟩
  | .hbm, ⟨7, _⟩ => ⟨S2x4096x1024, .f32⟩
  | .hbm, ⟨8, _⟩ => ⟨S2x4096x8x1x128, .f32⟩
  | .hbm, ⟨9, _⟩ => ⟨S2x4608x1024, .f32⟩
  | .hbm, ⟨10, _⟩ => ⟨S2x4608x8x128, .f32⟩
  | .hbm, ⟨11, _⟩ => ⟨S2x4608x1024, .f32⟩
  | .hbm, ⟨12, _⟩ => ⟨S2x4608x8x128, .f32⟩
  | .hbm, ⟨13, _⟩ => ⟨S2x8x4608x4096x1, .f32⟩
  | .hbm, ⟨14, _⟩ => ⟨S2x8x1x4096x4608, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x8x1x4096x4608, .f32⟩
  | .hbm, ⟨20, _⟩ => ⟨S2x8x1x4096x4608, .f32⟩
  | .hbm, ⟨21, _⟩ => ⟨S_, .f32⟩
  | .hbm, ⟨22, _⟩ => ⟨S2x8x1x4096, .f32⟩
  | .hbm, ⟨23, _⟩ => ⟨S_, .f32⟩
  | .hbm, ⟨24, _⟩ => ⟨S2x8x1x4096, .f32⟩
  | .hbm, ⟨25, _⟩ => ⟨S2x8x1x4096, .f32⟩
  | .hbm, ⟨26, _⟩ => ⟨S2x8x1x4096x1, .f32⟩
  | .hbm, ⟨27, _⟩ => ⟨S2x8x1x4096x4608, .f32⟩
  | .hbm, ⟨28, _⟩ => ⟨S2x8x1x4096x4608, .f32⟩
  | .hbm, ⟨29, _⟩ => ⟨S2x8x1x4096x4608, .f32⟩
  | .hbm, ⟨30, _⟩ => ⟨S_, .f32⟩
  | .hbm, ⟨31, _⟩ => ⟨S2x8x1x4096, .f32⟩
  | .hbm, ⟨32, _⟩ => ⟨S2x8x1x4096x1, .f32⟩
  | .hbm, ⟨33, _⟩ => ⟨S2x8x1x4096x4608, .f32⟩
  | .hbm, ⟨34, _⟩ => ⟨S2x8x1x4096x4608, .f32⟩
  | .hbm, ⟨35, _⟩ => ⟨S2x8x1x4096x4608, .bf16⟩
  | .hbm, ⟨36, _⟩ => ⟨S2x8x1x4096x4608, .f32⟩
  | .hbm, ⟨37, _⟩ => ⟨S2x8x128x1x4096, .f32⟩
  | .hbm, ⟨38, _⟩ => ⟨S2x4096x8x1x128, .f32⟩
  | .hbm, ⟨39, _⟩ => ⟨S2x4096x8x1x128, .bf16⟩
  | .hbm, ⟨40, _⟩ => ⟨S2x4096x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Ffn.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S73728x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S288 : Shape := ⟨1, ![288]⟩
abbrev S1 : Shape := ⟨1, ![1]⟩
abbrev S73728x1024 : Shape := ⟨2, ![73728, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x256 : Shape := ⟨2, ![288, 256]⟩
abbrev S73728 : Shape := ⟨1, ![73728]⟩
abbrev S73728x1 : Shape := ⟨2, ![73728, 1]⟩
abbrev S1x32 : Shape := ⟨2, ![1, 32]⟩
abbrev S73728x32 : Shape := ⟨2, ![73728, 32]⟩
abbrev S_ : Shape := ⟨0, ![]⟩
abbrev S32x2048x73728 : Shape := ⟨3, ![32, 2048, 73728]⟩
abbrev S32x73728x2048 : Shape := ⟨3, ![32, 73728, 2048]⟩
abbrev S32x73728x1024 : Shape := ⟨3, ![32, 73728, 1024]⟩
abbrev S32x73728 : Shape := ⟨2, ![32, 73728]⟩
abbrev S32x73728x1 : Shape := ⟨3, ![32, 73728, 1]⟩

abbrev nBuf : Space → Nat
  | .hbm => 69
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S288x256, .i32⟩
  | .hbm, ⟨8, _⟩ => ⟨S73728, .i32⟩
  | .hbm, ⟨9, _⟩ => ⟨S288, .i32⟩
  | .hbm, ⟨10, _⟩ => ⟨S288x256, .i32⟩
  | .hbm, ⟨11, _⟩ => ⟨S73728, .i32⟩
  | .hbm, ⟨12, _⟩ => ⟨S73728x1, .i32⟩
  | .hbm, ⟨13, _⟩ => ⟨S1x32, .i32⟩
  | .hbm, ⟨14, _⟩ => ⟨S73728x32, .i32⟩
  | .hbm, ⟨15, _⟩ => ⟨S73728x32, .i32⟩
  | .hbm, ⟨16, _⟩ => ⟨S73728x32, .i1⟩
  | .hbm, ⟨17, _⟩ => ⟨S73728x32, .f32⟩
  | .hbm, ⟨18, _⟩ => ⟨S73728x1, .i32⟩
  | .hbm, ⟨19, _⟩ => ⟨S_, .i32⟩
  | .hbm, ⟨20, _⟩ => ⟨S73728x1, .i32⟩
  | .hbm, ⟨21, _⟩ => ⟨S73728x1, .i1⟩
  | .hbm, ⟨22, _⟩ => ⟨S_, .f32⟩
  | .hbm, ⟨23, _⟩ => ⟨S_, .f32⟩
  | .hbm, ⟨24, _⟩ => ⟨S73728x32, .i1⟩
  | .hbm, ⟨25, _⟩ => ⟨S73728x32, .f32⟩
  | .hbm, ⟨26, _⟩ => ⟨S73728x32, .f32⟩
  | .hbm, ⟨27, _⟩ => ⟨S32x2048x73728, .f32⟩
  | .hbm, ⟨28, _⟩ => ⟨S32x73728x2048, .f32⟩
  | .hbm, ⟨29, _⟩ => ⟨S32x73728x2048, .f32⟩
  | .hbm, ⟨30, _⟩ => ⟨S32x73728x2048, .f32⟩
  | .hbm, ⟨31, _⟩ => ⟨S32x73728x1024, .f32⟩
  | .hbm, ⟨32, _⟩ => ⟨S32x73728x1024, .f32⟩
  | .hbm, ⟨33, _⟩ => ⟨S_, .f32⟩
  | .hbm, ⟨34, _⟩ => ⟨S32x73728x1024, .f32⟩
  | .hbm, ⟨35, _⟩ => ⟨S32x73728x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x73728x1024, .f32⟩
  | .hbm, ⟨40, _⟩ => ⟨S32x73728x1024, .f32⟩
  | .hbm, ⟨41, _⟩ => ⟨S_, .f32⟩
  | .hbm, ⟨42, _⟩ => ⟨S32x73728x1024, .f32⟩
  | .hbm, ⟨43, _⟩ => ⟨S32x73728x1024, .f32⟩
  | .hbm, ⟨44, _⟩ => ⟨S_, .f32⟩
  | .hbm, ⟨45, _⟩ => ⟨S32x73728x1024, .f32⟩
  | .hbm, ⟨46, _⟩ => ⟨S32x73728x1024, .f32⟩
  | .hbm, ⟨47, _⟩ => ⟨S_, .f32⟩
  | .hbm, ⟨48, _⟩ => ⟨S32x73728x1024, .f32⟩
  | .hbm, ⟨49, _⟩ => ⟨S32x73728x1024, .f32⟩
  | .hbm, ⟨50, _⟩ => ⟨S32x73728x1024, .f32⟩
  | .hbm, ⟨51, _⟩ => ⟨S32x73728x1024, .f32⟩
  | .hbm, ⟨52, _⟩ => ⟨S_, .f32⟩
  | .hbm, ⟨53, _⟩ => ⟨S32x73728x1024, .f32⟩
  | .hbm, ⟨54, _⟩ => ⟨S32x73728x1024, .f32⟩
  | .hbm, ⟨55, _⟩ => ⟨S_, .f32⟩
  | .hbm, ⟨56, _⟩ => ⟨S32x73728x1024, .f32⟩
  | .hbm, ⟨57, _⟩ => ⟨S32x73728x1024, .f32⟩
  | .hbm, ⟨58, _⟩ => ⟨S32x73728x1024, .f32⟩
  | .hbm, ⟨59, _⟩ => ⟨S32x73728x1024, .f32⟩
  | .hbm, ⟨60, _⟩ => ⟨S32x73728x1024, .f32⟩
  | .hbm, ⟨61, _⟩ => ⟨S32x73728x1024, .f32⟩
  | .hbm, ⟨62, _⟩ => ⟨S32x73728x1024, .f32⟩
  | .hbm, ⟨63, _⟩ => ⟨S32x73728, .f32⟩
  | .hbm, ⟨64, _⟩ => ⟨S32x73728x1, .f32⟩
  | .hbm, ⟨65, _⟩ => ⟨S32x73728x1024, .f32⟩
  | .hbm, ⟨66, _⟩ => ⟨S32x73728x1024, .f32⟩
  | .hbm, ⟨67, _⟩ => ⟨S_, .f32⟩
  | .hbm, ⟨68, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_cst_2 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== Ctx.lean ====
abbrev S32x256x1024 : Shape := ⟨3, ![32, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x1696 : Shape := ⟨2, ![1024, 1696]⟩
abbrev S384 : Shape := ⟨1, ![384]⟩
abbrev S256 : Shape := ⟨1, ![256]⟩
abbrev S384x768 : Shape := ⟨2, ![384, 768]⟩
abbrev S256x512 : Shape := ⟨2, ![256, 512]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩
abbrev S8x6x1024 : Shape := ⟨3, ![8, 6, 1024]⟩
abbrev S8x8x1024 : Shape := ⟨3, ![8, 8, 1024]⟩
abbrev S1024x32 : Shape := ⟨2, ![1024, 32]⟩
abbrev S1024x640 : Shape := ⟨2, ![1024, 640]⟩
abbrev S1024x16 : Shape := ⟨2, ![1024, 16]⟩
abbrev S1024x64 : Shape := ⟨2, ![1024, 64]⟩
abbrev S1024x1024 : Shape := ⟨2, ![1024, 1024]⟩
abbrev S1024x1792 : Shape := ⟨2, ![1024, 1792]⟩
abbrev S384x8x96 : Shape := ⟨3, ![384, 8, 96]⟩
abbrev S384x8x128 : Shape := ⟨3, ![384, 8, 128]⟩
abbrev S384x1024 : Shape := ⟨2, ![384, 1024]⟩
abbrev S384x8x64 : Shape := ⟨3, ![384, 8, 64]⟩
abbrev S384x8x32 : Shape := ⟨3, ![384, 8, 32]⟩
abbrev S384x8x16 : Shape := ⟨3, ![384, 8, 16]⟩
abbrev S256x8x64 : Shape := ⟨3, ![256, 8, 64]⟩
abbrev S256x8x128 : Shape := ⟨3, ![256, 8, 128]⟩
abbrev S256x1024 : Shape := ⟨2, ![256, 1024]⟩
abbrev S32x32 : Shape := ⟨2, ![32, 32]⟩
abbrev S32x64 : Shape := ⟨2, ![32, 64]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S128x1024 : Shape := ⟨2, ![128, 1024]⟩
abbrev S1x384 : Shape := ⟨2, ![1, 384]⟩
abbrev S1x256 : Shape := ⟨2, ![1, 256]⟩
abbrev S1x8192x1024 : Shape := ⟨3, ![1, 8192, 1024]⟩
abbrev S1x8192x256 : Shape := ⟨3, ![1, 8192, 256]⟩
abbrev S1x8192x32 : Shape := ⟨3, ![1, 8192, 32]⟩
abbrev S1x8192x512 : Shape := ⟨3, ![1, 8192, 512]⟩
abbrev S1x512x1024 : Shape := ⟨3, ![1, 512, 1024]⟩
abbrev S1x8x1024 : Shape := ⟨3, ![1, 8, 1024]⟩
abbrev S1x512x256 : Shape := ⟨3, ![1, 512, 256]⟩
abbrev S1x512x32 : Shape := ⟨3, ![1, 512, 32]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x1792 : Shape := ⟨2, ![512, 1792]⟩
abbrev S512x384 : Shape := ⟨2, ![512, 384]⟩
abbrev S512x256 : Shape := ⟨2, ![512, 256]⟩
abbrev S512x128 : Shape := ⟨2, ![512, 128]⟩
abbrev S512x512 : Shape := ⟨2, ![512, 512]⟩
abbrev S512x32 : Shape := ⟨2, ![512, 32]⟩
abbrev S32x256x256 : Shape := ⟨3, ![32, 256, 256]⟩
abbrev S32x256x32 : Shape := ⟨3, ![32, 256, 32]⟩
abbrev S32x256x512 : Shape := ⟨3, ![32, 256, 512]⟩

abbrev nBuf : Space → Nat
  | .hbm => 98
  | .vmem => 30
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x1696, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x512, .f32⟩
  | .hbm, ⟨11, _⟩ => ⟨S256x512, .f32⟩
  | .hbm, ⟨12, _⟩ => ⟨S1x1024, .f32⟩
  | .hbm, ⟨13, _⟩ => ⟨S_, .f32⟩
  | .hbm, ⟨14, _⟩ => ⟨S5x1024, .f32⟩
  | .hbm, ⟨15, _⟩ => ⟨S8x1024, .f32⟩
  | .hbm, ⟨16, _⟩ => ⟨S1x6144, .f32⟩
  | .hbm, ⟨17, _⟩ => ⟨S8x6144, .f32⟩
  | .hbm, ⟨18, _⟩ => ⟨S8x6x1024, .f32⟩
  | .hbm, ⟨19, _⟩ => ⟨S_, .i32⟩
  | .hbm, ⟨20, _⟩ => ⟨S_, .f32⟩
  | .hbm, ⟨21, _⟩ => ⟨S8x8x1024, .f32⟩
  | .hbm, ⟨22, _⟩ => ⟨S1024x32, .f32⟩
  | .hbm, ⟨23, _⟩ => ⟨S1024x640, .f32⟩
  | .hbm, ⟨24, _⟩ => ⟨S1024x16, .f32⟩
  | .hbm, ⟨25, _⟩ => ⟨S1024x16, .f32⟩
  | .hbm, ⟨26, _⟩ => ⟨S1024x16, .f32⟩
  | .hbm, ⟨27, _⟩ => ⟨S1024x32, .f32⟩
  | .hbm, ⟨28, _⟩ => ⟨S_, .f32⟩
  | .hbm, ⟨29, _⟩ => ⟨S1024x64, .f32⟩
  | .hbm, ⟨30, _⟩ => ⟨S1024x1024, .f32⟩
  | .hbm, ⟨31, _⟩ => ⟨S1024x1792, .f32⟩
  | .hbm, ⟨32, _⟩ => ⟨S1024x1792, .bf16⟩
  | .hbm, ⟨33, _⟩ => ⟨S384x8x96, .f32⟩
  | .hbm, ⟨34, _⟩ => ⟨S_, .i32⟩
  | .hbm, ⟨35, _⟩ => ⟨S_, .f32⟩
  | .hbm, ⟨36, _⟩ => ⟨S384x8x128, .f32⟩
  | .hbm, ⟨37, _⟩ => ⟨S384x1024, .f32⟩
  | .hbm, ⟨38, _⟩ => ⟨S384x1024, .bf16⟩
  | .hbm, ⟨39, _⟩ => ⟨S_, .f32⟩
  | .hbm, ⟨40, _⟩ => ⟨S384x8x64, .f32⟩
  | .hbm, ⟨41, _⟩ => ⟨S384x8x32, .f32⟩
  | .hbm, ⟨42, _⟩ => ⟨S384x8x16, .f32⟩
  | .hbm, ⟨43, _⟩ => ⟨S384x8x16, .f32⟩
  | .hbm, ⟨44, _⟩ => ⟨S384x8x16, .f32⟩
  | .hbm, ⟨45, _⟩ => ⟨S384x8x32, .f32⟩
  | .hbm, ⟨46, _⟩ => ⟨S_, .f32⟩
  | .hbm, ⟨47, _⟩ => ⟨S384x8x32, .f32⟩
  | .hbm, ⟨48, _⟩ => ⟨S384x8x128, .f32⟩
  | .hbm, ⟨49, _⟩ => ⟨S384x1024, .f32⟩
  | .hbm, ⟨50, _⟩ => ⟨S384x1024, .bf16⟩
  | .hbm, ⟨51, _⟩ => ⟨S256x8x64, .f32⟩
  | .hbm, ⟨52, _⟩ => ⟨S_, .i32⟩
  | .hbm, ⟨53, _⟩ => ⟨S_, .f32⟩
  | .hbm, ⟨54, _⟩ => ⟨S256x8x128, .f32⟩
  | .hbm, ⟨55, _⟩ => ⟨S256x1024, .f32⟩
  | .hbm, ⟨56, _⟩ => ⟨S256x1024, .bf16⟩
  | .hbm, ⟨57, _⟩ => ⟨S256x8x64, .f32⟩
  | .hbm, ⟨58, _⟩ => ⟨S_, .i32⟩
  | .hbm, ⟨59, _⟩ => ⟨S_, .f32⟩
  | .hbm, ⟨60, _⟩ => ⟨S256x8x128, .f32⟩
  | .hbm, ⟨61, _⟩ => ⟨S256x1024, .f32⟩
  | .hbm, ⟨62, _⟩ => ⟨S256x1024, .bf16⟩
  | .hbm, ⟨63, _⟩ => ⟨S32x32, .i32⟩
  | .hbm, ⟨64, _⟩ => ⟨S32x32, .i32⟩
  | .hbm, ⟨65, _⟩ => ⟨S_, .i32⟩
  | .hbm, ⟨66, _⟩ => ⟨S32x32, .i32⟩
  | .hbm, ⟨67, _⟩ => ⟨S32x32, .i32⟩
  | .hbm, ⟨68, _⟩ => ⟨S32x32, .i1⟩
  | .hbm, ⟨69, _⟩ => ⟨S32x32, .f32⟩
  | .hbm, ⟨70, _⟩ => ⟨S_, .f32⟩
  | .hbm, ⟨71, _⟩ => ⟨S32x64, .f32⟩
  | .hbm, ⟨72, _⟩ => ⟨S_, .f32⟩
  | .hbm, ⟨73, _⟩ => ⟨S32x32, .f32⟩
  | .hbm, ⟨74, _⟩ => ⟨S32x128, .f32⟩
  | .hbm, ⟨75, _⟩ => ⟨S1x32x1x128, .f32⟩
  | .hbm, ⟨76, _⟩ => ⟨S1x32x8x128, .f32⟩
  | .hbm, ⟨77, _⟩ => ⟨S32x1024, .f32⟩
  | .hbm, ⟨78, _⟩ => ⟨S_, .i32⟩
  | .hbm, ⟨79, _⟩ => ⟨S_, .f32⟩
  | .hbm, ⟨80, _⟩ => ⟨S128x1024, .f32⟩
  | .hbm, ⟨81, _⟩ => ⟨S128x1024, .bf16⟩
  | .hbm, ⟨82, _⟩ => ⟨S1x384, .f32⟩
  | .hbm, ⟨83, _⟩ => ⟨S1x256, .f32⟩
  | .hbm, ⟨84, _⟩ => ⟨S1x1024, .f32⟩
  | .hbm, ⟨85, _⟩ => ⟨S1x8192x1024, .f32⟩
  | .hbm, ⟨86, _⟩ => ⟨S1x8192x1024, .bf16⟩
  | .hbm, ⟨87, _⟩ => ⟨S1x8192x1024, .bf16⟩
  | .hbm, ⟨88, _⟩ => ⟨S1x8192x1024, .bf16⟩
  | .hbm, ⟨89, _⟩ => ⟨S1x8192x256, .f32⟩
  | .hbm, ⟨90, _⟩ => ⟨S1x8192x32, .f32⟩
  | .hbm, ⟨91, _⟩ => ⟨S1x8192x512, .f32⟩
  | .hbm, ⟨92, _⟩ => ⟨S32x256x256, .f32⟩
  | .hbm, ⟨93, _⟩ => ⟨S32x256x32, .f32⟩
  | .hbm, ⟨94, _⟩ => ⟨S32x256x1024, .bf16⟩
  | .hbm, ⟨95, _⟩ => ⟨S32x256x1024, .bf16⟩
  | .hbm, ⟨96, _⟩ => ⟨S32x256x1024, .bf16⟩
  | .hbm, ⟨97, _⟩ => ⟨S32x256x512, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | .local _ .vmem, ⟨7, _⟩ => ⟨S1x512x1024, .f32⟩
  | .local _ .vmem, ⟨8, _⟩ => ⟨S1x512x1024, .f32⟩
  | .local _ .vmem, ⟨9, _⟩ => ⟨S1x8x1024, .f32⟩
  | .local _ .vmem, ⟨10, _⟩ => ⟨S1x1024, .f32⟩
  | .local _ .vmem, ⟨11, _⟩ => ⟨S1024x1792, .bf16⟩
  | .local _ .vmem, ⟨12, _⟩ => ⟨S1x384, .f32⟩
  | .local _ .vmem, ⟨13, _⟩ => ⟨S1x256, .f32⟩
  | .local _ .vmem, ⟨14, _⟩ => ⟨S384x1024, .bf16⟩
  | .local _ .vmem, ⟨15, _⟩ => ⟨S256x1024, .bf16⟩
  | .local _ .vmem, ⟨16, _⟩ => ⟨S128x1024, .bf16⟩
  | .local _ .vmem, ⟨17, _⟩ => ⟨S256x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x256, .f32⟩
  | .local _ .vmem, ⟨25, _⟩ => ⟨S1x512x256, .f32⟩
  | .local _ .vmem, ⟨26, _⟩ => ⟨S1x512x32, .f32⟩
  | .local _ .vmem, ⟨27, _⟩ => ⟨S1x512x32, .f32⟩
  | .local _ .vmem, ⟨28, _⟩ => ⟨S1x512x512, .f32⟩
  | .local _ .vmem, ⟨29, _⟩ => ⟨S1x512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_call2_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_call3_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_call4_v0 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57_0 : Ref sig .tc := ⟨.hbm, 86, rfl⟩
abbrev main_v57_1 : Ref sig .tc := ⟨.hbm, 87, rfl⟩
abbrev main_v57_2 : Ref sig .tc := ⟨.hbm, 88, rfl⟩
abbrev main_v57_3 : Ref sig .tc := ⟨.hbm, 89, rfl⟩
abbrev main_v57_4 : Ref sig .tc := ⟨.hbm, 90, rfl⟩
abbrev main_v57_5 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc1_stg13_1 : Ref sig .tc := ⟨.vmem, 25, rfl⟩
abbrev cc1_stg14_0 : Ref sig .tc := ⟨.vmem, 26, rfl⟩
abbrev cc1_stg14_1 : Ref sig .tc := ⟨.vmem, 27, rfl⟩
abbrev cc1_stg15_0 : Ref sig .tc := ⟨.vmem, 28, rfl⟩
abbrev cc1_stg15_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc1_sem11_0 : DmaSem sig := 20
abbrev cc1_sem11_1 : DmaSem sig := 21
abbrev cc1_sem12_0 : DmaSem sig := 22
abbrev cc1_sem12_1 : DmaSem sig := 23
abbrev cc1_sem13_0 : DmaSem sig := 24
abbrev cc1_sem13_1 : DmaSem sig := 25
abbrev cc1_sem14_0 : DmaSem sig := 26
abbrev cc1_sem14_1 : DmaSem sig := 27
abbrev cc1_sem15_0 : DmaSem sig := 28
abbrev cc1_sem15_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x1792 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S384x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S256x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x512x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x512x32 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x512x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]
-- ==== CtxRefIdeal.lean ====
abbrev S32x256x1024 : Shape := ⟨3, ![32, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x1696 : Shape := ⟨2, ![1024, 1696]⟩
abbrev S384 : Shape := ⟨1, ![384]⟩
abbrev S256 : Shape := ⟨1, ![256]⟩
abbrev S384x768 : Shape := ⟨2, ![384, 768]⟩
abbrev S256x512 : Shape := ⟨2, ![256, 512]⟩
abbrev S_ : Shape := ⟨0, ![]⟩
abbrev S1x6144 : Shape := ⟨2, ![1, 6144]⟩
abbrev S1x1024 : Shape := ⟨2, ![1, 1024]⟩
abbrev S32x256 : Shape := ⟨2, ![32, 256]⟩
abbrev S32x256x1 : Shape := ⟨3, ![32, 256, 1]⟩
abbrev S1x1x1024 : Shape := ⟨3, ![1, 1, 1024]⟩
abbrev S32x256x1696 : Shape := ⟨3, ![32, 256, 1696]⟩
abbrev S32x256x384 : Shape := ⟨3, ![32, 256, 384]⟩
abbrev S32x256x256 : Shape := ⟨3, ![32, 256, 256]⟩
abbrev S32x256x32 : Shape := ⟨3, ![32, 256, 32]⟩
abbrev S1x1x384 : Shape := ⟨3, ![1, 1, 384]⟩
abbrev S32x256x768 : Shape := ⟨3, ![32, 256, 768]⟩
abbrev S32x256x8x96 : Shape := ⟨4, ![32, 256, 8, 96]⟩
abbrev S1x1x256 : Shape := ⟨3, ![1, 1, 256]⟩
abbrev S32x256x512 : Shape := ⟨3, ![32, 256, 512]⟩
abbrev S32x256x8x64 : Shape := ⟨4, ![32, 256, 8, 64]⟩
abbrev S32x256x1x32 : Shape := ⟨4, ![32, 256, 1, 32]⟩
abbrev S32x256x8x32 : Shape := ⟨4, ![32, 256, 8, 32]⟩
abbrev S32x256x8x128 : Shape := ⟨4, ![32, 256, 8, 128]⟩

abbrev nBuf : Space → Nat
  | .hbm => 127
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x1696, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x512, .f32⟩
  | .hbm, ⟨11, _⟩ => ⟨S256x512, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S6144, .f32⟩
  | .hbm, ⟨22, _⟩ => ⟨S6144, .f32⟩
  | .hbm, ⟨23, _⟩ => ⟨S1x6144, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S32x256x1024, .f32⟩
  | .hbm, ⟨31, _⟩ => ⟨S_, .f32⟩
  | .hbm, ⟨32, _⟩ => ⟨S32x256, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S32x256x1, .f32⟩
  | .hbm, ⟨41, _⟩ => ⟨S32x256x1024, .f32⟩
  | .hbm, ⟨42, _⟩ => ⟨S32x256x1024, .f32⟩
  | .hbm, ⟨43, _⟩ => ⟨S1x1x1024, .f32⟩
  | .hbm, ⟨44, _⟩ => ⟨S32x256x1024, .f32⟩
  | .hbm, ⟨45, _⟩ => ⟨S32x256x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S1x1x1024, .f32⟩
  | .hbm, ⟨50, _⟩ => ⟨S32x256x1024, .f32⟩
  | .hbm, ⟨51, _⟩ => ⟨S32x256x1024, .f32⟩
  | .hbm, ⟨52, _⟩ => ⟨S1x1x1024, .f32⟩
  | .hbm, ⟨53, _⟩ => ⟨S32x256x1024, .f32⟩
  | .hbm, ⟨54, _⟩ => ⟨S32x256x1024, .f32⟩
  | .hbm, ⟨55, _⟩ => ⟨S32x256x1696, .f32⟩
  | .hbm, ⟨56, _⟩ => ⟨S32x256x384, .f32⟩
  | .hbm, ⟨57, _⟩ => ⟨S32x256x256, .f32⟩
  | .hbm, ⟨58, _⟩ => ⟨S32x256x32, .f32⟩
  | .hbm, ⟨59, _⟩ => ⟨S32x256x1024, .f32⟩
  | .hbm, ⟨60, _⟩ => ⟨S32x256x384, .f32⟩
  | .hbm, ⟨61, _⟩ => ⟨S_, .f32⟩
  | .hbm, ⟨62, _⟩ => ⟨S32x256, .f32⟩
  | .hbm, ⟨63, _⟩ => ⟨S32x256x1, .f32⟩
  | .hbm, ⟨64, _⟩ => ⟨S_, .f32⟩
  | .hbm, ⟨65, _⟩ => ⟨S32x256x1, .f32⟩
  | .hbm, ⟨66, _⟩ => ⟨S32x256x1, .f32⟩
  | .hbm, ⟨67, _⟩ => ⟨S_, .f32⟩
  | .hbm, ⟨68, _⟩ => ⟨S32x256x1, .f32⟩
  | .hbm, ⟨69, _⟩ => ⟨S32x256x1, .f32⟩
  | .hbm, ⟨70, _⟩ => ⟨S32x256x1, .f32⟩
  | .hbm, ⟨71, _⟩ => ⟨S32x256x384, .f32⟩
  | .hbm, ⟨72, _⟩ => ⟨S32x256x384, .f32⟩
  | .hbm, ⟨73, _⟩ => ⟨S1x1x384, .f32⟩
  | .hbm, ⟨74, _⟩ => ⟨S32x256x384, .f32⟩
  | .hbm, ⟨75, _⟩ => ⟨S32x256x384, .f32⟩
  | .hbm, ⟨76, _⟩ => ⟨S32x256x768, .f32⟩
  | .hbm, ⟨77, _⟩ => ⟨S32x256x8x96, .f32⟩
  | .hbm, ⟨78, _⟩ => ⟨S32x256x256, .f32⟩
  | .hbm, ⟨79, _⟩ => ⟨S_, .f32⟩
  | .hbm, ⟨80, _⟩ => ⟨S32x256, .f32⟩
  | .hbm, ⟨81, _⟩ => ⟨S32x256x1, .f32⟩
  | .hbm, ⟨82, _⟩ => ⟨S_, .f32⟩
  | .hbm, ⟨83, _⟩ => ⟨S32x256x1, .f32⟩
  | .hbm, ⟨84, _⟩ => ⟨S32x256x1, .f32⟩
  | .hbm, ⟨85, _⟩ => ⟨S_, .f32⟩
  | .hbm, ⟨86, _⟩ => ⟨S32x256x1, .f32⟩
  | .hbm, ⟨87, _⟩ => ⟨S32x256x1, .f32⟩
  | .hbm, ⟨88, _⟩ => ⟨S32x256x1, .f32⟩
  | .hbm, ⟨89, _⟩ => ⟨S32x256x256, .f32⟩
  | .hbm, ⟨90, _⟩ => ⟨S32x256x256, .f32⟩
  | .hbm, ⟨91, _⟩ => ⟨S1x1x256, .f32⟩
  | .hbm, ⟨92, _⟩ => ⟨S32x256x256, .f32⟩
  | .hbm, ⟨93, _⟩ => ⟨S32x256x256, .f32⟩
  | .hbm, ⟨94, _⟩ => ⟨S32x256x512, .f32⟩
  | .hbm, ⟨95, _⟩ => ⟨S32x256x8x64, .f32⟩
  | .hbm, ⟨96, _⟩ => ⟨S32x256x512, .f32⟩
  | .hbm, ⟨97, _⟩ => ⟨S32x256x8x64, .f32⟩
  | .hbm, ⟨98, _⟩ => ⟨S32x256x1x32, .f32⟩
  | .hbm, ⟨99, _⟩ => ⟨S32x256x8x32, .f32⟩
  | .hbm, ⟨100, _⟩ => ⟨S32x256x8x96, .f32⟩
  | .hbm, ⟨101, _⟩ => ⟨S32x256x512, .f32⟩
  | .hbm, ⟨102, _⟩ => ⟨S32x256x512, .f32⟩
  | .hbm, ⟨103, _⟩ => ⟨S_, .i32⟩
  | .hbm, ⟨104, _⟩ => ⟨S_, .f32⟩
  | .hbm, ⟨105, _⟩ => ⟨S32x256x8x128, .f32⟩
  | .hbm, ⟨106, _⟩ => ⟨S32x256x1024, .f32⟩
  | .hbm, ⟨107, _⟩ => ⟨S32x256x1024, .bf16⟩
  | .hbm, ⟨108, _⟩ => ⟨S_, .i32⟩
  | .hbm, ⟨109, _⟩ => ⟨S_, .f32⟩
  | .hbm, ⟨110, _⟩ => ⟨S32x256x8x128, .f32⟩
  | .hbm, ⟨111, _⟩ => ⟨S32x256x1024, .f32⟩
  | .hbm, ⟨112, _⟩ => ⟨S32x256x1024, .bf16⟩
  | .hbm, ⟨113, _⟩ => ⟨S_, .i32⟩
  | .hbm, ⟨114, _⟩ => ⟨S_, .f32⟩
  | .hbm, ⟨115, _⟩ => ⟨S32x256x8x128, .f32⟩
  | .hbm, ⟨116, _⟩ => ⟨S32x256x1024, .f32⟩
  | .hbm, ⟨117, _⟩ => ⟨S32x256x1024, .bf16⟩
  | .hbm, ⟨118, _⟩ => ⟨S32x256x512, .f32⟩
  | .hbm, ⟨119, _⟩ => ⟨S32x256x512, .f32⟩
  | .hbm, ⟨120, _⟩ => ⟨S_, .f32⟩
  | .hbm, ⟨121, _⟩ => ⟨S32x256x512, .f32⟩
  | .hbm, ⟨122, _⟩ => ⟨S32x256x512, .f32⟩
  | .hbm, ⟨123, _⟩ => ⟨S_, .f32⟩
  | .hbm, ⟨124, _⟩ => ⟨S32x256x512, .f32⟩
  | .hbm, ⟨125, _⟩ => ⟨S32x256x512, .f32⟩
  | .hbm, ⟨126, _⟩ => ⟨S32x256x512, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c : Ref sig .tc := ⟨.hbm, 103, rfl⟩
abbrev main_call1_v0 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_9 : Ref sig .tc := ⟨.hbm, 108, rfl⟩
abbrev main_call2_v0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_10 : Ref sig .tc := ⟨.hbm, 113, rfl⟩
abbrev main_call3_v0 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_11 : Ref sig .tc := ⟨.hbm, 120, rfl⟩
abbrev main_v84 : Ref sig .tc := ⟨.hbm, 121, rfl⟩
abbrev main_v85 : Ref sig .tc := ⟨.hbm, 122, rfl⟩
abbrev main_cst_12 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩

abbrev nD : Nat := 1
abbrev τ : Topo := Topo.v7x

variable {F : FTy → Type} [FloatOps F]
-- ==== Ctx1.lean ====
abbrev S32x256x1024 : Shape := ⟨3, ![32, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x1792 : Shape := ⟨2, ![1024, 1792]⟩
abbrev S64 : Shape := ⟨1, ![64]⟩
abbrev S512 : Shape := ⟨1, ![512]⟩
abbrev S4x128x128 : Shape := ⟨3, ![4, 128, 128]⟩
abbrev S4x128 : Shape := ⟨2, ![4, 128]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩
abbrev S8x6x1024 : Shape := ⟨3, ![8, 6, 1024]⟩
abbrev S8x8x1024 : Shape := ⟨3, ![8, 8, 1024]⟩
abbrev S1024x512 : Shape := ⟨2, ![1024, 512]⟩
abbrev S1024x128 : Shape := ⟨2, ![1024, 128]⟩
abbrev S1024x1024 : Shape := ⟨2, ![1024, 1024]⟩
abbrev S1024x8x64 : Shape := ⟨3, ![1024, 8, 64]⟩
abbrev S1024x8x128 : Shape := ⟨3, ![1024, 8, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x2688 : Shape := ⟨2, ![1024, 2688]⟩
abbrev S1024x8x32 : Shape := ⟨3, ![1024, 8, 32]⟩
abbrev S1024x2x32 : Shape := ⟨3, ![1024, 2, 32]⟩
abbrev S1024x1280 : Shape := ⟨2, ![1024, 1280]⟩
abbrev S128x4 : Shape := ⟨2, ![128, 4]⟩
abbrev S128x4x128 : Shape := ⟨3, ![128, 4, 128]⟩
abbrev S128x512 : Shape := ⟨2, ![128, 512]⟩
abbrev S128 : Shape := ⟨1, ![128]⟩
abbrev S1x128 : Shape := ⟨2, ![1, 128]⟩
abbrev S32 : Shape := ⟨1, ![32]⟩
abbrev S1x512 : Shape := ⟨2, ![1, 512]⟩
abbrev S1x8192x1024 : Shape := ⟨3, ![1, 8192, 1024]⟩
abbrev S1x8192x256 : Shape := ⟨3, ![1, 8192, 256]⟩
abbrev S1x8192x128 : Shape := ⟨3, ![1, 8192, 128]⟩
abbrev S1x8192x512 : Shape := ⟨3, ![1, 8192, 512]⟩
abbrev S1x512x1024 : Shape := ⟨3, ![1, 512, 1024]⟩
abbrev S1x8x1024 : Shape := ⟨3, ![1, 8, 1024]⟩
abbrev S1x512x256 : Shape := ⟨3, ![1, 512, 256]⟩
abbrev S1x512x128 : Shape := ⟨3, ![1, 512, 128]⟩
abbrev S1x512x512 : Shape := ⟨3, ![1, 512, 512]⟩
abbrev S512x1024 : Shape := ⟨2, ![512, 1024]⟩
abbrev S512x1 : Shape := ⟨2, ![512, 1]⟩
abbrev S512x2688 : Shape := ⟨2, ![512, 2688]⟩
abbrev S512x128 : Shape := ⟨2, ![512, 128]⟩
abbrev S512x256 : Shape := ⟨2, ![512, 256]⟩
abbrev S512x512 : Shape := ⟨2, ![512, 512]⟩
abbrev S1x128x128 : Shape := ⟨3, ![1, 128, 128]⟩
abbrev S128x128 : Shape := ⟨2, ![128, 128]⟩
abbrev S32x256x2x128 : Shape := ⟨4, ![32, 256, 2, 128]⟩
abbrev S32x256x2x64 : Shape := ⟨4, ![32, 256, 2, 64]⟩

abbrev nBuf : Space → Nat
  | .hbm => 107
  | .vmem => 30
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x1792, .f32⟩
  | .hbm, ⟨7, _⟩ => ⟨S64, .f32⟩
  | .hbm, ⟨8, _⟩ => ⟨S64, .f32⟩
  | .hbm, ⟨9, _⟩ => ⟨S512, .f32⟩
  | .hbm, ⟨10, _⟩ => ⟨S512, .f32⟩
  | .hbm, ⟨11, _⟩ => ⟨S4x128x128, .f32⟩
  | .hbm, ⟨12, _⟩ => ⟨S4x128, .f32⟩
  | .hbm, ⟨13, _⟩ => ⟨S1x1024, .f32⟩
  | .hbm, ⟨14, _⟩ => ⟨S_, .f32⟩
  | .hbm, ⟨15, _⟩ => ⟨S5x1024, .f32⟩
  | .hbm, ⟨16, _⟩ => ⟨S8x1024, .f32⟩
  | .hbm, ⟨17, _⟩ => ⟨S1x6144, .f32⟩
  | .hbm, ⟨18, _⟩ => ⟨S8x6144, .f32⟩
  | .hbm, ⟨19, _⟩ => ⟨S8x6x1024, .f32⟩
  | .hbm, ⟨20, _⟩ => ⟨S_, .i32⟩
  | .hbm, ⟨21, _⟩ => ⟨S_, .f32⟩
  | .hbm, ⟨22, _⟩ => ⟨S8x8x1024, .f32⟩
  | .hbm, ⟨23, _⟩ => ⟨S1024x512, .f32⟩
  | .hbm, ⟨24, _⟩ => ⟨S1024x128, .f32⟩
  | .hbm, ⟨25, _⟩ => ⟨S1024x128, .f32⟩
  | .hbm, ⟨26, _⟩ => ⟨S1024x1024, .f32⟩
  | .hbm, ⟨27, _⟩ => ⟨S1024x8x64, .f32⟩
  | .hbm, ⟨28, _⟩ => ⟨S_, .i32⟩
  | .hbm, ⟨29, _⟩ => ⟨S_, .f32⟩
  | .hbm, ⟨30, _⟩ => ⟨S1024x8x128, .f32⟩
  | .hbm, ⟨31, _⟩ => ⟨S1024x1024, .f32⟩
  | .hbm, ⟨32, _⟩ => ⟨S1024x2x64, .f32⟩
  | .hbm, ⟨33, _⟩ => ⟨S_, .i32⟩
  | .hbm, ⟨34, _⟩ => ⟨S_, .f32⟩
  | .hbm, ⟨35, _⟩ => ⟨S1024x2x128, .f32⟩
  | .hbm, ⟨36, _⟩ => ⟨S1024x256, .f32⟩
  | .hbm, ⟨37, _⟩ => ⟨S1024x2x64, .f32⟩
  | .hbm, ⟨38, _⟩ => ⟨S_, .i32⟩
  | .hbm, ⟨39, _⟩ => ⟨S_, .f32⟩
  | .hbm, ⟨40, _⟩ => ⟨S1024x2x128, .f32⟩
  | .hbm, ⟨41, _⟩ => ⟨S1024x256, .f32⟩
  | .hbm, ⟨42, _⟩ => ⟨S1024x2688, .f32⟩
  | .hbm, ⟨43, _⟩ => ⟨S1024x2688, .bf16⟩
  | .hbm, ⟨44, _⟩ => ⟨S1024x8x64, .f32⟩
  | .hbm, ⟨45, _⟩ => ⟨S1024x8x32, .f32⟩
  | .hbm, ⟨46, _⟩ => ⟨S1024x8x32, .f32⟩
  | .hbm, ⟨47, _⟩ => ⟨S1024x8x32, .f32⟩
  | .hbm, ⟨48, _⟩ => ⟨S1024x8x64, .f32⟩
  | .hbm, ⟨49, _⟩ => ⟨S1024x512, .f32⟩
  | .hbm, ⟨50, _⟩ => ⟨S1024x2x64, .f32⟩
  | .hbm, ⟨51, _⟩ => ⟨S1024x2x32, .f32⟩
  | .hbm, ⟨52, _⟩ => ⟨S1024x2x32, .f32⟩
  | .hbm, ⟨53, _⟩ => ⟨S1024x2x32, .f32⟩
  | .hbm, ⟨54, _⟩ => ⟨S1024x2x64, .f32⟩
  | .hbm, ⟨55, _⟩ => ⟨S1024x128, .f32⟩
  | .hbm, ⟨56, _⟩ => ⟨S1024x8x64, .f32⟩
  | .hbm, ⟨57, _⟩ => ⟨S_, .i32⟩
  | .hbm, ⟨58, _⟩ => ⟨S_, .f32⟩
  | .hbm, ⟨59, _⟩ => ⟨S1024x8x128, .f32⟩
  | .hbm, ⟨60, _⟩ => ⟨S1024x1024, .f32⟩
  | .hbm, ⟨61, _⟩ => ⟨S1024x2x64, .f32⟩
  | .hbm, ⟨62, _⟩ => ⟨S_, .i32⟩
  | .hbm, ⟨63, _⟩ => ⟨S_, .f32⟩
  | .hbm, ⟨64, _⟩ => ⟨S1024x2x128, .f32⟩
  | .hbm, ⟨65, _⟩ => ⟨S1024x256, .f32⟩
  | .hbm, ⟨66, _⟩ => ⟨S1024x1280, .f32⟩
  | .hbm, ⟨67, _⟩ => ⟨S1024x1280, .bf16⟩
  | .hbm, ⟨68, _⟩ => ⟨S128x4, .f32⟩
  | .hbm, ⟨69, _⟩ => ⟨S128x4x128, .f32⟩
  | .hbm, ⟨70, _⟩ => ⟨S128x512, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S32, .f32⟩
  | .hbm, ⟨76, _⟩ => ⟨S32, .f32⟩
  | .hbm, ⟨77, _⟩ => ⟨S64, .f32⟩
  | .hbm, ⟨78, _⟩ => ⟨S_, .i32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S_, .i32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S32, .f32⟩
  | .hbm, ⟨87, _⟩ => ⟨S32, .f32⟩
  | .hbm, ⟨88, _⟩ => ⟨S64, .f32⟩
  | .hbm, ⟨89, _⟩ => ⟨S_, .i32⟩
  | .hbm, ⟨90, _⟩ => ⟨S_, .f32⟩
  | .hbm, ⟨91, _⟩ => ⟨S128, .f32⟩
  | .hbm, ⟨92, _⟩ => ⟨S1x128, .f32⟩
  | .hbm, ⟨93, _⟩ => ⟨S1x512, .f32⟩
  | .hbm, ⟨94, _⟩ => ⟨S1x512, .f32⟩
  | .hbm, ⟨95, _⟩ => ⟨S4x128x128, .bf16⟩
  | .hbm, ⟨96, _⟩ => ⟨S1x1024, .f32⟩
  | .hbm, ⟨97, _⟩ => ⟨S1x8192x1024, .f32⟩
  | .hbm, ⟨98, _⟩ => ⟨S1x8192x1024, .bf16⟩
  | .hbm, ⟨99, _⟩ => ⟨S1x8192x256, .bf16⟩
  | .hbm, ⟨100, _⟩ => ⟨S1x8192x256, .f32⟩
  | .hbm, ⟨101, _⟩ => ⟨S1x8192x256, .bf16⟩
  | .hbm, ⟨102, _⟩ => ⟨S1x8192x128, .f32⟩
  | .hbm, ⟨103, _⟩ => ⟨S1x8192x512, .bf16⟩
  | .hbm, ⟨104, _⟩ => ⟨S32x256x2x128, .f32⟩
  | .hbm, ⟨105, _⟩ => ⟨S32x256x2x64, .f32⟩
  | .hbm, ⟨106, _⟩ => ⟨S32x256x2x64, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | .local _ .vmem, ⟨7, _⟩ => ⟨S1x512x1024, .f32⟩
  | .local _ .vmem, ⟨8, _⟩ => ⟨S1x512x1024, .f32⟩
  | .local _ .vmem, ⟨9, _⟩ => ⟨S1x8x1024, .f32⟩
  | .local _ .vmem, ⟨10, _⟩ => ⟨S1x1024, .f32⟩
  | .local _ .vmem, ⟨11, _⟩ => ⟨S1024x2688, .bf16⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S4x128x128, .bf16⟩
  | .local _ .vmem, ⟨17, _⟩ => ⟨S128x512, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .f32⟩
  | .local _ .vmem, ⟨23, _⟩ => ⟨S1x512x256, .f32⟩
  | .local _ .vmem, ⟨24, _⟩ => ⟨S1x512x256, .bf16⟩
  | .local _ .vmem, ⟨25, _⟩ => ⟨S1x512x256, .bf16⟩
  | .local _ .vmem, ⟨26, _⟩ => ⟨S1x512x128, .f32⟩
  | .local _ .vmem, ⟨27, _⟩ => ⟨S1x512x128, .f32⟩
  | .local _ .vmem, ⟨28, _⟩ => ⟨S1x512x512, .bf16⟩
  | .local _ .vmem, ⟨29, _⟩ => ⟨S1x512x512, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call0_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_call1_v0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_call2_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_call3_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_3 : Ref sig .tc := ⟨.hbm, 57, rfl⟩
abbrev main_call4_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_call5_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_call6_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_6 : Ref sig .tc := ⟨.hbm, 78, rfl⟩
abbrev main_call7_v0 : Ref sig .tc := ⟨.hbm, 79, rfl⟩
abbrev main_v50 : Ref sig .tc := ⟨.hbm, 80, rfl⟩
abbrev main_v51 : Ref sig .tc := ⟨.hbm, 81, rfl⟩
abbrev main_c_7 : Ref sig .tc := ⟨.hbm, 82, rfl⟩
abbrev main_call8_v0 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_8 : Ref sig .tc := ⟨.hbm, 89, rfl⟩
abbrev main_call9_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64_0 : Ref sig .tc := ⟨.hbm, 98, rfl⟩
abbrev main_v64_1 : Ref sig .tc := ⟨.hbm, 99, rfl⟩
abbrev main_v64_2 : Ref sig .tc := ⟨.hbm, 100, rfl⟩
abbrev main_v64_3 : Ref sig .tc := ⟨.hbm, 101, rfl⟩
abbrev main_v64_4 : Ref sig .tc := ⟨.hbm, 102, rfl⟩
abbrev main_v64_5 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg12_1 : Ref sig .tc := ⟨.vmem, 23, rfl⟩
abbrev cc1_stg13_0 : Ref sig .tc := ⟨.vmem, 24, rfl⟩
abbrev cc1_stg13_1 : Ref sig .tc := ⟨.vmem, 25, rfl⟩
abbrev cc1_stg14_0 : Ref sig .tc := ⟨.vmem, 26, rfl⟩
abbrev cc1_stg14_1 : Ref sig .tc := ⟨.vmem, 27, rfl⟩
abbrev cc1_stg15_0 : Ref sig .tc := ⟨.vmem, 28, rfl⟩
abbrev cc1_stg15_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc1_sem11_0 : DmaSem sig := 20
abbrev cc1_sem11_1 : DmaSem sig := 21
abbrev cc1_sem12_0 : DmaSem sig := 22
abbrev cc1_sem12_1 : DmaSem sig := 23
abbrev cc1_sem13_0 : DmaSem sig := 24
abbrev cc1_sem13_1 : DmaSem sig := 25
abbrev cc1_sem14_0 : DmaSem sig := 26
abbrev cc1_sem14_1 : DmaSem sig := 27
abbrev cc1_sem15_0 : DmaSem sig := 28
abbrev cc1_sem15_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024x2688 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S4x128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S128x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x512x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x512x256 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x512x512 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]
-- ==== CtxRef1Ideal.lean ====
abbrev S32x256x1024 : Shape := ⟨3, ![32, 256, 1024]⟩
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1024x1792 : Shape := ⟨2, ![1024, 1792]⟩
abbrev S64 : Shape := ⟨1, ![64]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S1x6144 : Shape := ⟨2, ![1, 6144]⟩
abbrev S1x1024 : Shape := ⟨2, ![1, 1024]⟩
abbrev S32x256 : Shape := ⟨2, ![32, 256]⟩
abbrev S32x256x1 : Shape := ⟨3, ![32, 256, 1]⟩
abbrev S1x1x1024 : Shape := ⟨3, ![1, 1, 1024]⟩
abbrev S32x256x1792 : Shape := ⟨3, ![32, 256, 1792]⟩
abbrev S32x256x512 : Shape := ⟨3, ![32, 256, 512]⟩
abbrev S32x256x128 : Shape := ⟨3, ![32, 256, 128]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S1x1x1x64 : Shape := ⟨4, ![1, 1, 1, 64]⟩

abbrev nBuf : Space → Nat
  | .hbm => 80
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x1024, .f32⟩
  | .hbm, ⟨2, _⟩ => ⟨S1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x1792, .f32⟩
  | .hbm, ⟨7, _⟩ => ⟨S64, .f32⟩
  | .hbm, ⟨8, _⟩ => ⟨S64, .f32⟩
  | .hbm, ⟨9, _⟩ => ⟨S512, .f32⟩
  | .hbm, ⟨10, _⟩ => ⟨S512, .f32⟩
  | .hbm, ⟨11, _⟩ => ⟨S4x128x128, .f32⟩
  | .hbm, ⟨12, _⟩ => ⟨S4x128, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S6144, .f32⟩
  | .hbm, ⟨23, _⟩ => ⟨S6144, .f32⟩
  | .hbm, ⟨24, _⟩ => ⟨S1x6144, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S32x256x1024, .f32⟩
  | .hbm, ⟨32, _⟩ => ⟨S_, .f32⟩
  | .hbm, ⟨33, _⟩ => ⟨S32x256, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S_, .f32⟩
  | .hbm, ⟨39, _⟩ => ⟨S32x256x1, .f32⟩
  | .hbm, ⟨40, _⟩ => ⟨S32x256x1, .f32⟩
  | .hbm, ⟨41, _⟩ => ⟨S32x256x1, .f32⟩
  | .hbm, ⟨42, _⟩ => ⟨S32x256x1024, .f32⟩
  | .hbm, ⟨43, _⟩ => ⟨S32x256x1024, .f32⟩
  | .hbm, ⟨44, _⟩ => ⟨S1x1x1024, .f32⟩
  | .hbm, ⟨45, _⟩ => ⟨S32x256x1024, .f32⟩
  | .hbm, ⟨46, _⟩ => ⟨S32x256x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1x1024, .f32⟩
  | .hbm, ⟨51, _⟩ => ⟨S32x256x1024, .f32⟩
  | .hbm, ⟨52, _⟩ => ⟨S32x256x1024, .f32⟩
  | .hbm, ⟨53, _⟩ => ⟨S1x1x1024, .f32⟩
  | .hbm, ⟨54, _⟩ => ⟨S32x256x1024, .f32⟩
  | .hbm, ⟨55, _⟩ => ⟨S32x256x1024, .f32⟩
  | .hbm, ⟨56, _⟩ => ⟨S32x256x1792, .f32⟩
  | .hbm, ⟨57, _⟩ => ⟨S32x256x512, .f32⟩
  | .hbm, ⟨58, _⟩ => ⟨S32x256x128, .f32⟩
  | .hbm, ⟨59, _⟩ => ⟨S32x256x128, .f32⟩
  | .hbm, ⟨60, _⟩ => ⟨S32x256x512, .f32⟩
  | .hbm, ⟨61, _⟩ => ⟨S32x256x512, .f32⟩
  | .hbm, ⟨62, _⟩ => ⟨S32x256x2x64, .f32⟩
  | .hbm, ⟨63, _⟩ => ⟨S32x256x2x64, .f32⟩
  | .hbm, ⟨64, _⟩ => ⟨S_, .f32⟩
  | .hbm, ⟨65, _⟩ => ⟨S32x256x2, .f32⟩
  | .hbm, ⟨66, _⟩ => ⟨S32x256x2x1, .f32⟩
  | .hbm, ⟨67, _⟩ => ⟨S_, .f32⟩
  | .hbm, ⟨68, _⟩ => ⟨S32x256x2x1, .f32⟩
  | .hbm, ⟨69, _⟩ => ⟨S32x256x2x1, .f32⟩
  | .hbm, ⟨70, _⟩ => ⟨S_, .f32⟩
  | .hbm, ⟨71, _⟩ => ⟨S32x256x2x1, .f32⟩
  | .hbm, ⟨72, _⟩ => ⟨S32x256x2x1, .f32⟩
  | .hbm, ⟨73, _⟩ => ⟨S32x256x2x1, .f32⟩
  | .hbm, ⟨74, _⟩ => ⟨S32x256x2x64, .f32⟩
  | .hbm, ⟨75, _⟩ => ⟨S32x256x2x64, .f32⟩
  | .hbm, ⟨76, _⟩ => ⟨S1x1x1x64, .f32⟩
  | .hbm, ⟨77, _⟩ => ⟨S32x256x2x64, .f32⟩
  | .hbm, ⟨78, _⟩ => ⟨S32x256x2x64, .f32⟩
  | .hbm, ⟨79, _⟩ => ⟨S32x256x2x64, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== Proof.CtxMath.lean ====
/- The mathematics of layer 0's projections of one row: the modulations, the modulated row, its projections. -/
module

public import Idealize.ShloMosaic.Lib.Pipeline.ValueKit

@[expose] public section

noncomputable section

namespace Cert.CtxMath

open Idealize.ShloMosaic

/-- An entry over the root of the row's mean square, times its weight; `n` is the row's length. -/
def normed {N : ℕ} (n : EReal) (v g : Fin N → EReal) (j : Fin N) : EReal :=
  v j * Ideal.rsqrt (Ideal.div (∑ k : Fin N, v k * v k) n + Ideal.ofBits .f32 0x358637BD#32) * g j

/-- The row the projections read: normed, scaled and shifted. -/
def modulated (x g sh sc : Fin 1024 → EReal) (k : Fin 1024) : EReal :=
  normed (Ideal.ofBits .f32 0x44800000#32) x g k * (1 + sc k) + sh k

/-- A row times a column. -/
def dot {N : ℕ} (v w : Fin N → EReal) : EReal := ∑ k : Fin N, v k * w k

/-- One modulation, from the condition, the weights' column and its bias. -/
def modulation (c w : Fin 1024 → EReal) (b : EReal) : EReal := (∑ k : Fin 1024, c k * Ideal.logistic (c k) * w k) + b

end Cert.CtxMath

end
-- ==== Proof.Ctx1Host.lean ====
/- The arrays layer 1's projections' call reads, prepared by the host, read at an index. -/
module

public import proofs.«01_k».proof.Proof.Gen.Ctx1Ideal.Frame
public import proofs.«01_k».proof.Proof.CtxMath

@[expose] public section

set_option maxRecDepth 16384

noncomputable section

namespace Cert.Ctx1Ideal.Value

open Cert.Ctx1Ideal Cert.Ctx1Ideal.Gen Cert.CtxMath Idealize.ShloMosaic Idealize.ShloMosaic.TcCoe Idealize.SL.Sem

/-- Two heads' columns, a head in 128 lanes. -/
def twoHeads (s : FVec Ideal S1024x128 .f32) : FVec Ideal S1024x256 .f32 :=
  shapeCast S1024x256 (pad S1024x2x128 ![0, 0, 0] ![0, 0, 64] ![0, 0, 0] (shapeCast S1024x2x64 s shapeCasts_S1024x128_S1024x2x64)
    (sitofp .f32 (constantI S_ 32 0#32)) pads_S1024x2x64_S1024x2x128_000_000_0640 h_S_) shapeCasts_S1024x2x128_S1024x256

/-- The keys' columns. -/
def keyCols (w : FVec Ideal S1024x1792 .f32) : FVec Ideal S1024x128 .f32 := extractStridedSlice S1024x128 ![0, 512] w slices_S1024x1792_S1024x128_0_512
/-- The values' columns. -/
def valCols (w : FVec Ideal S1024x1792 .f32) : FVec Ideal S1024x128 .f32 := extractStridedSlice S1024x128 ![0, 640] w slices_S1024x1792_S1024x128_0_640

/-- The first weights: the queries' columns, the keys' in lanes, the values' in lanes, the values' as they are, the rest. -/
def winOf (q : FVec Ideal S1024x1024 .f32) (k v : FVec Ideal S1024x256 .f32) (u : FVec Ideal S1024x128 .f32) (r : FVec Ideal S1024x1024 .f32) : FVec Ideal S1024x2688 .bf16 :=
  truncf .bf16 (concatenate S1024x2688 1 [⟨S1024x1024, q⟩, ⟨S1024x256, k⟩, ⟨S1024x256, v⟩, ⟨S1024x128, u⟩, ⟨S1024x1024, r⟩]
    concatenates_S1024x1024_S1024x256_S1024x256_S1024x128_S1024x1024_S1024x2688_d1) bitsLt_bf16_f32

/-- The keys' gains, in 128 lanes. -/
def gainOf (g : FVec Ideal S64 .f32) : FVec Ideal S1x128 .f32 :=
  shapeCast S1x128 (pad S128 ![0] ![64] ![0] g (sitofp .f32 (constantI S_ 32 0#32)) pads_S64_S128_0640 h_S_) shapeCasts_S128_S1x128

/-- The eight conditions: the context's, the samples', zeros. -/
def condOf (cc : FVec Ideal S1024 .f32) (cs : FVec Ideal S2x1024 .f32) : FVec Ideal S8x1024 .f32 :=
  concatenate S8x1024 0 [⟨S1x1024, broadcastInDim S1x1024 ![1] bcast_S1024_S1x1024_1 cc⟩, ⟨S2x1024, cs⟩,
    ⟨S5x1024, broadcastInDim S5x1024 ![] bcast_S_S5x1024 (constant S_ .f32 0x00000000#32)⟩] concatenates_S1x1024_S2x1024_S5x1024_S8x1024_d0

/-- The modulations' array, six of a condition and two spare. -/
def modsOf (v : FVec Ideal S8x6144 .f32) : FVec Ideal S8x8x1024 .f32 :=
  pad S8x8x1024 ![0, 0, 0] ![0, 2, 0] ![0, 0, 0] (shapeCast S8x6x1024 v shapeCasts_S8x6144_S8x6x1024) (sitofp .f32 (constantI S_ 32 0#32)) pads_S8x6x1024_S8x8x1024_000_020_000 h_S_

/-! ## The host lines, over any contents before them -/

theorem cols_line (σ : Valuation τ sig (Elt Ideal)) : StableHlo.after hostOps1_2 σ (Proc.devRef .tc main_v8) = keyCols (σ (Proc.devRef .tc main_arg6)) := by
  rfl
theorem vals_line (σ : Valuation τ sig (Elt Ideal)) : StableHlo.after hostOps1_2 σ (Proc.devRef .tc main_v9) = valCols (σ (Proc.devRef .tc main_arg6)) := by
  rfl
theorem keys_line (σ : Valuation τ sig (Elt Ideal)) :
    StableHlo.after hostOps1_6 (StableHlo.after hostOps1_5 (StableHlo.after hostOps1_4 σ)) (Proc.devRef .tc main_v16) = twoHeads (σ (Proc.devRef .tc main_v8)) := by
  rfl
theorem win_line (σ : Valuation τ sig (Elt Ideal)) : StableHlo.after hostOps1_8 σ (Proc.devRef .tc main_v21)
    = winOf (σ (Proc.devRef .tc main_v13)) (σ (Proc.devRef .tc main_v16)) (shapeCast S1024x256 (σ (Proc.devRef .tc main_v18)) shapeCasts_S1024x2x128_S1024x256)
        (σ (Proc.devRef .tc main_v9)) (σ (Proc.devRef .tc main_v10)) := by
  rfl
theorem gain_line (σ : Valuation τ sig (Elt Ideal)) :
    StableHlo.after hostOps1_18 (StableHlo.after hostOps1_17 (StableHlo.after hostOps1_16 σ)) (Proc.devRef .tc main_v53) = gainOf (σ (Proc.devRef .tc main_arg8)) := by
  rfl
theorem n1_line (σ : Valuation τ sig (Elt Ideal)) :
    StableHlo.after hostOps1_20 σ (Proc.devRef .tc main_v62) = shapeCast S1x1024 (σ (Proc.devRef .tc main_arg5) : FVec Ideal S1024 .f32) shapeCasts_S1024_S1x1024 := by
  rfl
theorem x_line (σ : Valuation τ sig (Elt Ideal)) :
    StableHlo.after hostOps1_20 σ (Proc.devRef .tc main_v63) = shapeCast S1x8192x1024 (σ (Proc.devRef .tc main_arg0) : FVec Ideal S32x256x1024 .f32) shapeCasts_S32x256x1024_S1x8192x1024 := by
  rfl
theorem mods_line (σ : Valuation τ sig (Elt Ideal)) :
    StableHlo.after hostOps1_1 (StableHlo.after hostOps1 σ) (Proc.devRef .tc main_v6) = modsOf (σ (Proc.devRef .tc main_v4)) := by
  rfl
theorem cond_line (σ : Valuation τ sig (Elt Ideal)) :
    StableHlo.after hostOps0 σ (Proc.devRef .tc main_v2) = condOf (σ (Proc.devRef .tc main_arg2)) (σ (Proc.devRef .tc main_arg1)) := by
  rfl
theorem bias_line (σ : Valuation τ sig (Elt Ideal)) :
    StableHlo.after hostOps0 σ (Proc.devRef .tc main_v3) = shapeCast S1x6144 (σ (Proc.devRef .tc main_arg4) : FVec Ideal S6144 .f32) shapeCasts_S6144_S1x6144 := by
  rfl

end Cert.Ctx1Ideal.Value

end
-- ==== Proof.Ctx1HostAt.lean ====
/- The arrays layer 1's projections' call reads, prepared by the host, at an index. -/
module

public import proofs.«01_k».proof.Proof.Ctx1Host
public import proofs.«01_k».proof.Proof.CtxMath

@[expose] public section

set_option maxRecDepth 16384

noncomputable section

namespace Cert.Ctx1Ideal.Value

open Cert.Ctx1Ideal Cert.Ctx1Ideal.Gen Cert.CtxMath Idealize.ShloMosaic Idealize.ShloMosaic.TcCoe Idealize.SL.Sem

/-- The integer zero, as a float, is zero. -/
theorem sitofp_zero : (FloatOps.sitofp .f32 0#32 : Ideal .f32) = 0 := by
  show ((_ : ℝ) : EReal) = 0
  norm_num

theorem twoHeads_at (s : FVec Ideal S1024x128 .f32) (k : Fin 1024) (h : Fin 2) (d : Fin 128) :
    twoHeads s (ix2 k ⟨h.val * 128 + d.val, by omega⟩) = if hd : d.val < 64 then s (ix2 k ⟨h.val * 64 + d.val, by omega⟩) else 0 := by
  pointwise [twoHeads]
  rw [sitofp_zero]

theorem keyCols_at (w : FVec Ideal S1024x1792 .f32) (k : Fin 1024) (j : Fin 128) : keyCols w (ix2 k j) = w (ix2 k ⟨512 + j.val, by omega⟩) := by
  pointwise [keyCols]

/-- The keys' columns of the first weights. -/
theorem winOf_key (q : FVec Ideal S1024x1024 .f32) (w : FVec Ideal S1024x1792 .f32) (v : FVec Ideal S1024x256 .f32) (u : FVec Ideal S1024x128 .f32) (r : FVec Ideal S1024x1024 .f32)
    (k : Fin 1024) (h : Fin 2) (d : Fin 128) : winOf q (twoHeads (keyCols w)) v u r (ix2 k ⟨1024 + (h.val * 128 + d.val), by omega⟩)
      = if hd : d.val < 64 then w (ix2 k ⟨512 + (h.val * 64 + d.val), by omega⟩) else 0 := by
  refine Eq.trans ?_ ((twoHeads_at (keyCols w) k h d).trans (by simp only [keyCols_at]))
  generalize twoHeads (keyCols w) = b
  pointwise [winOf]
  exact dif_pos (by omega)

/-- The values'. -/
theorem winOf_val (q : FVec Ideal S1024x1024 .f32) (b v : FVec Ideal S1024x256 .f32) (w : FVec Ideal S1024x1792 .f32) (r : FVec Ideal S1024x1024 .f32) (k : Fin 1024) (j : Fin 128) :
    winOf q b v (valCols w) r (ix2 k ⟨1536 + j.val, by omega⟩) = w (ix2 k ⟨640 + j.val, by omega⟩) := by
  pointwise [winOf, valCols]
  refine (dif_neg (by omega)).trans ((dif_neg (by omega)).trans ((dif_neg (by omega)).trans ((dif_pos (by omega)).trans ?_)))
  exact congrArg (fun q => w (ix2 k q)) (Fin.ext (by show 640 + (1536 + j.val - 1024 - 256 - 256) = 640 + j.val; omega))

theorem gainOf_at (g : FVec Ideal S64 .f32) (o : Fin 1) (d : Fin 64) : gainOf g (ix2 o ⟨d.val, by omega⟩) = g (ix1 d) := by
  pointwise [gainOf]

theorem condOf_zero (cc : FVec Ideal S1024 .f32) (cs : FVec Ideal S2x1024 .f32) (k : Fin 1024) : condOf cc cs (ix2 0 k) = cc (ix1 k) := by
  pointwise [condOf]

theorem modsOf_shift (v : FVec Ideal S8x6144 .f32) (k : Fin 1024) : modsOf v (ix3 0 0 k) = v (ix2 0 ⟨k.val, by omega⟩) := by
  pointwise [modsOf]

theorem modsOf_scale (v : FVec Ideal S8x6144 .f32) (k : Fin 1024) : modsOf v (ix3 0 1 k) = v (ix2 0 ⟨1024 + k.val, by omega⟩) := by
  pointwise [modsOf]

end Cert.Ctx1Ideal.Value

end
-- ==== Proof.Ctx1Math.lean ====
/- The mathematics of layer 1's projections of one row: a head's keys normed in 128 lanes, half of them zeros. -/
module

public import proofs.«01_k».proof.Proof.CtxMath
public import Idealize.ShloMosaic.Lib.IdealHost

@[expose] public section

noncomputable section

namespace Cert.CtxMath

open Idealize.ShloMosaic

theorem bits_64 : Ideal.ofBits .f32 0x42800000#32 = ((64 : ℝ) : EReal) := by
  simp [Ideal.ofBits, Ideal.ieee]
  rw [← EReal.coe_mul]
  norm_num
theorem bits_64th : Ideal.ofBits .f32 0x3C800000#32 = (((64 : ℝ)⁻¹ : ℝ) : EReal) := by
  simp [Ideal.ofBits, Ideal.ieee]
  rw [← EReal.coe_mul]
  norm_num

/-- Times a sixty-fourth is over sixty-four, at the infinities too. -/
theorem over_64 (x : EReal) : x * Ideal.ofBits .f32 0x3C800000#32 = Ideal.div x (Ideal.ofBits .f32 0x42800000#32) := by
  rw [bits_64, bits_64th, Ideal.div, if_neg (by norm_num), EReal.coe_inv]

/-- A sum over 128 lanes whose upper half are zeros. -/
theorem sum_lower (f : Fin 128 → EReal) (h : ∀ d : Fin 128, 64 ≤ d.val → f d = 0) : ∑ d : Fin 128, f d = ∑ d : Fin 64, f ⟨d.val, by omega⟩ := by
  refine (Fin.sum_univ_add (a := 64) (b := 64) f).trans ?_
  rw [Finset.sum_eq_zero (s := Finset.univ) (f := fun i : Fin 64 => f (Fin.natAdd 64 i)) (fun i _ => h _ (by simp)), add_zero]
  rfl

/-- An entry over the root of the mean of the 64 squares, the sum taken over 128 lanes, times its weight. -/
def lanes (v g : Fin 128 → EReal) (j : Fin 128) : EReal :=
  v j * Ideal.rsqrt ((∑ k : Fin 128, v k * v k) * Ideal.ofBits .f32 0x3C800000#32 + Ideal.ofBits .f32 0x358637BD#32) * g j

/-- In the lower lanes that is the norm of the 64 entries; in the upper ones, zero. -/
theorem lanes_eq (v g : Fin 128 → EReal) (h : ∀ d : Fin 128, 64 ≤ d.val → v d = 0) (j : Fin 128) :
    lanes v g j = if hj : j.val < 64 then normed (Ideal.ofBits .f32 0x42800000#32) (fun k : Fin 64 => v ⟨k.val, by omega⟩) (fun k : Fin 64 => g ⟨k.val, by omega⟩) ⟨j.val, hj⟩ else 0 := by
  unfold lanes
  by_cases hj : j.val < 64
  · rw [dif_pos hj, over_64, sum_lower _ fun d hd => by rw [h d hd, zero_mul]]
    rfl
  · rw [dif_neg hj, h j (by omega), zero_mul, zero_mul]

/-- A row times a column of zeros. -/
theorem dot_zero {N : ℕ} (v : Fin N → EReal) : dot v (fun _ => 0) = 0 :=
  Finset.sum_eq_zero fun _ _ => mul_zero _

end Cert.CtxMath

end
-- ==== Proof.Ctx1Pay.lean ====
/- What the two calls' bodies compute of their blocks, read at an index. -/
module

public import proofs.«01_k».proof.Proof.Gen.Ctx1Ideal.Skeleton
public import proofs.«01_k».proof.Proof.Ctx1Math

@[expose] public section

set_option maxRecDepth 16384

noncomputable section

namespace Cert.Ctx1Ideal.Value

open Cert.Ctx1Ideal Cert.Ctx1Ideal.Gen Cert.CtxMath Idealize.ShloMosaic Idealize.ShloMosaic.TcCoe Idealize.SL.Sem

/-- The modulations' block. -/
theorem mod_pay_at (x0 : Vec Ideal S8x1024 .f32) (x1 : Vec Ideal S1024x1536 .f32) (x2 : Vec Ideal S1x1536 .f32) (i : Fin 8) (j : Fin 1536) :
    k0_pay1 x0 x1 x2 (ix2 i j) = modulation (fun k => x0 (ix2 i k)) (fun k => x1 (ix2 k j)) (x2 (ix2 0 j)) := by
  pointwise [k0_pay1]
  rfl

/-- The first projection of a row of the block, all its columns. -/
theorem z_at (x0 : Vec Ideal S1x512x1024 .f32) (x1 : Vec Ideal S1x8x1024 .f32) (x2 : Vec Ideal S1x1024 .f32) (x3 : Vec Ideal S1024x2688 .bf16) (r : Fin 512) (j : Fin 2688) :
    k1_pay2 x0 x1 x2 x3 (ix2 r j)
      = dot (modulated (fun k => x0 (ix3 0 r k)) (fun k => x2 (ix2 0 k)) (fun k => x1 (ix3 0 0 k)) (fun k => x1 (ix3 0 1 k))) (fun k => x3 (ix2 k j)) := by
  pointwise [k1_pay2]
  rfl

/-- The first head's keys. -/
theorem k0_pay_at (z : FVec Ideal S512x2688 .f32) (g : Vec Ideal S1x128 .f32) (o : Fin 1) (r : Fin 512) (d : Fin 128) :
    k1_pay18 (k1_pay16 z g) (ix3 o r d) = lanes (fun k => z (ix2 r ⟨1024 + k.val, by omega⟩)) (fun k => g (ix2 0 k)) d := by
  pointwise [k1_pay18, k1_pay16]
  rfl
/-- The second head's. -/
theorem k1_pay_at (z : FVec Ideal S512x2688 .f32) (g : Vec Ideal S1x128 .f32) (o : Fin 1) (r : Fin 512) (d : Fin 128) :
    k1_pay21 z g (ix3 o r d) = lanes (fun k => z (ix2 r ⟨1152 + k.val, by omega⟩)) (fun k => g (ix2 0 k)) d := by
  pointwise [k1_pay21, k1_pay19]
  rfl
/-- The values. -/
theorem v_pay_at (z : FVec Ideal S512x2688 .f32) (o : Fin 1) (r : Fin 512) (j : Fin 128) :
    k1_pay23 z (ix3 o r j) = z (ix2 r ⟨1536 + j.val, by omega⟩) := by
  pointwise [k1_pay23]

end Cert.Ctx1Ideal.Value

end
-- ==== Proof.Ctx1Entry.lean ====
/- What layer 1's projections' call finds in its arrays: the host's preparations of the arguments, and the modulations the first call left. -/
module

public import proofs.«01_k».proof.Proof.Ctx1HostAt
public import proofs.«01_k».proof.Proof.Ctx1Pay
public import Idealize.ShloMosaic.Lib.Claim
public import proofs.«01_k».proof.Proof.CtxMath

@[expose] public section

set_option maxRecDepth 16384

noncomputable section

namespace Cert.Ctx1Ideal.Value

open Cert.Ctx1Ideal Cert.Ctx1Ideal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD)

/-- The first weights as the call finds them; what fills the queries' columns, the padded values' and the rest does not matter here. -/
def W (m : (ℓ : Loc nD τ sig) → Buf (Elt Ideal) ℓ) (ρ : Dev nD → PrngReg) (c : Dev nD) : FVec Ideal S1024x2688 .bf16 :=
  winOf (W10 m ρ c (Proc.devRef .tc main_v13)) (twoHeads (keyCols (m ((c : Thread nD τ).loc main_arg6))))
    (shapeCast S1024x256 (W10 m ρ c (Proc.devRef .tc main_v18)) shapeCasts_S1024x2x128_S1024x256) (valCols (m ((c : Thread nD τ).loc main_arg6))) (W10 m ρ c (Proc.devRef .tc main_v10))

theorem e_cols : W6 m ρ c (Proc.devRef .tc main_v8) = keyCols (m ((c : Thread nD τ).loc main_arg6)) := by
  rw [W6_of m ρ c main_v8 (by decide)]
  exact (cols_line (W4 m ρ c)).trans (by rw [W4_args m ρ c main_arg6 (by decide)])
theorem e_vals : W10 m ρ c (Proc.devRef .tc main_v9) = valCols (m ((c : Thread nD τ).loc main_arg6)) := by
  rw [W10_of m ρ c main_v9 (by decide), W9_of m ρ c main_v9 (by decide), W8_of m ρ c main_v9 (by decide), W7_of m ρ c main_v9 (by decide), W6_of m ρ c main_v9 (by decide)]
  exact (vals_line (W4 m ρ c)).trans (by rw [W4_args m ρ c main_arg6 (by decide)])
theorem e_keys : W10 m ρ c (Proc.devRef .tc main_v16) = twoHeads (keyCols (m ((c : Thread nD τ).loc main_arg6))) := by
  rw [W10_of m ρ c main_v16 (by decide)]
  exact (keys_line (W6 m ρ c)).trans (congrArg twoHeads (e_cols m ρ c))

theorem e_win : V23 m ρ c main_v21 = W m ρ c := by
  show W23 m ρ c (Proc.devRef .tc main_v21) = _
  rw [W23_of m ρ c main_v21 (by decide), W22_of m ρ c main_v21 (by decide), W21_of m ρ c main_v21 (by decide), W20_of m ρ c main_v21 (by decide), W19_of m ρ c main_v21 (by decide), W18_of m ρ c main_v21 (by decide), W17_of m ρ c main_v21 (by decide), W16_of m ρ c main_v21 (by decide), W15_of m ρ c main_v21 (by decide), W14_of m ρ c main_v21 (by decide), W13_of m ρ c main_v21 (by decide), W12_of m ρ c main_v21 (by decide)]
  refine (win_line (W10 m ρ c)).trans ?_
  rw [e_keys, e_vals]
  rfl

theorem e_gain : V23 m ρ c main_v53 = gainOf (m ((c : Thread nD τ).loc main_arg8)) := by
  show W23 m ρ c (Proc.devRef .tc main_v53) = _
  rw [W23_of m ρ c main_v53 (by decide), W22_of m ρ c main_v53 (by decide)]
  exact (gain_line (W18 m ρ c)).trans (by rw [W18_args m ρ c main_arg8 (by decide)])

theorem e_n1 : V23 m ρ c main_v62 = shapeCast S1x1024 ((m ((c : Thread nD τ).loc main_arg5)) : FVec Ideal S1024 .f32) shapeCasts_S1024_S1x1024 := by
  show W23 m ρ c (Proc.devRef .tc main_v62) = _
  exact (n1_line (W22 m ρ c)).trans (by rw [W22_args m ρ c main_arg5 (by decide)])

theorem e_x : V23 m ρ c main_v63 = shapeCast S1x8192x1024 ((m ((c : Thread nD τ).loc main_arg0)) : FVec Ideal S32x256x1024 .f32) shapeCasts_S32x256x1024_S1x8192x1024 := by
  show W23 m ρ c (Proc.devRef .tc main_v63) = _
  exact (x_line (W22 m ρ c)).trans (by rw [W22_args m ρ c main_arg0 (by decide)])

/-! ## The first call -/

/-- What the first call finds in its arrays. -/
theorem e_cond : V1 m ρ c main_v2 = condOf (m ((c : Thread nD τ).loc main_arg2)) (m ((c : Thread nD τ).loc main_arg1)) := by
  exact cond_line (W0 m ρ c)
theorem e_aw : V1 m ρ c main_arg3 = (m ((c : Thread nD τ).loc main_arg3)) := by
  exact W1_args m ρ c main_arg3 (by decide)
theorem e_ab : V1 m ρ c main_v3 = shapeCast S1x6144 ((m ((c : Thread nD τ).loc main_arg4)) : FVec Ideal S6144 .f32) shapeCasts_S6144_S1x6144 := by
  exact bias_line (W0 m ρ c)

/-- Where a point of the first call's grid reads and writes. -/
theorem idx0 : ∀ t : Fin cfg0.N, win0_0.index t = ![0, 0] ∧ win0_1.index t = ![0, (grid0.coords t 0).val] ∧ win0_2.index t = ![0, (grid0.coords t 0).val]
    ∧ win0_3.index t = ![0, (grid0.coords t 0).val] :=
  (by decide +kernel : ∀ t : Fin grid0.N, _)

/-- A row vector laid out as a one-row matrix. -/
theorem bias_at (b : FVec Ideal S6144 .f32) (i : S1x6144.Idx) : (shapeCast S1x6144 b shapeCasts_S6144_S1x6144 : FVec Ideal S1x6144 .f32) i = b (ix1 (i 1)) := by
  idx_vars i
  pointwise

/-- The modulations of all eight conditions. -/
def allMods (x : FVec Ideal S8x1024 .f32) (aw : FVec Ideal S1024x6144 .f32) (ab : FVec Ideal S6144 .f32) : FVec Ideal S8x6144 .f32 :=
  fun i => modulation (fun k => x (ix2 (i 0) k)) (fun k => aw (ix2 k (i 1))) (ab (ix1 (i 1)))

theorem mods_final : (dat0 (V1 m ρ) c).arrAt 3 cfg0.N = allMods (condOf (m ((c : Thread nD τ).loc main_arg2)) (m ((c : Thread nD τ).loc main_arg1))) (m ((c : Thread nD τ).loc main_arg3)) (m ((c : Thread nD τ).loc main_arg4)) := by
  refine (dat0 (V1 m ρ) c).arrAt_eq_of_covers 3 _ (by decide +kernel) fun t _ y => ?_
  blk_simp
  rw [after0_3]; frame_out
  rw [eq_ix2 y]
  refine (mod_pay_at _ _ _ _ _).trans ?_
  refine congr (congrArg₂ modulation (funext fun k => ?_) (funext fun k => ?_)) ?_
  · blk_simp [iblk0]
    rw [e_cond]
    blk_ext [idx0 t]
  · blk_simp [iblk0]
    rw [e_aw]
    blk_ext [idx0 t]
  · blk_simp [iblk0]
    rw [e_ab, bias_at]
    blk_ext [idx0 t]

theorem e_mods : V23 m ρ c main_v6 = modsOf (allMods (condOf (m ((c : Thread nD τ).loc main_arg2)) (m ((c : Thread nD τ).loc main_arg1))) (m ((c : Thread nD τ).loc main_arg3)) (m ((c : Thread nD τ).loc main_arg4))) := by
  show W23 m ρ c (Proc.devRef .tc main_v6) = _
  rw [W23_of m ρ c main_v6 (by decide), W22_of m ρ c main_v6 (by decide), W21_of m ρ c main_v6 (by decide), W20_of m ρ c main_v6 (by decide), W19_of m ρ c main_v6 (by decide), W18_of m ρ c main_v6 (by decide), W17_of m ρ c main_v6 (by decide), W16_of m ρ c main_v6 (by decide), W15_of m ρ c main_v6 (by decide), W14_of m ρ c main_v6 (by decide), W13_of m ρ c main_v6 (by decide), W12_of m ρ c main_v6 (by decide), W11_of m ρ c main_v6 (by decide), W10_of m ρ c main_v6 (by decide), W9_of m ρ c main_v6 (by decide), W8_of m ρ c main_v6 (by decide), W7_of m ρ c main_v6 (by decide), W6_of m ρ c main_v6 (by decide), W5_of m ρ c main_v6 (by decide)]
  refine (mods_line (W2 m ρ c)).trans (congrArg modsOf ?_)
  exact (W2_arr m ρ c 3).trans (mods_final m ρ c)

end Cert.Ctx1Ideal.Value

end
-- ==== Proof.Ctx1RefAt.lean ====
/- The reference's projections of the prompt in layer 1, named piece by piece and read at an index. -/
module

public import proofs.«01_k».proof.Proof.Gen.CtxRef1Ideal.Run
public import proofs.«01_k».proof.Proof.CtxMath

@[expose] public section

set_option maxRecDepth 16384

noncomputable section

namespace Cert.CtxRef1Ideal.Value

open Cert.CtxRef1Ideal Cert.CtxRef1Ideal.Gen Cert.CtxMath Idealize.ShloMosaic Idealize.ShloMosaic.TcCoe Idealize.SL.Sem

/-- The six modulations of the context's condition, end to end. -/
def mods (cc : FVec Ideal S1024 .f32) (aw : FVec Ideal S1024x6144 .f32) (ab : FVec Ideal S6144 .f32) : FVec Ideal S1x6144 .f32 :=
  broadcastInDim S1x6144 ![1] bcast_S6144_S1x6144_1 (addf (Host.dotGeneral dot_S1024_S1024x6144_S6144_0_0_n_1_n_n none (mulf cc (Host.divf (broadcastInDim S1024 ![] bcast_S_S1024 (constant S_ .f32 0x3F800000#32)) (addf (broadcastInDim S1024 ![] bcast_S_S1024 (constant S_ .f32 0x3F800000#32)) (Host.exp (Host.negf cc))))) aw) ab)

/-- The normed and modulated rows. -/
def rows (x : FVec Ideal S32x256x1024 .f32) (n1 : FVec Ideal S1024 .f32) (e : FVec Ideal S1x6144 .f32) : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 n1))) (broadcastInDim S32x256x1024 ![0, 1, 2] bcast_S1x1x1024_S32x256x1024_0_1_2 (broadcastInDim S1x1x1024 ![1, 2] bcast_S1x1024_S1x1x1024_1_2 (addf (broadcastInDim S1x1024 ![] bcast_S_S1x1024 (constant S_ .f32 0x3F800000#32)) (extractStridedSlice S1x1024 ![0, 1024] e slices_S1x6144_S1x1024_0_1024))))) (broadcastInDim S32x256x1024 ![0, 1, 2] bcast_S1x1x1024_S32x256x1024_0_1_2 (broadcastInDim S1x1x1024 ![1, 2] bcast_S1x1024_S1x1x1024_1_2 (extractStridedSlice S1x1024 ![0, 0] e slices_S1x6144_S1x1024_0_0)))

/-- Their first projection. -/
def projected (x : FVec Ideal S32x256x1024 .f32) (cc : FVec Ideal S1024 .f32) (aw : FVec Ideal S1024x6144 .f32) (ab : FVec Ideal S6144 .f32) (n1 : FVec Ideal S1024 .f32)
    (wi : FVec Ideal S1024x1792 .f32) : FVec Ideal S32x256x1792 .f32 :=
  Host.dotGeneral dot_S32x256x1024_S1024x1792_S32x256x1792_2_0_01_1_n_n none (rows x n1 (mods cc aw ab)) wi

/-- The keys before their norm, a head at a time. -/
def rawKeys (z : FVec Ideal S32x256x1792 .f32) : FVec Ideal S32x256x2x64 .f32 :=
  shapeCast _ (extractStridedSlice S32x256x128 ![0, 0, 512] z slices_S32x256x1792_S32x256x128_0_0_512) shapeCasts_S32x256x128_S32x256x2x64

/-- The normed keys, the first state returned. -/
def keys (z : FVec Ideal S32x256x1792 .f32) (gk : FVec Ideal S64 .f32) : FVec Ideal S32x256x2x64 .f32 :=
  mulf (mulf (rawKeys z) (broadcastInDim S32x256x2x64 ![0, 1, 2, 3] bcast_S32x256x2x1_S32x256x2x64_0_1_2_3 (Host.rsqrt (addf (Host.divf (broadcastInDim S32x256x2x1 ![0, 1, 2] bcast_S32x256x2_S32x256x2x1_0_1_2 (Host.reduceAdd (mulf (rawKeys z) (rawKeys z)) (constant S_ .f32 0x00000000#32) reducesTo_S32x256x2x64_S32x256x2_d3 h_S_)) (broadcastInDim S32x256x2x1 ![] bcast_S_S32x256x2x1 (constant S_ .f32 0x42800000#32))) (broadcastInDim S32x256x2x1 ![] bcast_S_S32x256x2x1 (constant S_ .f32 0x358637BD#32)))))) (broadcastInDim S32x256x2x64 ![0, 1, 2, 3] bcast_S1x1x1x64_S32x256x2x64_0_1_2_3 (broadcastInDim S1x1x1x64 ![3] bcast_S64_S1x1x1x64_3 gk))

/-- The values, the second. -/
def values (z : FVec Ideal S32x256x1792 .f32) : FVec Ideal S32x256x2x64 .f32 :=
  shapeCast _ (extractStridedSlice S32x256x128 ![0, 0, 640] z slices_S32x256x1792_S32x256x128_0_0_640) shapeCasts_S32x256x128_S32x256x2x64

theorem mods_at (cc : FVec Ideal S1024 .f32) (aw : FVec Ideal S1024x6144 .f32) (ab : FVec Ideal S6144 .f32) (o : Fin 1) (j : Fin 6144) :
    mods cc aw ab (ix2 o j) = modulation (fun k => cc (ix1 k)) (fun k => aw (ix2 k j)) (ab (ix1 j)) := by
  pointwise [mods]
  rfl

theorem rows_at (x : FVec Ideal S32x256x1024 .f32) (n1 : FVec Ideal S1024 .f32) (e : FVec Ideal S1x6144 .f32) (p : Fin 32) (s : Fin 256) (k : Fin 1024) :
    rows x n1 e (ix3 p s k)
      = modulated (fun k => x (ix3 p s k)) (fun k => n1 (ix1 k)) (fun k => e (ix2 0 ⟨k.val, by omega⟩)) (fun k => e (ix2 0 ⟨1024 + k.val, by omega⟩)) k := by
  pointwise [rows]
  rfl

theorem projected_at (x : FVec Ideal S32x256x1024 .f32) (cc : FVec Ideal S1024 .f32) (aw : FVec Ideal S1024x6144 .f32) (ab : FVec Ideal S6144 .f32) (n1 : FVec Ideal S1024 .f32)
    (wi : FVec Ideal S1024x1792 .f32) (p : Fin 32) (s : Fin 256) (j : Fin 1792) :
    projected x cc aw ab n1 wi (ix3 p s j) = dot (fun k => rows x n1 (mods cc aw ab) (ix3 p s k)) (fun k => wi (ix2 k j)) := by
  pointwise [projected]
  rfl

theorem rawKeys_at (z : FVec Ideal S32x256x1792 .f32) (p : Fin 32) (s : Fin 256) (h : Fin 2) (d : Fin 64) :
    rawKeys z (ix4 p s h d) = z (ix3 p s ⟨512 + (h.val * 64 + d.val), by omega⟩) := by
  pointwise [rawKeys]

theorem keys_at (z : FVec Ideal S32x256x1792 .f32) (gk : FVec Ideal S64 .f32) (p : Fin 32) (s : Fin 256) (h : Fin 2) (d : Fin 64) :
    keys z gk (ix4 p s h d) = normed (Ideal.ofBits .f32 0x42800000#32) (fun k => rawKeys z (ix4 p s h k)) (fun k => gk (ix1 k)) d := by
  pointwise [keys]
  rfl

theorem values_at (z : FVec Ideal S32x256x1792 .f32) (p : Fin 32) (s : Fin 256) (h : Fin 2) (d : Fin 64) :
    values z (ix4 p s h d) = z (ix3 p s ⟨640 + (h.val * 64 + d.val), by omega⟩) := by
  pointwise [values]

end Cert.CtxRef1Ideal.Value

end
-- ==== Proof.Ctx1Blocks.lean ====
/- The second call's blocks at an index, and the first projection of a block's row: the reference's, column for column. -/
module

public import proofs.«01_k».proof.Proof.Ctx1Entry
public import proofs.«01_k».proof.Proof.Ctx1RefAt
public import Idealize.ShloMosaic.Lib.Claim
public import proofs.«01_k».proof.Proof.Ctx1Math

@[expose] public section

set_option maxRecDepth 16384

noncomputable section

namespace Cert.Ctx1Ideal.Value

open Cert.Ctx1Ideal Cert.Ctx1Ideal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD)

/-- Where a point of the second call's grid reads and writes. -/
theorem idx1 : ∀ t : Fin cfg1.N, (win1_0.index t = ![(grid1.coords t 0).val, (grid1.coords t 1).val, 0] ∧ win1_1.index t = ![(grid1.coords t 0).val, 0, 0]
    ∧ win1_2.index t = ![0, 0] ∧ win1_3.index t = ![0, 0] ∧ win1_4.index t = ![0, 0] ∧ win1_5.index t = ![0, 0] ∧ win1_6.index t = ![0, 0] ∧ win1_7.index t = ![0, 0]
    ∧ win1_8.index t = ![0, 0, 0] ∧ win1_9.index t = ![0, 0])
    ∧ (win1_10.index t = ![(grid1.coords t 0).val, (grid1.coords t 1).val, 0] ∧ win1_11.index t = ![(grid1.coords t 0).val, (grid1.coords t 1).val, 0]
    ∧ win1_12.index t = ![(grid1.coords t 0).val, (grid1.coords t 1).val, 0] ∧ win1_13.index t = ![(grid1.coords t 0).val, (grid1.coords t 1).val, 0]
    ∧ win1_14.index t = ![(grid1.coords t 0).val, (grid1.coords t 1).val, 0] ∧ win1_15.index t = ![(grid1.coords t 0).val, (grid1.coords t 1).val, 0]) :=
  (by decide +kernel : ∀ t : Fin grid1.N, _)

/-- The row of the array that a row of a point's block is. -/
def row (t : Fin cfg1.N) (r : Fin 512) : Fin 8192 :=
  ⟨512 * (grid1.coords t 1).val + r.val, by have h : (grid1.coords t 1).val < 16 := (grid1.coords t 1).isLt; omega⟩
/-- Its prompt. -/
def prompt (R : Fin 8192) : Fin 32 := ⟨R.val / 256, by omega⟩
/-- Its place in the prompt. -/
def place (R : Fin 8192) : Fin 256 := ⟨R.val % 256, by omega⟩

theorem x_cast_at (x : FVec Ideal S32x256x1024 .f32) (i : S1x8192x1024.Idx) :
    (shapeCast S1x8192x1024 x shapeCasts_S32x256x1024_S1x8192x1024 : FVec Ideal S1x8192x1024 .f32) i = x (ix3 (prompt (i 1)) (place (i 1)) (i 2)) := by
  idx_vars i
  pointwise
  rfl
theorem n1_cast_at (b : FVec Ideal S1024 .f32) (i : S1x1024.Idx) : (shapeCast S1x1024 b shapeCasts_S1024_S1x1024 : FVec Ideal S1x1024 .f32) i = b (ix1 (i 1)) := by
  idx_vars i
  pointwise

theorem b_x (t : Fin cfg1.N) (r : Fin 512) (k : Fin 1024) :
    iblk1 (V23 m ρ) c 0 t (ix3 0 r k) = (m ((c : Thread nD τ).loc main_arg0)) (ix3 (prompt (row t r)) (place (row t r)) k) := by
  blk_simp [iblk1]
  rw [e_x, x_cast_at]
  have h : ((View.whole main_v63).slice (win1_0.rect t)).emb (ix3 0 r k) = ix3 0 (row t r) k := by blk_ext [idx1 t, row]
  rw [h]
  rfl
theorem b_mods (t : Fin cfg1.N) (a : Fin 8) (k : Fin 1024) :
    iblk1 (V23 m ρ) c 1 t (ix3 0 a k) = modsOf (allMods (condOf (m ((c : Thread nD τ).loc main_arg2)) (m ((c : Thread nD τ).loc main_arg1))) (m ((c : Thread nD τ).loc main_arg3)) (m ((c : Thread nD τ).loc main_arg4))) (ix3 0 a k) := by
  blk_simp [iblk1]
  rw [e_mods]
  blk_ext [idx1 t]
theorem b_n1 (t : Fin cfg1.N) (k : Fin 1024) : iblk1 (V23 m ρ) c 2 t (ix2 0 k) = (m ((c : Thread nD τ).loc main_arg5)) (ix1 k) := by
  blk_simp [iblk1]
  rw [e_n1, n1_cast_at]
  blk_ext [idx1 t]
theorem b_win (t : Fin cfg1.N) (k : Fin 1024) (j : Fin 2688) : iblk1 (V23 m ρ) c 3 t (ix2 k j) = W m ρ c (ix2 k j) := by
  blk_simp [iblk1]
  rw [e_win]
  blk_ext [idx1 t]
theorem b_gain (t : Fin cfg1.N) (k : Fin 64) : iblk1 (V23 m ρ) c 5 t (ix2 0 ⟨k.val, by omega⟩) = (m ((c : Thread nD τ).loc main_arg8)) (ix1 k) := by
  refine Eq.trans ?_ (gainOf_at _ 0 k)
  blk_simp [iblk1]
  rw [e_gain]
  blk_ext [idx1 t]

/-- The reference's first projection from the call's arguments. -/
abbrev Z (m : (ℓ : Loc nD τ sig) → Buf (Elt Ideal) ℓ) (c : Dev nD) : FVec Ideal Cert.CtxRef1Ideal.S32x256x1792 .f32 := Cert.CtxRef1Ideal.Value.projected (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- A block's row, normed and modulated, is the reference's. -/
theorem row_block (t : Fin cfg1.N) (r : Fin 512) (k : Fin 1024) :
    modulated (fun k => iblk1 (V23 m ρ) c 0 t (ix3 0 r k)) (fun k => iblk1 (V23 m ρ) c 2 t (ix2 0 k)) (fun k => iblk1 (V23 m ρ) c 1 t (ix3 0 0 k)) (fun k => iblk1 (V23 m ρ) c 1 t (ix3 0 1 k)) k
      = Cert.CtxRef1Ideal.Value.rows (m ((c : Thread nD τ).loc main_arg0)) (m ((c : Thread nD τ).loc main_arg5)) (Cert.CtxRef1Ideal.Value.mods (m ((c : Thread nD τ).loc main_arg2)) (m ((c : Thread nD τ).loc main_arg3)) (m ((c : Thread nD τ).loc main_arg4))) (ix3 (prompt (row t r)) (place (row t r)) k) := by
  refine Eq.trans ?_ (Cert.CtxRef1Ideal.Value.rows_at _ _ _ _ _ _).symm
  refine congrFun (congr (congr (congrArg₂ modulated (funext fun k => b_x m ρ c t r k) (funext fun k => b_n1 m ρ c t k)) (funext fun k => ?_)) (funext fun k => ?_)) k
  · refine (b_mods m ρ c t 0 k).trans ((modsOf_shift _ _).trans (Eq.trans ?_ (Cert.CtxRef1Ideal.Value.mods_at _ _ _ _ _).symm))
    exact congr (congrArg₂ modulation (funext fun x => condOf_zero _ _ x) rfl) rfl
  · refine (b_mods m ρ c t 1 k).trans ((modsOf_scale _ _).trans (Eq.trans ?_ (Cert.CtxRef1Ideal.Value.mods_at _ _ _ _ _).symm))
    exact congr (congrArg₂ modulation (funext fun x => condOf_zero _ _ x) rfl) rfl

/-- A column of a block's row is the reference's column that has the same weights. -/
theorem z_block (t : Fin cfg1.N) (r : Fin 512) (j : Fin 2688) (j' : Fin 1792) (hj : ∀ k : Fin 1024, W m ρ c (ix2 k j) = (m ((c : Thread nD τ).loc main_arg6)) (ix2 k j')) :
    k1_pay2 (iblk1 (V23 m ρ) c 0 t) (iblk1 (V23 m ρ) c 1 t) (iblk1 (V23 m ρ) c 2 t) (iblk1 (V23 m ρ) c 3 t) (ix2 r j)
      = Z m c (ix3 (prompt (row t r)) (place (row t r)) j') := by
  refine (z_at _ _ _ _ _ _).trans (Eq.trans ?_ (Cert.CtxRef1Ideal.Value.projected_at _ _ _ _ _ _ _ _ _).symm)
  exact congrArg₂ dot (funext fun k => row_block m ρ c t r k) (funext fun k => (b_win m ρ c t k j).trans (hj k))

/-- A column whose weights are zeros is zero. -/
theorem z_zero (t : Fin cfg1.N) (r : Fin 512) (j : Fin 2688) (hj : ∀ k : Fin 1024, W m ρ c (ix2 k j) = 0) :
    k1_pay2 (iblk1 (V23 m ρ) c 0 t) (iblk1 (V23 m ρ) c 1 t) (iblk1 (V23 m ρ) c 2 t) (iblk1 (V23 m ρ) c 3 t) (ix2 r j) = 0 := by
  refine (z_at _ _ _ _ _ _).trans ((congrArg (dot _) (funext fun k => (b_win m ρ c t k j).trans (hj k))).trans (dot_zero _))

end Cert.Ctx1Ideal.Value

end
-- ==== Proof.Ctx1Value.lean ====
/- The second call's values on a block: the reference's, row for row. -/
module

public import proofs.«01_k».proof.Proof.Ctx1Blocks
public import Idealize.ShloMosaic.Lib.Claim
public import proofs.«01_k».proof.Proof.Ctx1Math

@[expose] public section

set_option maxRecDepth 16384

noncomputable section

namespace Cert.Ctx1Ideal.Value

open Cert.Ctx1Ideal Cert.Ctx1Ideal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD) (t : Fin cfg1.N) (r : Fin 512)

/-- A head's key columns: the reference's in the lower lanes, zeros above. -/
theorem zk_lo (h : Fin 2) (d : Fin 64) : k1_pay2 (iblk1 (V23 m ρ) c 0 t) (iblk1 (V23 m ρ) c 1 t) (iblk1 (V23 m ρ) c 2 t) (iblk1 (V23 m ρ) c 3 t) (ix2 r ⟨1024 + (h.val * 128 + d.val), by omega⟩)
    = Cert.CtxRef1Ideal.Value.rawKeys (Z m c) (ix4 (prompt (row t r)) (place (row t r)) h d) :=
  (z_block m ρ c t r _ ⟨512 + (h.val * 64 + d.val), by omega⟩ fun k => by unfold W; exact (winOf_key _ _ _ _ _ k h ⟨d.val, by omega⟩).trans (dif_pos d.isLt)).trans
    (Cert.CtxRef1Ideal.Value.rawKeys_at _ _ _ _ _).symm
theorem zk_hi (h : Fin 2) (d : Fin 128) (hd : 64 ≤ d.val) : k1_pay2 (iblk1 (V23 m ρ) c 0 t) (iblk1 (V23 m ρ) c 1 t) (iblk1 (V23 m ρ) c 2 t) (iblk1 (V23 m ρ) c 3 t) (ix2 r ⟨1024 + (h.val * 128 + d.val), by omega⟩) = 0 :=
  z_zero m ρ c t r _ fun k => by unfold W; exact (winOf_key _ _ _ _ _ k h d).trans (dif_neg (by omega))

/-- A head's normed keys in its lanes. -/
theorem k_blk (h : Fin 2) (d : Fin 128) :
    lanes (fun k : Fin 128 => k1_pay2 (iblk1 (V23 m ρ) c 0 t) (iblk1 (V23 m ρ) c 1 t) (iblk1 (V23 m ρ) c 2 t) (iblk1 (V23 m ρ) c 3 t) (ix2 r ⟨1024 + (h.val * 128 + k.val), by omega⟩)) (fun k => iblk1 (V23 m ρ) c 5 t (ix2 0 k)) d
      = if hd : d.val < 64 then Cert.CtxRef1Ideal.Value.keys (Z m c) (m ((c : Thread nD τ).loc main_arg8)) (ix4 (prompt (row t r)) (place (row t r)) h ⟨d.val, hd⟩) else 0 := by
  refine (lanes_eq _ _ (fun e he => zk_hi m ρ c t r h e he) d).trans ?_
  by_cases hd : d.val < 64
  · rw [dif_pos hd, dif_pos hd]
    refine Eq.trans ?_ (Cert.CtxRef1Ideal.Value.keys_at _ _ _ _ _ _).symm
    exact congrFun (congrArg₂ (normed _) (funext fun k => zk_lo m ρ c t r h k) (funext fun k => b_gain m ρ c t k)) _
  · rw [dif_neg hd, dif_neg hd]

/-- The two heads' keys, as the call stores them. -/
theorem k0_blk (o : Fin 1) (d : Fin 128) : k1_pay18 (k1_pay16 (k1_pay2 (iblk1 (V23 m ρ) c 0 t) (iblk1 (V23 m ρ) c 1 t) (iblk1 (V23 m ρ) c 2 t) (iblk1 (V23 m ρ) c 3 t)) (iblk1 (V23 m ρ) c 5 t)) (ix3 o r d)
    = if hd : d.val < 64 then Cert.CtxRef1Ideal.Value.keys (Z m c) (m ((c : Thread nD τ).loc main_arg8)) (ix4 (prompt (row t r)) (place (row t r)) 0 ⟨d.val, hd⟩) else 0 := by
  refine (k0_pay_at _ _ _ _ _).trans (Eq.trans ?_ (k_blk m ρ c t r 0 d))
  refine congrFun (congrFun (congrArg lanes (funext fun k => ?_)) _) d
  exact congrArg (fun q => k1_pay2 (iblk1 (V23 m ρ) c 0 t) (iblk1 (V23 m ρ) c 1 t) (iblk1 (V23 m ρ) c 2 t) (iblk1 (V23 m ρ) c 3 t) (ix2 r q)) (Fin.ext (by show 1024 + k.val = 1024 + (0 * 128 + k.val); omega))
theorem k1_blk (o : Fin 1) (d : Fin 128) : k1_pay21 (k1_pay2 (iblk1 (V23 m ρ) c 0 t) (iblk1 (V23 m ρ) c 1 t) (iblk1 (V23 m ρ) c 2 t) (iblk1 (V23 m ρ) c 3 t)) (iblk1 (V23 m ρ) c 5 t) (ix3 o r d)
    = if hd : d.val < 64 then Cert.CtxRef1Ideal.Value.keys (Z m c) (m ((c : Thread nD τ).loc main_arg8)) (ix4 (prompt (row t r)) (place (row t r)) 1 ⟨d.val, hd⟩) else 0 := by
  refine (k1_pay_at _ _ _ _ _).trans (Eq.trans ?_ (k_blk m ρ c t r 1 d))
  refine congrFun (congrFun (congrArg lanes (funext fun k => ?_)) _) d
  exact congrArg (fun q => k1_pay2 (iblk1 (V23 m ρ) c 0 t) (iblk1 (V23 m ρ) c 1 t) (iblk1 (V23 m ρ) c 2 t) (iblk1 (V23 m ρ) c 3 t) (ix2 r q)) (Fin.ext (by show 1152 + k.val = 1024 + (1 * 128 + k.val); omega))

/-- The values. -/
theorem v_blk (o : Fin 1) (j : Fin 128) : k1_pay23 (k1_pay2 (iblk1 (V23 m ρ) c 0 t) (iblk1 (V23 m ρ) c 1 t) (iblk1 (V23 m ρ) c 2 t) (iblk1 (V23 m ρ) c 3 t)) (ix3 o r j) = Z m c (ix3 (prompt (row t r)) (place (row t r)) ⟨640 + j.val, by omega⟩) :=
  (v_pay_at _ _ _ _).trans (z_block m ρ c t r _ _ fun k => by unfold W; exact winOf_val _ _ _ _ _ k j)

end Cert.Ctx1Ideal.Value

end
-- ==== Proof.Ctx1Out.lean ====
/- The arrays the second call leaves, and the program's results: the reference's. -/
module

public import proofs.«01_k».proof.Proof.Ctx1Value
public import Idealize.ShloMosaic.Lib.Claim
public import proofs.«01_k».proof.Proof.Ctx1Math

@[expose] public section

set_option maxRecDepth 16384

noncomputable section

namespace Cert.Ctx1Ideal.Value

open Cert.Ctx1Ideal Cert.Ctx1Ideal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD)

/-- The keys' array after the call: a head in 128 lanes, zeros in the upper half. -/
def arr_k (f : FVec Ideal S32x256x2x64 .f32) : FVec Ideal S1x8192x256 .f32 := fun i =>
  if h : (i 2).val % 128 < 64 then f (ix4 (prompt (i 1)) (place (i 1)) ⟨(i 2).val / 128, by have h : (i 2).val < 256 := (i 2).isLt; omega⟩ ⟨(i 2).val % 128, h⟩) else 0
theorem arr_k_at (f : FVec Ideal S32x256x2x64 .f32) (R : Fin 8192) (j : Fin 256) (h : Fin 2) (d : Fin 128) (hj : j.val = h.val * 128 + d.val) :
    arr_k f (ix3 0 R j) = if hd : d.val < 64 then f (ix4 (prompt R) (place R) h ⟨d.val, hd⟩) else 0 := by
  have e1 : j.val / 128 = h.val := by omega
  have e2 : j.val % 128 = d.val := by omega
  show (if h' : j.val % 128 < 64 then f (ix4 (prompt R) (place R) ⟨j.val / 128, _⟩ ⟨j.val % 128, h'⟩) else 0) = _
  simp only [e1, e2]

theorem fin_k : (dat1 (V23 m ρ) c).arrAt 12 cfg1.N = arr_k (Cert.CtxRef1Ideal.Value.keys (Z m c) (m ((c : Thread nD τ).loc main_arg8))) := by
  refine (dat1 (V23 m ρ) c).arrAt_eq_of_covers 12 _ (by decide +kernel) fun t _ y => ?_
  blk_simp
  rw [after1_12]
  have h : ((View.whole main_v64_2).slice (win1_12.rect t)).emb (ix3 (y 0) (y 1) (y 2)) = ix3 0 (row t (y 1)) (y 2) := by blk_ext [idx1 t, row]
  have e := congrArg (arr_k (Cert.CtxRef1Ideal.Value.keys (Z m c) (m ((c : Thread nD τ).loc main_arg8)))) h
  rw [← eq_ix3 y] at e
  refine Eq.trans ?_ e.symm
  unfold out1_12 k1_pay45
  canon_tiles x hx
  · simp (disch := decide) only [View.ld_unit_lit']
    rw [eq_ix3 x]
    have r : y 1 = x 1 := Fin.ext hx1
    rw [r]
    exact (k1_blk m ρ c t (x 1) (x 0) (x 2)).trans (arr_k_at _ _ _ 1 (x 2) (by omega)).symm
  · simp (disch := decide) only [View.ld_unit_lit']
    rw [eq_ix3 x]
    have r : y 1 = x 1 := Fin.ext hx1
    rw [r]
    exact (k0_blk m ρ c t (x 1) (x 0) (x 2)).trans (arr_k_at _ _ _ 0 (x 2) (by omega)).symm
/-- A head's own 64 lanes of the keys' array. -/
def ownLanes (a : FVec Ideal S1x8192x256 .f32) : FVec Ideal S32x256x2x64 .f32 :=
  extractStridedSlice S32x256x2x64 ![0, 0, 0, 0] (shapeCast S32x256x2x128 a shapeCasts_S1x8192x256_S32x256x2x128) slices_S32x256x2x128_S32x256x2x64_0_0_0_0
theorem cast_k (f : FVec Ideal S32x256x2x64 .f32) : ownLanes (arr_k f) = f := by
  funext i
  idx_vars i
  pointwise [ownLanes]
  refine (arr_k_at f _ _ i2 ⟨i3.val, by omega⟩ rfl).trans ((dif_pos i3.isLt).trans ?_)
  refine congrArg f (congrArg₂ (fun a b => ix4 a b i2 i3) (Fin.ext ?_) (Fin.ext ?_))
  · simp only [prompt]; omega
  · simp only [place]; omega
theorem line_k (σ : Valuation τ sig (Elt Ideal)) : StableHlo.after hostOps2 σ (Proc.devRef .tc main_v66) = ownLanes (σ (Proc.devRef .tc main_v64_2)) := rfl
/-- The first result, the keys. -/
theorem res_k : W25 m ρ c (Proc.devRef .tc main_v66) = Cert.CtxRef1Ideal.Value.keys (Z m c) (m ((c : Thread nD τ).loc main_arg8)) := by
  have e : W24 m ρ c (Proc.devRef .tc main_v64_2) = arr_k (Cert.CtxRef1Ideal.Value.keys (Z m c) (m ((c : Thread nD τ).loc main_arg8))) := (W24_arr m ρ c 12).trans (fin_k m ρ c)
  refine (line_k (W24 m ρ c)).trans ?_
  rw [e]
  exact cast_k _

/-- The values' array after the call. -/
def arr_v (f : FVec Ideal S32x256x2x64 .f32) : FVec Ideal S1x8192x128 .f32 := fun i =>
  f (ix4 (prompt (i 1)) (place (i 1)) ⟨(i 2).val / 64, by have h : (i 2).val < 128 := (i 2).isLt; omega⟩ ⟨(i 2).val % 64, by omega⟩)
theorem fin_v : (dat1 (V23 m ρ) c).arrAt 14 cfg1.N = arr_v (Cert.CtxRef1Ideal.Value.values (Z m c)) := by
  refine (dat1 (V23 m ρ) c).arrAt_eq_of_covers 14 _ (by decide +kernel) fun t _ y => ?_
  blk_simp
  rw [after1_14]
  unfold out1_14 k1_pay45
  frame_out
  rw [eq_ix3 y]
  have h : ((View.whole main_v64_4).slice (win1_14.rect t)).emb (ix3 (y 0) (y 1) (y 2)) = ix3 0 (row t (y 1)) (y 2) := by blk_ext [idx1 t, row]
  refine Eq.trans ?_ (congrArg (arr_v (Cert.CtxRef1Ideal.Value.values (Z m c))) h).symm
  refine (v_blk m ρ c t _ _ _).trans (Eq.trans ?_ (Cert.CtxRef1Ideal.Value.values_at _ _ _ _ _).symm)
  refine congrArg (fun q => Z m c (ix3 (prompt (row t (y 1))) (place (row t (y 1))) q)) (Fin.ext ?_)
  show 640 + (y 2).val = 640 + ((y 2).val / 64 * 64 + (y 2).val % 64)
  omega
theorem cast_v (f : FVec Ideal S32x256x2x64 .f32) : (shapeCast S32x256x2x64 (arr_v f) shapeCasts_S1x8192x128_S32x256x2x64 : FVec Ideal S32x256x2x64 .f32) = f := by
  funext i
  idx_vars i
  pointwise [arr_v]
  refine congrArg f (congr (congr (congrArg₂ ix4 (Fin.ext ?_) (Fin.ext ?_)) (Fin.ext ?_)) (Fin.ext ?_))
  · simp only [prompt]; omega
  · simp only [place]; omega
  · show (i2.val * 64 + i3.val) / 64 = i2.val
    omega
  · show (i2.val * 64 + i3.val) % 64 = i3.val
    omega
theorem line_v (σ : Valuation τ sig (Elt Ideal)) : StableHlo.after hostOps2 σ (Proc.devRef .tc main_v67)
    = (shapeCast S32x256x2x64 (σ (Proc.devRef .tc main_v64_4)) shapeCasts_S1x8192x128_S32x256x2x64 : FVec Ideal S32x256x2x64 .f32) := rfl
/-- The second result, the values. -/
theorem res_v : W25 m ρ c (Proc.devRef .tc main_v67) = Cert.CtxRef1Ideal.Value.values (Z m c) := by
  refine (line_v (W24 m ρ c)).trans ?_
  refine (congrArg (fun a => (shapeCast S32x256x2x64 a shapeCasts_S1x8192x128_S32x256x2x64 : FVec Ideal S32x256x2x64 .f32)) ((W24_arr m ρ c 14).trans (fin_v m ρ c))).trans ?_
  exact cast_v _

end Cert.Ctx1Ideal.Value

end
-- ==== Proof.Ctx1Run.lean ====
/-
The run of layer 1's projections on the prompt (both calls and the host lines around them), with every buffer's last
contents: the frame certificate's own launch, read at every buffer instead of at the arguments alone.
-/
module

public import proofs.«01_k».proof.Proof.Gen.Ctx1Ideal.Frame

@[expose] public section

set_option maxRecDepth 16384

noncomputable section

namespace Cert.Ctx1Ideal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every fair run ends with each buffer holding what the fold of the program's segments leaves in it, all counters zero. -/
theorem run_final : θ_run defs (onTc (τ := τ) (main (F := F))) ⟨m, fun _ => 0, ρ⟩ (fun r => (∀ c : Dev nD, ∀ b ∈ Pipeline.ucRefs τ sig,
      r.2.mem (((c : Thread nD τ)).1, b) = W25 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h hz => ⟨h, funext fun g => hz g (.inr (no_unscoped g.2))⟩)

end Cert.Ctx1Ideal

end
-- ==== Proof.Ctx1RefRun.lean ====
/- The reference's run, its results by their names. -/
module

public import proofs.«01_k».proof.Proof.Ctx1RefAt

@[expose] public section

set_option maxRecDepth 16384

noncomputable section

namespace Cert.CtxRef1Ideal.Value

open Cert.CtxRef1Ideal Cert.CtxRef1Ideal.Gen Idealize.ShloMosaic Idealize.ShloMosaic.TcCoe Idealize.SL.Sem

/-- The first projection from the reference's arguments. -/
abbrev Z (m : (ℓ : Loc nD τ sig) → Buf (Elt Ideal) ℓ) (c : Dev nD) : FVec Ideal S32x256x1792 .f32 :=
  projected (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = keys (Z m c) (m ((c.tc : Thread nD τ).loc main_arg8))
      ∧ r.2.mem ((c.tc : Thread nD τ).loc main_v51) = values (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h => h) (Cert.CtxRef1Ideal.Value.run (F := Ideal) m ρ)

end Cert.CtxRef1Ideal.Value

end
-- ==== Proof.Ctx1Claim.lean ====
/- The claims about the projections of the prompt in layer 1. -/
module

public import proofs.«01_k».proof.Defs
public import proofs.«01_k».proof.Proof.Ctx1Out
public import proofs.«01_k».proof.Proof.Ctx1Run
public import proofs.«01_k».proof.Proof.Ctx1RefRun
public import proofs.«01_k».proof.Proof.Gen.Ctx1.Frame

@[expose] public section

set_option maxRecDepth 16384

noncomputable section

namespace Cert.Ctx1Ideal.Value

open Idealize.ShloMosaic Idealize.ShloMosaic.TcCoe Idealize.SL.Sem Cert.Ctx1Ideal Cert.Ctx1Ideal.Gen

/-- The kernel's run, its results the reference's pieces of its own arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = Cert.CtxRef1Ideal.Value.keys (Z m c) (m ((c : Thread nD τ).loc main_arg8))
      ∧ r.2.mem ((c.tc : Thread nD τ).loc main_v67) = Cert.CtxRef1Ideal.Value.values (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h.1 c _ (mem_uc main_v66 (by decide))).trans (res_k m ρ c),
    (h.1 c _ (mem_uc main_v67 (by decide))).trans (res_v m ρ c),
    (h.1 c _ (mem_uc main_arg0 (by decide))).trans (W25_main_arg0 m ρ c),
    (h.1 c _ (mem_uc main_arg1 (by decide))).trans (W25_main_arg1 m ρ c),
    (h.1 c _ (mem_uc main_arg2 (by decide))).trans (W25_main_arg2 m ρ c),
    (h.1 c _ (mem_uc main_arg3 (by decide))).trans (W25_main_arg3 m ρ c),
    (h.1 c _ (mem_uc main_arg4 (by decide))).trans (W25_main_arg4 m ρ c),
    (h.1 c _ (mem_uc main_arg5 (by decide))).trans (W25_main_arg5 m ρ c),
    (h.1 c _ (mem_uc main_arg6 (by decide))).trans (W25_main_arg6 m ρ c),
    (h.1 c _ (mem_uc main_arg7 (by decide))).trans (W25_main_arg7 m ρ c),
    (h.1 c _ (mem_uc main_arg8 (by decide))).trans (W25_main_arg8 m ρ c),
    (h.1 c _ (mem_uc main_arg9 (by decide))).trans (W25_main_arg9 m ρ c),
    (h.1 c _ (mem_uc main_arg10 (by decide))).trans (W25_main_arg10 m ρ c),
    (h.1 c _ (mem_uc main_arg11 (by decide))).trans (W25_main_arg11 m ρ c),
    (h.1 c _ (mem_uc main_arg12 (by decide))).trans (W25_main_arg12 m ρ c)⟩) (run_final m ρ)

/-- The reference's projection of arguments that agree. -/
theorem z_of_agree (m : (ℓ : Loc nD τ sig) → Buf (Elt Ideal) ℓ) (m' : (ℓ : Loc Cert.CtxRef1Ideal.nD Cert.CtxRef1Ideal.τ Cert.CtxRef1Ideal.sig) → Buf (Elt Ideal) ℓ) (c : Dev nD)
    (h : m' ((c.tc : Thread Cert.CtxRef1Ideal.nD Cert.CtxRef1Ideal.τ).loc Cert.CtxRef1Ideal.main_arg0) = m ((c.tc : Thread nD τ).loc main_arg0)
      ∧ m' ((c.tc : Thread Cert.CtxRef1Ideal.nD Cert.CtxRef1Ideal.τ).loc Cert.CtxRef1Ideal.main_arg1) = m ((c.tc : Thread nD τ).loc main_arg1)
      ∧ m' ((c.tc : Thread Cert.CtxRef1Ideal.nD Cert.CtxRef1Ideal.τ).loc Cert.CtxRef1Ideal.main_arg2) = m ((c.tc : Thread nD τ).loc main_arg2)
      ∧ m' ((c.tc : Thread Cert.CtxRef1Ideal.nD Cert.CtxRef1Ideal.τ).loc Cert.CtxRef1Ideal.main_arg3) = m ((c.tc : Thread nD τ).loc main_arg3)
      ∧ m' ((c.tc : Thread Cert.CtxRef1Ideal.nD Cert.CtxRef1Ideal.τ).loc Cert.CtxRef1Ideal.main_arg4) = m ((c.tc : Thread nD τ).loc main_arg4)
      ∧ m' ((c.tc : Thread Cert.CtxRef1Ideal.nD Cert.CtxRef1Ideal.τ).loc Cert.CtxRef1Ideal.main_arg5) = m ((c.tc : Thread nD τ).loc main_arg5)
      ∧ m' ((c.tc : Thread Cert.CtxRef1Ideal.nD Cert.CtxRef1Ideal.τ).loc Cert.CtxRef1Ideal.main_arg6) = m ((c.tc : Thread nD τ).loc main_arg6)
      ∧ m' ((c.tc : Thread Cert.CtxRef1Ideal.nD Cert.CtxRef1Ideal.τ).loc Cert.CtxRef1Ideal.main_arg7) = m ((c.tc : Thread nD τ).loc main_arg7)
      ∧ m' ((c.tc : Thread Cert.CtxRef1Ideal.nD Cert.CtxRef1Ideal.τ).loc Cert.CtxRef1Ideal.main_arg8) = m ((c.tc : Thread nD τ).loc main_arg8)
      ∧ m' ((c.tc : Thread Cert.CtxRef1Ideal.nD Cert.CtxRef1Ideal.τ).loc Cert.CtxRef1Ideal.main_arg9) = m ((c.tc : Thread nD τ).loc main_arg9)
      ∧ m' ((c.tc : Thread Cert.CtxRef1Ideal.nD Cert.CtxRef1Ideal.τ).loc Cert.CtxRef1Ideal.main_arg10) = m ((c.tc : Thread nD τ).loc main_arg10)
      ∧ m' ((c.tc : Thread Cert.CtxRef1Ideal.nD Cert.CtxRef1Ideal.τ).loc Cert.CtxRef1Ideal.main_arg11) = m ((c.tc : Thread nD τ).loc main_arg11)
      ∧ m' ((c.tc : Thread Cert.CtxRef1Ideal.nD Cert.CtxRef1Ideal.τ).loc Cert.CtxRef1Ideal.main_arg12) = m ((c.tc : Thread nD τ).loc main_arg12)) : Cert.CtxRef1Ideal.Value.Z m' c = Z m c := by
  obtain ⟨h0, h1, h2, h3, h4, h5, h6, h7, h8, h9, h10, h11, h12⟩ := h
  unfold Cert.CtxRef1Ideal.Value.Z Z
  rw [h0, h2, h3, h4, h5, h6]

/-- The kernel and the reference end with equal results. -/
theorem algebraic : Cert.algebraic_Ctx1Ideal_CtxRef1Ideal (hCtx1Ideal := Cert.Ctx1Ideal.Gen.facts) (hCtxRef1Ideal := Cert.CtxRef1Ideal.Gen.facts) := fun m g m' g' _ hagree =>
  ⟨_, _, run m g, (θ_run Cert.CtxRef1Ideal.defs _ _).mono (fun _ h c => by
    have z := z_of_agree m m' c (hagree c)
    obtain ⟨h0, h1, h2, h3, h4, h5, h6, h7, h8, h9, h10, h11, h12⟩ := hagree c
    obtain ⟨e0, e1, ha⟩ := h c
    refine ⟨e0.trans ?_, e1.trans ?_, ha⟩
    · rw [z, h8]
    · rw [z]) (Cert.CtxRef1Ideal.Value.run_named m' g')⟩

/-- The reference ends with its counters at zero and its arguments as they were. -/
theorem frame_ref : Cert.quiescent_CtxRef1Ideal (hCtxRef1Ideal := Cert.CtxRef1Ideal.Gen.facts) := fun m ρ _ =>
  (θ_run Cert.CtxRef1Ideal.defs _ _).mono (fun r h => ⟨fun c => (h c).2.2, Idealize.ShloMosaic.sem_eq_zero_of_no_sems (by decide) r.2⟩)
    (Cert.CtxRef1Ideal.Value.run_named m ρ)

end Cert.Ctx1Ideal.Value

end
-- ==== Proof.CtxHost.lean ====
/- The arrays the projections' call reads, prepared by the host, read at an index. -/
module

public import proofs.«01_k».proof.Proof.Gen.CtxIdeal.Frame
public import proofs.«01_k».proof.Proof.CtxMath

@[expose] public section

set_option maxRecDepth 16384

noncomputable section

namespace Cert.CtxIdeal.Value

open Cert.CtxIdeal Cert.CtxIdeal.Gen Cert.CtxMath Idealize.ShloMosaic Idealize.ShloMosaic.TcCoe Idealize.SL.Sem

/-- The first weights: the columns in the version's own order, the rotary ones repeated swapped and negated, then spare ones. -/
def winOf (w : FVec Ideal S1024x1696 .f32) : FVec Ideal S1024x1792 .bf16 :=
  truncf .bf16 (concatenate S1024x1792 1 [⟨S1024x640, extractStridedSlice S1024x640 ![0, 0] w slices_S1024x1696_S1024x640_0_0⟩,
    ⟨S1024x32, extractStridedSlice S1024x32 ![0, 640] w slices_S1024x1696_S1024x32_0_640⟩,
    ⟨S1024x32, concatenate S1024x32 1 [⟨S1024x16, Host.negf (extractStridedSlice S1024x16 ![0, 16] (extractStridedSlice S1024x32 ![0, 640] w slices_S1024x1696_S1024x32_0_640) slices_S1024x32_S1024x16_0_16)⟩,
      ⟨S1024x16, extractStridedSlice S1024x16 ![0, 0] (extractStridedSlice S1024x32 ![0, 640] w slices_S1024x1696_S1024x32_0_640) slices_S1024x32_S1024x16_0_0⟩] concatenates_S1024x16_S1024x16_S1024x32_d1⟩,
    ⟨S1024x64, broadcastInDim S1024x64 ![] bcast_S_S1024x64 (constant S_ .f32 0x00000000#32)⟩,
    ⟨S1024x1024, extractStridedSlice S1024x1024 ![0, 672] w slices_S1024x1696_S1024x1024_0_672⟩] concatenates_S1024x640_S1024x32_S1024x32_S1024x64_S1024x1024_S1024x1792_d1) bitsLt_bf16_f32

/-- The queries' weights, a head in 128 lanes. -/
def wuqOf (w : FVec Ideal S384x768 .f32) : FVec Ideal S384x1024 .bf16 :=
  truncf .bf16 (shapeCast S384x1024 (pad S384x8x128 ![0, 0, 0] ![0, 0, 32] ![0, 0, 0] (shapeCast S384x8x96 w shapeCasts_S384x768_S384x8x96)
    (sitofp .f32 (constantI S_ 32 0#32)) pads_S384x8x96_S384x8x128_000_000_0320 h_S_) shapeCasts_S384x8x128_S384x1024) bitsLt_bf16_f32

/-- The keys' or the values', likewise. -/
def wukOf (w : FVec Ideal S256x512 .f32) : FVec Ideal S256x1024 .bf16 :=
  truncf .bf16 (shapeCast S256x1024 (pad S256x8x128 ![0, 0, 0] ![0, 0, 64] ![0, 0, 0] (shapeCast S256x8x64 w shapeCasts_S256x512_S256x8x64)
    (sitofp .f32 (constantI S_ 32 0#32)) pads_S256x8x64_S256x8x128_000_000_0640 h_S_) shapeCasts_S256x8x128_S256x1024) bitsLt_bf16_f32

/-- The unit matrix of the rotary lanes. -/
def unit32 : FVec Ideal S32x32 .f32 :=
  uitofp .f32 (cmpi .eq (addi (iotaInDim S32x32 32 0) (broadcastInDim S32x32 ![] bcast_S_S32x32 (constantI S_ 32 0#32))) (iotaInDim S32x32 32 1))

/-- One head's lanes of the matrix that puts the rotary part behind a head's own lanes. -/
def placeHead (u : FVec Ideal S32x32 .f32) : FVec Ideal S32x128 .f32 :=
  concatenate S32x128 1 [⟨S32x64, broadcastInDim S32x64 ![] bcast_S_S32x64 (constant S_ .f32 0x00000000#32)⟩, ⟨S32x32, u⟩,
    ⟨S32x32, broadcastInDim S32x32 ![] bcast_S_S32x32 (constant S_ .f32 0x00000000#32)⟩] concatenates_S32x64_S32x32_S32x32_S32x128_d1

/-- That matrix, the same for every head, zero rows below. -/
def placeOf (e : FVec Ideal S32x128 .f32) : FVec Ideal S128x1024 .bf16 :=
  truncf .bf16 (pad S128x1024 ![0, 0] ![96, 0] ![0, 0] (shapeCast S32x1024 (broadcastInDim S1x32x8x128 ![0, 1, 2, 3] bcast_S1x32x1x128_S1x32x8x128_0_1_2_3
    (shapeCast S1x32x1x128 e shapeCasts_S32x128_S1x32x1x128)) shapeCasts_S1x32x8x128_S32x1024)
    (sitofp .f32 (constantI S_ 32 0#32)) pads_S32x1024_S128x1024_0960_000 h_S_) bitsLt_bf16_f32

/-- The eight conditions: the context's, the samples', zeros. -/
def condOf (cc : FVec Ideal S1024 .f32) (cs : FVec Ideal S2x1024 .f32) : FVec Ideal S8x1024 .f32 :=
  concatenate S8x1024 0 [⟨S1x1024, broadcastInDim S1x1024 ![1] bcast_S1024_S1x1024_1 cc⟩, ⟨S2x1024, cs⟩,
    ⟨S5x1024, broadcastInDim S5x1024 ![] bcast_S_S5x1024 (constant S_ .f32 0x00000000#32)⟩] concatenates_S1x1024_S2x1024_S5x1024_S8x1024_d0

/-- The modulations' array, six of a condition and two spare. -/
def modsOf (v : FVec Ideal S8x6144 .f32) : FVec Ideal S8x8x1024 .f32 :=
  pad S8x8x1024 ![0, 0, 0] ![0, 2, 0] ![0, 0, 0] (shapeCast S8x6x1024 v shapeCasts_S8x6144_S8x6x1024) (sitofp .f32 (constantI S_ 32 0#32)) pads_S8x6x1024_S8x8x1024_000_020_000 h_S_

/-! ## The host lines, over any contents before them -/

theorem win_line (σ : Valuation τ sig (Elt Ideal)) : StableHlo.after hostOps1_2 σ (Proc.devRef .tc main_v16) = winOf (σ (Proc.devRef .tc main_arg6)) := by
  rfl
theorem wuq_line (σ : Valuation τ sig (Elt Ideal)) :
    StableHlo.after hostOps1_4 (StableHlo.after hostOps1_3 (StableHlo.after hostOps1_2 σ)) (Proc.devRef .tc main_v20) = wuqOf (σ (Proc.devRef .tc main_arg9)) := by
  rfl
theorem wuk_line (σ : Valuation τ sig (Elt Ideal)) :
    StableHlo.after hostOps1_6 (StableHlo.after hostOps1_5 (StableHlo.after hostOps1_4 σ)) (Proc.devRef .tc main_v34) = wukOf (σ (Proc.devRef .tc main_arg10)) := by
  rfl
theorem wuv_line (σ : Valuation τ sig (Elt Ideal)) :
    StableHlo.after hostOps1_8 (StableHlo.after hostOps1_7 (StableHlo.after hostOps1_6 σ)) (Proc.devRef .tc main_v38) = wukOf (σ (Proc.devRef .tc main_arg11)) := by
  rfl
theorem place_line (σ : Valuation τ sig (Elt Ideal)) :
    StableHlo.after hostOps1_10 (StableHlo.after hostOps1_9 (StableHlo.after hostOps1_8 σ)) (Proc.devRef .tc main_v52) = placeOf (placeHead unit32) := by
  rfl
theorem qg_line (σ : Valuation τ sig (Elt Ideal)) :
    StableHlo.after hostOps1_10 σ (Proc.devRef .tc main_v53) = shapeCast S1x384 (σ (Proc.devRef .tc main_arg7) : FVec Ideal S384 .f32) shapeCasts_S384_S1x384 := by
  rfl
theorem kvg_line (σ : Valuation τ sig (Elt Ideal)) :
    StableHlo.after hostOps1_10 σ (Proc.devRef .tc main_v54) = shapeCast S1x256 (σ (Proc.devRef .tc main_arg8) : FVec Ideal S256 .f32) shapeCasts_S256_S1x256 := by
  rfl
theorem n1_line (σ : Valuation τ sig (Elt Ideal)) :
    StableHlo.after hostOps1_10 σ (Proc.devRef .tc main_v55) = shapeCast S1x1024 (σ (Proc.devRef .tc main_arg5) : FVec Ideal S1024 .f32) shapeCasts_S1024_S1x1024 := by
  rfl
theorem x_line (σ : Valuation τ sig (Elt Ideal)) :
    StableHlo.after hostOps1_10 σ (Proc.devRef .tc main_v56) = shapeCast S1x8192x1024 (σ (Proc.devRef .tc main_arg0) : FVec Ideal S32x256x1024 .f32) shapeCasts_S32x256x1024_S1x8192x1024 := by
  rfl
theorem mods_line (σ : Valuation τ sig (Elt Ideal)) :
    StableHlo.after hostOps1_1 (StableHlo.after hostOps1 σ) (Proc.devRef .tc main_v6) = modsOf (σ (Proc.devRef .tc main_v4)) := by
  rfl
theorem cond_line (σ : Valuation τ sig (Elt Ideal)) :
    StableHlo.after hostOps0 σ (Proc.devRef .tc main_v2) = condOf (σ (Proc.devRef .tc main_arg2)) (σ (Proc.devRef .tc main_arg1)) := by
  rfl
theorem bias_line (σ : Valuation τ sig (Elt Ideal)) :
    StableHlo.after hostOps0 σ (Proc.devRef .tc main_v3) = shapeCast S1x6144 (σ (Proc.devRef .tc main_arg4) : FVec Ideal S6144 .f32) shapeCasts_S6144_S1x6144 := by
  rfl

end Cert.CtxIdeal.Value

end
-- ==== Proof.CtxHostAt.lean ====
/- The arrays the projections' call reads, prepared by the host, at an index. -/
module

public import proofs.«01_k».proof.Proof.CtxHost
public import proofs.«01_k».proof.Proof.CtxMath

@[expose] public section

set_option maxRecDepth 16384

noncomputable section

namespace Cert.CtxIdeal.Value

open Cert.CtxIdeal Cert.CtxIdeal.Gen Cert.CtxMath Idealize.ShloMosaic Idealize.ShloMosaic.TcCoe Idealize.SL.Sem

/-- The integer zero, as a float, is zero. -/
theorem sitofp_zero : (FloatOps.sitofp .f32 0#32 : Ideal .f32) = 0 := by
  show ((_ : ℝ) : EReal) = 0
  norm_num

theorem winOf_lo (w : FVec Ideal S1024x1696 .f32) (k : Fin 1024) (j : Fin 672) : winOf w (ix2 k ⟨j.val, by omega⟩) = w (ix2 k ⟨j.val, by omega⟩) := by
  pointwise [winOf]
  by_cases h : j.val < 640
  · exact dif_pos h
  · refine (dif_neg h).trans ((dif_pos (show j.val - 640 < 32 by omega)).trans ?_)
    exact congrArg (fun q => w (ix2 k q)) (Fin.ext (show 640 + (j.val - 640) = j.val by omega))

theorem winOf_hi (w : FVec Ideal S1024x1696 .f32) (k : Fin 1024) (j : Fin 1024) : winOf w (ix2 k ⟨768 + j.val, by omega⟩) = w (ix2 k ⟨672 + j.val, by omega⟩) := by
  pointwise [winOf]
  refine (dif_neg (show ¬ 768 + j.val < 640 by omega)).trans ((dif_neg (show ¬ 768 + j.val - 640 < 32 by omega)).trans
    ((dif_neg (show ¬ 768 + j.val - 640 - 32 < 32 by omega)).trans ((dif_neg (show ¬ 768 + j.val - 640 - 32 - 32 < 64 by omega)).trans ?_)))
  exact congrArg (fun q => w (ix2 k q)) (Fin.ext (show 672 + (768 + j.val - 640 - 32 - 32 - 64) = 672 + j.val by omega))

theorem wuqOf_at (w : FVec Ideal S384x768 .f32) (k : Fin 384) (j : Fin 1024) :
    wuqOf w (ix2 k j) = if h : j.val % 128 < 96 then w (ix2 k ⟨j.val / 128 * 96 + j.val % 128, by omega⟩) else 0 := by
  pointwise [wuqOf]
  have h8 : j.val / 128 < 8 := by omega
  rw [sitofp_zero]
  by_cases h : j.val % 128 < 96
  · rw [dif_pos ⟨h8, h⟩, dif_pos h]
  · rw [dif_neg fun h' => h h'.2, dif_neg h]

theorem wukOf_at (w : FVec Ideal S256x512 .f32) (k : Fin 256) (j : Fin 1024) :
    wukOf w (ix2 k j) = if h : j.val % 128 < 64 then w (ix2 k ⟨j.val / 128 * 64 + j.val % 128, by omega⟩) else 0 := by
  pointwise [wukOf]
  have h8 : j.val / 128 < 8 := by omega
  rw [sitofp_zero]
  by_cases h : j.val % 128 < 64
  · rw [dif_pos ⟨h8, h⟩, dif_pos h]
  · rw [dif_neg fun h' => h h'.2, dif_neg h]

theorem unit32_at (a b : Fin 32) : unit32 (ix2 a b) = if a = b then 1 else 0 := by
  pointwise [unit32]
  have one : (FloatOps.uitofp .f32 (1#1) : Ideal .f32) = 1 := by show ((_ : ℝ) : EReal) = 1; norm_num
  have zero : (FloatOps.uitofp .f32 (0#1) : Ideal .f32) = 0 := by show ((_ : ℝ) : EReal) = 0; norm_num
  have e : IntOp.cmpi .eq (IntOp.addi (BitVec.ofNat 32 a.val) 0#32) (BitVec.ofNat 32 b.val) = if a = b then 1#1 else 0#1 := by
    revert a b
    decide +kernel
  rw [e]
  split
  · exact one
  · exact zero

theorem placeHead_at (u : FVec Ideal S32x32 .f32) (k : Fin 32) (d : Fin 128) :
    placeHead u (ix2 k d) = if h : 64 ≤ d.val ∧ d.val < 96 then u (ix2 k ⟨d.val - 64, by omega⟩) else 0 := by
  pointwise [placeHead]
  by_cases h : d.val < 64
  · rw [dif_pos h, dif_neg (show ¬ (64 ≤ d.val ∧ d.val < 96) by omega)]
  · by_cases h' : d.val - 64 < 32
    · rw [dif_neg h, dif_pos h', dif_pos (show 64 ≤ d.val ∧ d.val < 96 by omega)]
    · rw [dif_neg h, dif_neg h', dif_neg (show ¬ (64 ≤ d.val ∧ d.val < 96) by omega)]

theorem placeOf_at (e : FVec Ideal S32x128 .f32) (k : Fin 128) (j : Fin 1024) :
    placeOf e (ix2 k j) = if h : k.val < 32 then e (ix2 ⟨k.val, h⟩ ⟨j.val % 128, by omega⟩) else 0 := by
  pointwise [placeOf]
  rw [sitofp_zero]

theorem condOf_zero (cc : FVec Ideal S1024 .f32) (cs : FVec Ideal S2x1024 .f32) (k : Fin 1024) : condOf cc cs (ix2 0 k) = cc (ix1 k) := by
  pointwise [condOf]

theorem modsOf_shift (v : FVec Ideal S8x6144 .f32) (k : Fin 1024) : modsOf v (ix3 0 0 k) = v (ix2 0 ⟨k.val, by omega⟩) := by
  pointwise [modsOf]

theorem modsOf_scale (v : FVec Ideal S8x6144 .f32) (k : Fin 1024) : modsOf v (ix3 0 1 k) = v (ix2 0 ⟨1024 + k.val, by omega⟩) := by
  pointwise [modsOf]

end Cert.CtxIdeal.Value

end
-- ==== Proof.CtxPay.lean ====
/- What the two calls' bodies compute of their blocks, read at an index. -/
module

public import proofs.«01_k».proof.Proof.Gen.CtxIdeal.Skeleton
public import proofs.«01_k».proof.Proof.CtxMath

@[expose] public section

set_option maxRecDepth 16384

noncomputable section

namespace Cert.CtxIdeal.Value

open Cert.CtxIdeal Cert.CtxIdeal.Gen Cert.CtxMath Idealize.ShloMosaic Idealize.ShloMosaic.TcCoe Idealize.SL.Sem

/-- The modulations' block. -/
theorem mod_pay_at (x0 : Vec Ideal S8x1024 .f32) (x1 : Vec Ideal S1024x1536 .f32) (x2 : Vec Ideal S1x1536 .f32) (i : Fin 8) (j : Fin 1536) :
    k0_pay1 x0 x1 x2 (ix2 i j) = modulation (fun k => x0 (ix2 i k)) (fun k => x1 (ix2 k j)) (x2 (ix2 0 j)) := by
  pointwise [k0_pay1]
  rfl

/-- The first projection of a row of the block, all its columns. -/
theorem z_at (x0 : Vec Ideal S1x512x1024 .f32) (x1 : Vec Ideal S1x8x1024 .f32) (x2 : Vec Ideal S1x1024 .f32) (x3 : Vec Ideal S1024x1792 .bf16) (r : Fin 512) (j : Fin 1792) :
    k1_pay5 x0 x1 x2 x3 (ix2 r j)
      = dot (modulated (fun k => x0 (ix3 0 r k)) (fun k => x2 (ix2 0 k)) (fun k => x1 (ix3 0 0 k)) (fun k => x1 (ix3 0 1 k))) (fun k => x3 (ix2 k j)) := by
  pointwise [k1_pay5]
  rfl

theorem zq_at (x0 : Vec Ideal S1x512x1024 .f32) (x1 : Vec Ideal S1x8x1024 .f32) (x2 : Vec Ideal S1x1024 .f32) (x3 : Vec Ideal S1024x1792 .bf16) (r : Fin 512) (j : Fin 384) :
    k1_pay6 x0 x1 x2 x3 (ix2 r j) = k1_pay5 x0 x1 x2 x3 (ix2 r ⟨j.val, by omega⟩) := by
  pointwise [k1_pay6]
theorem zkv_at (x0 : Vec Ideal S1x512x1024 .f32) (x1 : Vec Ideal S1x8x1024 .f32) (x2 : Vec Ideal S1x1024 .f32) (x3 : Vec Ideal S1024x1792 .bf16) (r : Fin 512) (j : Fin 256) :
    k1_pay7 x0 x1 x2 x3 (ix2 r j) = k1_pay5 x0 x1 x2 x3 (ix2 r ⟨384 + j.val, by omega⟩) := by
  pointwise [k1_pay7]
theorem zkr_at (x0 : Vec Ideal S1x512x1024 .f32) (x1 : Vec Ideal S1x8x1024 .f32) (x2 : Vec Ideal S1x1024 .f32) (x3 : Vec Ideal S1024x1792 .bf16) (r : Fin 512) (j : Fin 128) :
    k1_pay8 x0 x1 x2 x3 (ix2 r j) = k1_pay5 x0 x1 x2 x3 (ix2 r ⟨640 + j.val, by omega⟩) := by
  pointwise [k1_pay8]
theorem zval_at (x0 : Vec Ideal S1x512x1024 .f32) (x1 : Vec Ideal S1x8x1024 .f32) (x2 : Vec Ideal S1x1024 .f32) (x3 : Vec Ideal S1024x1792 .bf16) (r : Fin 512) (j : Fin 512) :
    k1_pay9 x0 x1 x2 x3 (ix2 r j) = k1_pay5 x0 x1 x2 x3 (ix2 r ⟨768 + j.val, by omega⟩) := by
  pointwise [k1_pay9]
theorem zgate_at (x0 : Vec Ideal S1x512x1024 .f32) (x1 : Vec Ideal S1x8x1024 .f32) (x2 : Vec Ideal S1x1024 .f32) (x3 : Vec Ideal S1024x1792 .bf16) (r : Fin 512) (j : Fin 512) :
    k1_pay10 x0 x1 x2 x3 (ix2 r j) = k1_pay5 x0 x1 x2 x3 (ix2 r ⟨1280 + j.val, by omega⟩) := by
  pointwise [k1_pay10]

/-- The sum of squares of the queries' latents. -/
theorem sq_at (x0 : Vec Ideal S1x512x1024 .f32) (x1 : Vec Ideal S1x8x1024 .f32) (x2 : Vec Ideal S1x1024 .f32) (x3 : Vec Ideal S1024x1792 .bf16) (r : Fin 512) :
    k1_pay12 x0 x1 x2 x3 (ix2 r 0) = ∑ k : Fin 384, k1_pay6 x0 x1 x2 x3 (ix2 r k) * k1_pay6 x0 x1 x2 x3 (ix2 r k) := by
  pointwise [k1_pay12]

/-- The queries. -/
theorem q_pay_at (v : FVec Ideal S512x384 .f32) (g : FVec Ideal S1x384 .f32) (s : FVec Ideal S512x1 .f32) (w : Vec Ideal S384x1024 .bf16) (o : Fin 1) (r : Fin 512) (j : Fin 1024)
    (hs : s (ix2 r 0) = ∑ k : Fin 384, v (ix2 r k) * v (ix2 r k)) :
    k1_pay13 v g s w (ix3 o r j) = dot (normed (Ideal.ofBits .f32 0x43C00000#32) (fun k => v (ix2 r k)) (fun k => g (ix2 0 k))) (fun k => w (ix2 k j)) := by
  pointwise [k1_pay13]
  rw [hs]
  rfl

/-- The normed latents of the keys and values. -/
theorem ckv_pay_at (v : FVec Ideal S512x256 .f32) (g : Vec Ideal S1x256 .f32) (r : Fin 512) (j : Fin 256) :
    k1_pay14 v g (ix2 r j) = normed (Ideal.ofBits .f32 0x43800000#32) (fun k => v (ix2 r k)) (fun k => g (ix2 0 k)) j := by
  pointwise [k1_pay14]
  rfl
theorem ckv_out_at (v : FVec Ideal S512x256 .f32) (g : Vec Ideal S1x256 .f32) (o : Fin 1) (r : Fin 512) (j : Fin 256) :
    k1_pay15 v g (ix3 o r j) = k1_pay14 v g (ix2 r j) := by
  pointwise [k1_pay15]

/-- The keys' own lanes of the rope half. -/
theorem kr_pay_at (v : FVec Ideal S512x128 .f32) (o : Fin 1) (r : Fin 512) (j : Fin 32) :
    k1_pay16 v (ix3 o r j) = v (ix2 r ⟨j.val, by omega⟩) := by
  pointwise [k1_pay16]

/-- The keys. -/
theorem k_pay_at (kr : FVec Ideal S512x128 .f32) (ckv : FVec Ideal S512x256 .f32) (w : Vec Ideal S256x1024 .bf16) (e : Vec Ideal S128x1024 .bf16) (o : Fin 1) (r : Fin 512) (j : Fin 1024) :
    k1_pay2 kr ckv w e (ix3 o r j) = dot (fun k => ckv (ix2 r k)) (fun k => w (ix2 k j)) + dot (fun k => kr (ix2 r k)) (fun k => e (ix2 k j)) := by
  pointwise [k1_pay2, k1_pay1]
  rfl

/-- The values. -/
theorem v_pay_at (ckv : FVec Ideal S512x256 .f32) (w : Vec Ideal S256x1024 .bf16) (o : Fin 1) (r : Fin 512) (j : Fin 1024) :
    k1_pay3 ckv w (ix3 o r j) = dot (fun k => ckv (ix2 r k)) (fun k => w (ix2 k j)) := by
  pointwise [k1_pay3, k1_pay1]
  rfl

/-- The convolution's gated input. -/
theorem u_pay_at (v g : FVec Ideal S512x512 .f32) (o : Fin 1) (r : Fin 512) (j : Fin 512) :
    k1_pay4 v g (ix3 o r j) = v (ix2 r j) * Ideal.logistic (g (ix2 r j)) := by
  pointwise [k1_pay4]

end Cert.CtxIdeal.Value

end
-- ==== Proof.CtxEntry.lean ====
/- What the projections' call finds in its arrays: the host's preparations of the arguments, and the modulations the first call left. -/
module

public import proofs.«01_k».proof.Proof.CtxHostAt
public import proofs.«01_k».proof.Proof.CtxPay
public import Idealize.ShloMosaic.Lib.Claim
public import proofs.«01_k».proof.Proof.CtxMath

@[expose] public section

set_option maxRecDepth 16384

noncomputable section

namespace Cert.CtxIdeal.Value

open Cert.CtxIdeal Cert.CtxIdeal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD)

theorem e_win : V13 m ρ c main_v16 = winOf (m ((c : Thread nD τ).loc main_arg6)) := by
  show W13 m ρ c (Proc.devRef .tc main_v16) = _
  rw [W13_of m ρ c main_v16 (by decide), W12_of m ρ c main_v16 (by decide), W11_of m ρ c main_v16 (by decide), W10_of m ρ c main_v16 (by decide), W9_of m ρ c main_v16 (by decide), W8_of m ρ c main_v16 (by decide), W7_of m ρ c main_v16 (by decide), W6_of m ρ c main_v16 (by decide)]
  exact (win_line (W4 m ρ c)).trans (by rw [W4_args m ρ c main_arg6 (by decide)])

theorem e_wuq : V13 m ρ c main_v20 = wuqOf (m ((c : Thread nD τ).loc main_arg9)) := by
  show W13 m ρ c (Proc.devRef .tc main_v20) = _
  rw [W13_of m ρ c main_v20 (by decide), W12_of m ρ c main_v20 (by decide), W11_of m ρ c main_v20 (by decide), W10_of m ρ c main_v20 (by decide), W9_of m ρ c main_v20 (by decide), W8_of m ρ c main_v20 (by decide)]
  exact (wuq_line (W4 m ρ c)).trans (by rw [W4_args m ρ c main_arg9 (by decide)])

theorem e_wuk : V13 m ρ c main_v34 = wukOf (m ((c : Thread nD τ).loc main_arg10)) := by
  show W13 m ρ c (Proc.devRef .tc main_v34) = _
  rw [W13_of m ρ c main_v34 (by decide), W12_of m ρ c main_v34 (by decide), W11_of m ρ c main_v34 (by decide), W10_of m ρ c main_v34 (by decide)]
  exact (wuk_line (W6 m ρ c)).trans (by rw [W6_args m ρ c main_arg10 (by decide)])

theorem e_wuv : V13 m ρ c main_v38 = wukOf (m ((c : Thread nD τ).loc main_arg11)) := by
  show W13 m ρ c (Proc.devRef .tc main_v38) = _
  rw [W13_of m ρ c main_v38 (by decide), W12_of m ρ c main_v38 (by decide)]
  exact (wuv_line (W8 m ρ c)).trans (by rw [W8_args m ρ c main_arg11 (by decide)])

theorem e_place : V13 m ρ c main_v52 = placeOf (placeHead unit32) := by
  show W13 m ρ c (Proc.devRef .tc main_v52) = _
  exact place_line (W10 m ρ c)

theorem e_qg : V13 m ρ c main_v53 = shapeCast S1x384 ((m ((c : Thread nD τ).loc main_arg7)) : FVec Ideal S384 .f32) shapeCasts_S384_S1x384 := by
  show W13 m ρ c (Proc.devRef .tc main_v53) = _
  exact (qg_line (W12 m ρ c)).trans (by rw [W12_args m ρ c main_arg7 (by decide)])

theorem e_kvg : V13 m ρ c main_v54 = shapeCast S1x256 ((m ((c : Thread nD τ).loc main_arg8)) : FVec Ideal S256 .f32) shapeCasts_S256_S1x256 := by
  show W13 m ρ c (Proc.devRef .tc main_v54) = _
  exact (kvg_line (W12 m ρ c)).trans (by rw [W12_args m ρ c main_arg8 (by decide)])

theorem e_n1 : V13 m ρ c main_v55 = shapeCast S1x1024 ((m ((c : Thread nD τ).loc main_arg5)) : FVec Ideal S1024 .f32) shapeCasts_S1024_S1x1024 := by
  show W13 m ρ c (Proc.devRef .tc main_v55) = _
  exact (n1_line (W12 m ρ c)).trans (by rw [W12_args m ρ c main_arg5 (by decide)])

theorem e_x : V13 m ρ c main_v56 = shapeCast S1x8192x1024 ((m ((c : Thread nD τ).loc main_arg0)) : FVec Ideal S32x256x1024 .f32) shapeCasts_S32x256x1024_S1x8192x1024 := by
  show W13 m ρ c (Proc.devRef .tc main_v56) = _
  exact (x_line (W12 m ρ c)).trans (by rw [W12_args m ρ c main_arg0 (by decide)])

/-! ## The first call -/

/-- What the first call finds in its arrays. -/
theorem e_cond : V1 m ρ c main_v2 = condOf (m ((c : Thread nD τ).loc main_arg2)) (m ((c : Thread nD τ).loc main_arg1)) := by
  exact cond_line (W0 m ρ c)
theorem e_aw : V1 m ρ c main_arg3 = (m ((c : Thread nD τ).loc main_arg3)) := by
  exact W1_args m ρ c main_arg3 (by decide)
theorem e_ab : V1 m ρ c main_v3 = shapeCast S1x6144 ((m ((c : Thread nD τ).loc main_arg4)) : FVec Ideal S6144 .f32) shapeCasts_S6144_S1x6144 := by
  exact bias_line (W0 m ρ c)

/-- Where a point of the first call's grid reads and writes. -/
theorem idx0 : ∀ t : Fin cfg0.N, win0_0.index t = ![0, 0] ∧ win0_1.index t = ![0, (grid0.coords t 0).val] ∧ win0_2.index t = ![0, (grid0.coords t 0).val]
    ∧ win0_3.index t = ![0, (grid0.coords t 0).val] :=
  (by decide +kernel : ∀ t : Fin grid0.N, _)

/-- A row vector laid out as a one-row matrix. -/
theorem bias_at (b : FVec Ideal S6144 .f32) (i : S1x6144.Idx) : (shapeCast S1x6144 b shapeCasts_S6144_S1x6144 : FVec Ideal S1x6144 .f32) i = b (ix1 (i 1)) := by
  idx_vars i
  pointwise

/-- The modulations of all eight conditions. -/
def allMods (x : FVec Ideal S8x1024 .f32) (aw : FVec Ideal S1024x6144 .f32) (ab : FVec Ideal S6144 .f32) : FVec Ideal S8x6144 .f32 :=
  fun i => modulation (fun k => x (ix2 (i 0) k)) (fun k => aw (ix2 k (i 1))) (ab (ix1 (i 1)))

theorem mods_final : (dat0 (V1 m ρ) c).arrAt 3 cfg0.N = allMods (condOf (m ((c : Thread nD τ).loc main_arg2)) (m ((c : Thread nD τ).loc main_arg1))) (m ((c : Thread nD τ).loc main_arg3)) (m ((c : Thread nD τ).loc main_arg4)) := by
  refine (dat0 (V1 m ρ) c).arrAt_eq_of_covers 3 _ (by decide +kernel) fun t _ y => ?_
  blk_simp
  rw [after0_3]; frame_out
  rw [eq_ix2 y]
  refine (mod_pay_at _ _ _ _ _).trans ?_
  refine congr (congrArg₂ modulation (funext fun k => ?_) (funext fun k => ?_)) ?_
  · blk_simp [iblk0]
    rw [e_cond]
    blk_ext [idx0 t]
  · blk_simp [iblk0]
    rw [e_aw]
    blk_ext [idx0 t]
  · blk_simp [iblk0]
    rw [e_ab, bias_at]
    blk_ext [idx0 t]

theorem e_mods : V13 m ρ c main_v6 = modsOf (allMods (condOf (m ((c : Thread nD τ).loc main_arg2)) (m ((c : Thread nD τ).loc main_arg1))) (m ((c : Thread nD τ).loc main_arg3)) (m ((c : Thread nD τ).loc main_arg4))) := by
  show W13 m ρ c (Proc.devRef .tc main_v6) = _
  rw [W13_of m ρ c main_v6 (by decide), W12_of m ρ c main_v6 (by decide), W11_of m ρ c main_v6 (by decide), W10_of m ρ c main_v6 (by decide), W9_of m ρ c main_v6 (by decide), W8_of m ρ c main_v6 (by decide), W7_of m ρ c main_v6 (by decide), W6_of m ρ c main_v6 (by decide), W5_of m ρ c main_v6 (by decide)]
  refine (mods_line (W2 m ρ c)).trans (congrArg modsOf ?_)
  exact (W2_arr m ρ c 3).trans (mods_final m ρ c)

end Cert.CtxIdeal.Value

end
-- ==== Proof.CtxRefAt.lean ====
/- The reference's projections of the prompt, named piece by piece and read at an index. -/
module

public import proofs.«01_k».proof.Proof.Gen.CtxRefIdeal.Run
public import proofs.«01_k».proof.Proof.CtxMath

@[expose] public section

set_option maxRecDepth 16384

noncomputable section

namespace Cert.CtxRefIdeal.Value

open Cert.CtxRefIdeal Cert.CtxRefIdeal.Gen Cert.CtxMath Idealize.ShloMosaic Idealize.ShloMosaic.TcCoe Idealize.SL.Sem

/-- The six modulations of the context's condition, end to end. -/
def mods (cc : FVec Ideal S1024 .f32) (aw : FVec Ideal S1024x6144 .f32) (ab : FVec Ideal S6144 .f32) : FVec Ideal S1x6144 .f32 :=
  broadcastInDim S1x6144 ![1] bcast_S6144_S1x6144_1 (addf (Host.dotGeneral dot_S1024_S1024x6144_S6144_0_0_n_1_n_n none (mulf cc (Host.divf (broadcastInDim S1024 ![] bcast_S_S1024 (constant S_ .f32 0x3F800000#32)) (addf (broadcastInDim S1024 ![] bcast_S_S1024 (constant S_ .f32 0x3F800000#32)) (Host.exp (Host.negf cc))))) aw) ab)

/-- The normed and modulated rows. -/
def rows (x : FVec Ideal S32x256x1024 .f32) (n1 : FVec Ideal S1024 .f32) (e : FVec Ideal S1x6144 .f32) : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 n1))) (broadcastInDim S32x256x1024 ![0, 1, 2] bcast_S1x1x1024_S32x256x1024_0_1_2 (broadcastInDim S1x1x1024 ![1, 2] bcast_S1x1024_S1x1x1024_1_2 (addf (broadcastInDim S1x1024 ![] bcast_S_S1x1024 (constant S_ .f32 0x3F800000#32)) (extractStridedSlice S1x1024 ![0, 1024] e slices_S1x6144_S1x1024_0_1024))))) (broadcastInDim S32x256x1024 ![0, 1, 2] bcast_S1x1x1024_S32x256x1024_0_1_2 (broadcastInDim S1x1x1024 ![1, 2] bcast_S1x1024_S1x1x1024_1_2 (extractStridedSlice S1x1024 ![0, 0] e slices_S1x6144_S1x1024_0_0)))

/-- Their first projection. -/
def projected (x : FVec Ideal S32x256x1024 .f32) (cc : FVec Ideal S1024 .f32) (aw : FVec Ideal S1024x6144 .f32) (ab : FVec Ideal S6144 .f32) (n1 : FVec Ideal S1024 .f32)
    (wi : FVec Ideal S1024x1696 .f32) : FVec Ideal S32x256x1696 .f32 :=
  Host.dotGeneral dot_S32x256x1024_S1024x1696_S32x256x1696_2_0_01_1_n_n none (rows x n1 (mods cc aw ab)) wi

/-- The latents of the keys and values, the first state returned. -/
def latents (z : FVec Ideal S32x256x1696 .f32) (gk : FVec Ideal S256 .f32) : FVec Ideal S32x256x256 .f32 :=
  mulf (mulf (extractStridedSlice S32x256x256 ![0, 0, 384] z slices_S32x256x1696_S32x256x256_0_0_384) (broadcastInDim S32x256x256 ![0, 1, 2] bcast_S32x256x1_S32x256x256_0_1_2 (Host.rsqrt (addf (Host.divf (broadcastInDim S32x256x1 ![0, 1] bcast_S32x256_S32x256x1_0_1 (Host.reduceAdd (mulf (extractStridedSlice S32x256x256 ![0, 0, 384] z slices_S32x256x1696_S32x256x256_0_0_384) (extractStridedSlice S32x256x256 ![0, 0, 384] z slices_S32x256x1696_S32x256x256_0_0_384)) (constant S_ .f32 0x00000000#32) reducesTo_S32x256x256_S32x256_d2 h_S_)) (broadcastInDim S32x256x1 ![] bcast_S_S32x256x1 (constant S_ .f32 0x43800000#32))) (broadcastInDim S32x256x1 ![] bcast_S_S32x256x1 (constant S_ .f32 0x358637BD#32)))))) (broadcastInDim S32x256x256 ![0, 1, 2] bcast_S1x1x256_S32x256x256_0_1_2 (broadcastInDim S1x1x256 ![2] bcast_S256_S1x1x256_2 gk))

/-- The keys' rotary part, the second. -/
def rotary (z : FVec Ideal S32x256x1696 .f32) : FVec Ideal S32x256x32 .f32 :=
  extractStridedSlice S32x256x32 ![0, 0, 640] z slices_S32x256x1696_S32x256x32_0_0_640

/-- The latents of the queries. -/
def queriesIn (z : FVec Ideal S32x256x1696 .f32) (gq : FVec Ideal S384 .f32) : FVec Ideal S32x256x384 .f32 :=
  mulf (mulf (extractStridedSlice S32x256x384 ![0, 0, 0] z slices_S32x256x1696_S32x256x384_0_0_0) (broadcastInDim S32x256x384 ![0, 1, 2] bcast_S32x256x1_S32x256x384_0_1_2 (Host.rsqrt (addf (Host.divf (broadcastInDim S32x256x1 ![0, 1] bcast_S32x256_S32x256x1_0_1 (Host.reduceAdd (mulf (extractStridedSlice S32x256x384 ![0, 0, 0] z slices_S32x256x1696_S32x256x384_0_0_0) (extractStridedSlice S32x256x384 ![0, 0, 0] z slices_S32x256x1696_S32x256x384_0_0_0)) (constant S_ .f32 0x00000000#32) reducesTo_S32x256x384_S32x256_d2 h_S_)) (broadcastInDim S32x256x1 ![] bcast_S_S32x256x1 (constant S_ .f32 0x43C00000#32))) (broadcastInDim S32x256x1 ![] bcast_S_S32x256x1 (constant S_ .f32 0x358637BD#32)))))) (broadcastInDim S32x256x384 ![0, 1, 2] bcast_S1x1x384_S32x256x384_0_1_2 (broadcastInDim S1x1x384 ![2] bcast_S384_S1x1x384_2 gq))

/-- The queries, in lanes. -/
def queries (z : FVec Ideal S32x256x1696 .f32) (gq : FVec Ideal S384 .f32) (wq : FVec Ideal S384x768 .f32) : FVec Ideal S32x256x1024 .bf16 :=
  truncf .bf16 (shapeCast _ (pad S32x256x8x128 ![0, 0, 0, 0] ![0, 0, 0, 32] ![0, 0, 0, 0] (shapeCast _ (Host.dotGeneral dot_S32x256x384_S384x768_S32x256x768_2_0_01_1_n_n none (queriesIn z gq) wq) shapeCasts_S32x256x768_S32x256x8x96) (sitofp .f32 (constantI S_ 32 0#32)) pads_S32x256x8x96_S32x256x8x128_000_000_000_0320 h_S_) shapeCasts_S32x256x8x128_S32x256x1024) bitsLt_bf16_f32

/-- A head's keys: its own lanes, then the rotary part, the same for every head. -/
def keysCat (z : FVec Ideal S32x256x1696 .f32) (gk : FVec Ideal S256 .f32) (wk : FVec Ideal S256x512 .f32) : FVec Ideal S32x256x8x96 .f32 :=
  concatenate S32x256x8x96 3 [⟨S32x256x8x64, (shapeCast _ (Host.dotGeneral dot_S32x256x256_S256x512_S32x256x512_2_0_01_1_n_n none (latents z gk) wk) shapeCasts_S32x256x512_S32x256x8x64)⟩, ⟨S32x256x8x32, (broadcastInDim S32x256x8x32 ![0, 1, 2, 3] bcast_S32x256x1x32_S32x256x8x32_0_1_2_3 (broadcastInDim S32x256x1x32 ![0, 1, 3] bcast_S32x256x32_S32x256x1x32_0_1_3 (extractStridedSlice S32x256x32 ![0, 0, 640] z slices_S32x256x1696_S32x256x32_0_0_640)))⟩] concatenates_S32x256x8x64_S32x256x8x32_S32x256x8x96_d3

/-- The keys, in lanes. -/
def keys (z : FVec Ideal S32x256x1696 .f32) (gk : FVec Ideal S256 .f32) (wk : FVec Ideal S256x512 .f32) : FVec Ideal S32x256x1024 .bf16 :=
  truncf .bf16 (shapeCast _ (pad S32x256x8x128 ![0, 0, 0, 0] ![0, 0, 0, 32] ![0, 0, 0, 0] (keysCat z gk wk) (sitofp .f32 (constantI S_ 32 0#32)) pads_S32x256x8x96_S32x256x8x128_000_000_000_0320 h_S_) shapeCasts_S32x256x8x128_S32x256x1024) bitsLt_bf16_f32

/-- The values, in lanes. -/
def values (z : FVec Ideal S32x256x1696 .f32) (gk : FVec Ideal S256 .f32) (wv : FVec Ideal S256x512 .f32) : FVec Ideal S32x256x1024 .bf16 :=
  truncf .bf16 (shapeCast _ (pad S32x256x8x128 ![0, 0, 0, 0] ![0, 0, 0, 64] ![0, 0, 0, 0] (shapeCast _ (Host.dotGeneral dot_S32x256x256_S256x512_S32x256x512_2_0_01_1_n_n none (latents z gk) wv) shapeCasts_S32x256x512_S32x256x8x64) (sitofp .f32 (constantI S_ 32 0#32)) pads_S32x256x8x64_S32x256x8x128_000_000_000_0640 h_S_) shapeCasts_S32x256x8x128_S32x256x1024) bitsLt_bf16_f32

/-- The convolution's gated input. -/
def gated (z : FVec Ideal S32x256x1696 .f32) : FVec Ideal S32x256x512 .f32 :=
  mulf (extractStridedSlice S32x256x512 ![0, 0, 0] (extractStridedSlice S32x256x1024 ![0, 0, 672] z slices_S32x256x1696_S32x256x1024_0_0_672) slices_S32x256x1024_S32x256x512_0_0_0) (Host.divf (broadcastInDim S32x256x512 ![] bcast_S_S32x256x512 (constant S_ .f32 0x3F800000#32)) (addf (broadcastInDim S32x256x512 ![] bcast_S_S32x256x512 (constant S_ .f32 0x3F800000#32)) (Host.exp (Host.negf (extractStridedSlice S32x256x512 ![0, 0, 512] (extractStridedSlice S32x256x1024 ![0, 0, 672] z slices_S32x256x1696_S32x256x1024_0_0_672) slices_S32x256x1024_S32x256x512_0_0_512)))))

/-- The integer zero, as a float, is zero. -/
theorem sitofp_zero : (FloatOps.sitofp .f32 0#32 : Ideal .f32) = 0 := by
  show ((_ : ℝ) : EReal) = 0
  norm_num

theorem mods_at (cc : FVec Ideal S1024 .f32) (aw : FVec Ideal S1024x6144 .f32) (ab : FVec Ideal S6144 .f32) (o : Fin 1) (j : Fin 6144) :
    mods cc aw ab (ix2 o j) = modulation (fun k => cc (ix1 k)) (fun k => aw (ix2 k j)) (ab (ix1 j)) := by
  pointwise [mods]
  rfl

theorem rows_at (x : FVec Ideal S32x256x1024 .f32) (n1 : FVec Ideal S1024 .f32) (e : FVec Ideal S1x6144 .f32) (p : Fin 32) (s : Fin 256) (k : Fin 1024) :
    rows x n1 e (ix3 p s k)
      = modulated (fun k => x (ix3 p s k)) (fun k => n1 (ix1 k)) (fun k => e (ix2 0 ⟨k.val, by omega⟩)) (fun k => e (ix2 0 ⟨1024 + k.val, by omega⟩)) k := by
  pointwise [rows]
  rfl

theorem projected_at (x : FVec Ideal S32x256x1024 .f32) (cc : FVec Ideal S1024 .f32) (aw : FVec Ideal S1024x6144 .f32) (ab : FVec Ideal S6144 .f32) (n1 : FVec Ideal S1024 .f32)
    (wi : FVec Ideal S1024x1696 .f32) (p : Fin 32) (s : Fin 256) (j : Fin 1696) :
    projected x cc aw ab n1 wi (ix3 p s j) = dot (fun k => rows x n1 (mods cc aw ab) (ix3 p s k)) (fun k => wi (ix2 k j)) := by
  pointwise [projected]
  rfl

theorem latents_at (z : FVec Ideal S32x256x1696 .f32) (gk : FVec Ideal S256 .f32) (p : Fin 32) (s : Fin 256) (j : Fin 256) :
    latents z gk (ix3 p s j) = normed (Ideal.ofBits .f32 0x43800000#32) (fun k => z (ix3 p s ⟨384 + k.val, by omega⟩)) (fun k => gk (ix1 k)) j := by
  pointwise [latents]
  rfl

theorem rotary_at (z : FVec Ideal S32x256x1696 .f32) (p : Fin 32) (s : Fin 256) (j : Fin 32) : rotary z (ix3 p s j) = z (ix3 p s ⟨640 + j.val, by omega⟩) := by
  pointwise [rotary]

theorem queriesIn_at (z : FVec Ideal S32x256x1696 .f32) (gq : FVec Ideal S384 .f32) (p : Fin 32) (s : Fin 256) (j : Fin 384) :
    queriesIn z gq (ix3 p s j) = normed (Ideal.ofBits .f32 0x43C00000#32) (fun k => z (ix3 p s ⟨k.val, by omega⟩)) (fun k => gq (ix1 k)) j := by
  pointwise [queriesIn]
  rfl

theorem queries_at (z : FVec Ideal S32x256x1696 .f32) (gq : FVec Ideal S384 .f32) (wq : FVec Ideal S384x768 .f32) (p : Fin 32) (s : Fin 256) (j : Fin 1024) :
    queries z gq wq (ix3 p s j)
      = if h : j.val % 128 < 96 then dot (fun k => queriesIn z gq (ix3 p s k)) (fun k => wq (ix2 k ⟨j.val / 128 * 96 + j.val % 128, by omega⟩)) else 0 := by
  pointwise [queries]
  have h8 : j.val / 128 < 8 := by omega
  rw [sitofp_zero]
  by_cases h : j.val % 128 < 96
  · rw [dif_pos ⟨h8, h⟩, dif_pos h]; rfl
  · rw [dif_neg fun h' => h h'.2, dif_neg h]

theorem keysCat_at (z : FVec Ideal S32x256x1696 .f32) (gk : FVec Ideal S256 .f32) (wk : FVec Ideal S256x512 .f32) (p : Fin 32) (s : Fin 256) (h : Fin 8) (d : Fin 96) :
    keysCat z gk wk (ix4 p s h d)
      = if hd : d.val < 64 then dot (fun k => latents z gk (ix3 p s k)) (fun k => wk (ix2 k ⟨h.val * 64 + d.val, by omega⟩))
        else z (ix3 p s ⟨640 + (d.val - 64), by omega⟩) := by
  pointwise [keysCat]
  rfl

theorem keys_at (z : FVec Ideal S32x256x1696 .f32) (gk : FVec Ideal S256 .f32) (wk : FVec Ideal S256x512 .f32) (p : Fin 32) (s : Fin 256) (j : Fin 1024) :
    keys z gk wk (ix3 p s j)
      = if h : j.val % 128 < 96 then keysCat z gk wk (ix4 p s ⟨j.val / 128, by omega⟩ ⟨j.val % 128, h⟩) else 0 := by
  pointwise [keys]
  have h8 : j.val / 128 < 8 := by omega
  rw [sitofp_zero]
  by_cases h : j.val % 128 < 96
  · rw [dif_pos ⟨h8, h⟩, dif_pos h]
  · rw [dif_neg fun h' => h h'.2, dif_neg h]

theorem values_at (z : FVec Ideal S32x256x1696 .f32) (gk : FVec Ideal S256 .f32) (wv : FVec Ideal S256x512 .f32) (p : Fin 32) (s : Fin 256) (j : Fin 1024) :
    values z gk wv (ix3 p s j)
      = if h : j.val % 128 < 64 then dot (fun k => latents z gk (ix3 p s k)) (fun k => wv (ix2 k ⟨j.val / 128 * 64 + j.val % 128, by omega⟩)) else 0 := by
  pointwise [values]
  have h8 : j.val / 128 < 8 := by omega
  rw [sitofp_zero]
  by_cases h : j.val % 128 < 64
  · rw [dif_pos ⟨h8, h⟩, dif_pos h]; rfl
  · rw [dif_neg fun h' => h h'.2, dif_neg h]

theorem gated_at (z : FVec Ideal S32x256x1696 .f32) (p : Fin 32) (s : Fin 256) (j : Fin 512) :
    gated z (ix3 p s j) = z (ix3 p s ⟨672 + j.val, by omega⟩) * Ideal.logistic (z (ix3 p s ⟨672 + (512 + j.val), by omega⟩)) := by
  pointwise [gated]
  rfl

end Cert.CtxRefIdeal.Value

end
-- ==== Proof.CtxBlocks.lean ====
/- The second call's blocks at an index, and the first projection of a block's row: the reference's, column for column. -/
module

public import proofs.«01_k».proof.Proof.CtxEntry
public import proofs.«01_k».proof.Proof.CtxRefAt
public import Idealize.ShloMosaic.Lib.Claim
public import proofs.«01_k».proof.Proof.CtxMath

@[expose] public section

set_option maxRecDepth 16384

noncomputable section

namespace Cert.CtxIdeal.Value

open Cert.CtxIdeal Cert.CtxIdeal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD)

/-- Where a point of the second call's grid reads and writes. -/
theorem idx1 : ∀ t : Fin cfg1.N, (win1_0.index t = ![(grid1.coords t 0).val, (grid1.coords t 1).val, 0] ∧ win1_1.index t = ![(grid1.coords t 0).val, 0, 0]
    ∧ win1_2.index t = ![0, 0] ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0])
    ∧ (win1_10.index t = ![(grid1.coords t 0).val, (grid1.coords t 1).val, 0] ∧ win1_11.index t = ![(grid1.coords t 0).val, (grid1.coords t 1).val, 0]
    ∧ win1_12.index t = ![(grid1.coords t 0).val, (grid1.coords t 1).val, 0] ∧ win1_13.index t = ![(grid1.coords t 0).val, (grid1.coords t 1).val, 0]
    ∧ win1_14.index t = ![(grid1.coords t 0).val, (grid1.coords t 1).val, 0] ∧ win1_15.index t = ![(grid1.coords t 0).val, (grid1.coords t 1).val, 0]) :=
  (by decide +kernel : ∀ t : Fin grid1.N, _)

/-- The row of the array that a row of a point's block is. -/
def row (t : Fin cfg1.N) (r : Fin 512) : Fin 8192 :=
  ⟨512 * (grid1.coords t 1).val + r.val, by have h : (grid1.coords t 1).val < 16 := (grid1.coords t 1).isLt; omega⟩
/-- Its prompt. -/
def prompt (R : Fin 8192) : Fin 32 := ⟨R.val / 256, by omega⟩
/-- Its place in the prompt. -/
def place (R : Fin 8192) : Fin 256 := ⟨R.val % 256, by omega⟩

theorem x_cast_at (x : FVec Ideal S32x256x1024 .f32) (i : S1x8192x1024.Idx) :
    (shapeCast S1x8192x1024 x shapeCasts_S32x256x1024_S1x8192x1024 : FVec Ideal S1x8192x1024 .f32) i = x (ix3 (prompt (i 1)) (place (i 1)) (i 2)) := by
  idx_vars i
  pointwise
  rfl
theorem qg_cast_at (b : FVec Ideal S384 .f32) (i : S1x384.Idx) : (shapeCast S1x384 b shapeCasts_S384_S1x384 : FVec Ideal S1x384 .f32) i = b (ix1 (i 1)) := by
  idx_vars i
  pointwise
theorem kvg_cast_at (b : FVec Ideal S256 .f32) (i : S1x256.Idx) : (shapeCast S1x256 b shapeCasts_S256_S1x256 : FVec Ideal S1x256 .f32) i = b (ix1 (i 1)) := by
  idx_vars i
  pointwise
theorem n1_cast_at (b : FVec Ideal S1024 .f32) (i : S1x1024.Idx) : (shapeCast S1x1024 b shapeCasts_S1024_S1x1024 : FVec Ideal S1x1024 .f32) i = b (ix1 (i 1)) := by
  idx_vars i
  pointwise

theorem b_x (t : Fin cfg1.N) (r : Fin 512) (k : Fin 1024) :
    iblk1 (V13 m ρ) c 0 t (ix3 0 r k) = (m ((c : Thread nD τ).loc main_arg0)) (ix3 (prompt (row t r)) (place (row t r)) k) := by
  blk_simp [iblk1]
  rw [e_x, x_cast_at]
  have h : ((View.whole main_v56).slice (win1_0.rect t)).emb (ix3 0 r k) = ix3 0 (row t r) k := by blk_ext [idx1 t, row]
  rw [h]
  rfl
theorem b_mods (t : Fin cfg1.N) (a : Fin 8) (k : Fin 1024) :
    iblk1 (V13 m ρ) c 1 t (ix3 0 a k) = modsOf (allMods (condOf (m ((c : Thread nD τ).loc main_arg2)) (m ((c : Thread nD τ).loc main_arg1))) (m ((c : Thread nD τ).loc main_arg3)) (m ((c : Thread nD τ).loc main_arg4))) (ix3 0 a k) := by
  blk_simp [iblk1]
  rw [e_mods]
  blk_ext [idx1 t]
theorem b_n1 (t : Fin cfg1.N) (k : Fin 1024) : iblk1 (V13 m ρ) c 2 t (ix2 0 k) = (m ((c : Thread nD τ).loc main_arg5)) (ix1 k) := by
  blk_simp [iblk1]
  rw [e_n1, n1_cast_at]
  blk_ext [idx1 t]
theorem b_win (t : Fin cfg1.N) (k : Fin 1024) (j : Fin 1792) : iblk1 (V13 m ρ) c 3 t (ix2 k j) = winOf (m ((c : Thread nD τ).loc main_arg6)) (ix2 k j) := by
  blk_simp [iblk1]
  rw [e_win]
  blk_ext [idx1 t]
theorem b_qg (t : Fin cfg1.N) (k : Fin 384) : iblk1 (V13 m ρ) c 4 t (ix2 0 k) = (m ((c : Thread nD τ).loc main_arg7)) (ix1 k) := by
  blk_simp [iblk1]
  rw [e_qg, qg_cast_at]
  blk_ext [idx1 t]
theorem b_kvg (t : Fin cfg1.N) (k : Fin 256) : iblk1 (V13 m ρ) c 5 t (ix2 0 k) = (m ((c : Thread nD τ).loc main_arg8)) (ix1 k) := by
  blk_simp [iblk1]
  rw [e_kvg, kvg_cast_at]
  blk_ext [idx1 t]
theorem b_wuq (t : Fin cfg1.N) (k : Fin 384) (j : Fin 1024) : iblk1 (V13 m ρ) c 6 t (ix2 k j) = wuqOf (m ((c : Thread nD τ).loc main_arg9)) (ix2 k j) := by
  blk_simp [iblk1]
  rw [e_wuq]
  blk_ext [idx1 t]
theorem b_wuk (t : Fin cfg1.N) (k : Fin 256) (j : Fin 1024) : iblk1 (V13 m ρ) c 7 t (ix2 k j) = wukOf (m ((c : Thread nD τ).loc main_arg10)) (ix2 k j) := by
  blk_simp [iblk1]
  rw [e_wuk]
  blk_ext [idx1 t]
theorem b_place (t : Fin cfg1.N) (k : Fin 128) (j : Fin 1024) : iblk1 (V13 m ρ) c 8 t (ix2 k j) = placeOf (placeHead unit32) (ix2 k j) := by
  blk_simp [iblk1]
  rw [e_place]
  blk_ext [idx1 t]
theorem b_wuv (t : Fin cfg1.N) (k : Fin 256) (j : Fin 1024) : iblk1 (V13 m ρ) c 9 t (ix2 k j) = wukOf (m ((c : Thread nD τ).loc main_arg11)) (ix2 k j) := by
  blk_simp [iblk1]
  rw [e_wuv]
  blk_ext [idx1 t]

/-- The reference's first projection from the call's arguments. -/
abbrev Z (m : (ℓ : Loc nD τ sig) → Buf (Elt Ideal) ℓ) (c : Dev nD) : FVec Ideal Cert.CtxRefIdeal.S32x256x1696 .f32 := Cert.CtxRefIdeal.Value.projected (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- A column of a block's row is the reference's column that has the same weights. -/
theorem z_block (t : Fin cfg1.N) (r : Fin 512) (j : Fin 1792) (j' : Fin 1696) (hj : ∀ k : Fin 1024, winOf (m ((c : Thread nD τ).loc main_arg6)) (ix2 k j) = (m ((c : Thread nD τ).loc main_arg6)) (ix2 k j')) :
    k1_pay5 (iblk1 (V13 m ρ) c 0 t) (iblk1 (V13 m ρ) c 1 t) (iblk1 (V13 m ρ) c 2 t) (iblk1 (V13 m ρ) c 3 t) (ix2 r j)
      = Z m c (ix3 (prompt (row t r)) (place (row t r)) j') := by
  refine (z_at _ _ _ _ _ _).trans (Eq.trans ?_ (Cert.CtxRefIdeal.Value.projected_at _ _ _ _ _ _ _ _ _).symm)
  refine congrArg₂ dot (funext fun k => ?_) (funext fun k => (b_win m ρ c t k j).trans (hj k))
  refine Eq.trans ?_ (Cert.CtxRefIdeal.Value.rows_at _ _ _ _ _ _).symm
  refine congrFun (congr (congr (congrArg₂ modulated (funext fun k => b_x m ρ c t r k) (funext fun k => b_n1 m ρ c t k)) (funext fun k => ?_)) (funext fun k => ?_)) k
  · refine (b_mods m ρ c t 0 k).trans ((modsOf_shift _ _).trans (Eq.trans ?_ (Cert.CtxRefIdeal.Value.mods_at _ _ _ _ _).symm))
    exact congr (congrArg₂ modulation (funext fun x => condOf_zero _ _ x) rfl) rfl
  · refine (b_mods m ρ c t 1 k).trans ((modsOf_scale _ _).trans (Eq.trans ?_ (Cert.CtxRefIdeal.Value.mods_at _ _ _ _ _).symm))
    exact congr (congrArg₂ modulation (funext fun x => condOf_zero _ _ x) rfl) rfl

end Cert.CtxIdeal.Value

end
-- ==== Proof.CtxValue.lean ====
/- The second call's values on a block, and the arrays it leaves: the reference's, row for row. -/
module

public import proofs.«01_k».proof.Proof.CtxBlocks
public import Idealize.ShloMosaic.Lib.Claim
public import proofs.«01_k».proof.Proof.CtxMath

@[expose] public section

set_option maxRecDepth 16384

noncomputable section

namespace Cert.CtxIdeal.Value

open Cert.CtxIdeal Cert.CtxIdeal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD) (t : Fin cfg1.N) (r : Fin 512)

/-- The queries' part of the projection. -/
theorem zq_blk (j : Fin 384) : k1_pay6 (iblk1 (V13 m ρ) c 0 t) (iblk1 (V13 m ρ) c 1 t) (iblk1 (V13 m ρ) c 2 t) (iblk1 (V13 m ρ) c 3 t) (ix2 r j) = Z m c (ix3 (prompt (row t r)) (place (row t r)) ⟨j.val, by omega⟩) :=
  (zq_at _ _ _ _ _ _).trans (z_block m ρ c t r _ _ fun k => winOf_lo _ k ⟨j.val, by omega⟩)
/-- The latents' part. -/
theorem zkv_blk (j : Fin 256) : k1_pay7 (iblk1 (V13 m ρ) c 0 t) (iblk1 (V13 m ρ) c 1 t) (iblk1 (V13 m ρ) c 2 t) (iblk1 (V13 m ρ) c 3 t) (ix2 r j) = Z m c (ix3 (prompt (row t r)) (place (row t r)) ⟨384 + j.val, by omega⟩) :=
  (zkv_at _ _ _ _ _ _).trans (z_block m ρ c t r _ _ fun k => winOf_lo _ k ⟨384 + j.val, by omega⟩)
/-- The rotary part. -/
theorem zkr_blk (j : Fin 32) : k1_pay8 (iblk1 (V13 m ρ) c 0 t) (iblk1 (V13 m ρ) c 1 t) (iblk1 (V13 m ρ) c 2 t) (iblk1 (V13 m ρ) c 3 t) (ix2 r ⟨j.val, by omega⟩) = Z m c (ix3 (prompt (row t r)) (place (row t r)) ⟨640 + j.val, by omega⟩) :=
  (zkr_at _ _ _ _ _ _).trans (z_block m ρ c t r _ _ fun k => winOf_lo _ k ⟨640 + j.val, by omega⟩)
/-- The convolution's values. -/
theorem zval_blk (j : Fin 512) : k1_pay9 (iblk1 (V13 m ρ) c 0 t) (iblk1 (V13 m ρ) c 1 t) (iblk1 (V13 m ρ) c 2 t) (iblk1 (V13 m ρ) c 3 t) (ix2 r j) = Z m c (ix3 (prompt (row t r)) (place (row t r)) ⟨672 + j.val, by omega⟩) :=
  (zval_at _ _ _ _ _ _).trans (z_block m ρ c t r _ _ fun k => winOf_hi _ k ⟨j.val, by omega⟩)
/-- Its gates. -/
theorem zgate_blk (j : Fin 512) : k1_pay10 (iblk1 (V13 m ρ) c 0 t) (iblk1 (V13 m ρ) c 1 t) (iblk1 (V13 m ρ) c 2 t) (iblk1 (V13 m ρ) c 3 t) (ix2 r j) = Z m c (ix3 (prompt (row t r)) (place (row t r)) ⟨672 + (512 + j.val), by omega⟩) :=
  have e : (⟨1280 + j.val, by omega⟩ : Fin 1792) = ⟨768 + (512 + j.val), by omega⟩ := Fin.ext (by show 1280 + j.val = 768 + (512 + j.val); omega)
  (zgate_at _ _ _ _ _ _).trans ((congrArg (fun q => k1_pay5 (iblk1 (V13 m ρ) c 0 t) (iblk1 (V13 m ρ) c 1 t) (iblk1 (V13 m ρ) c 2 t) (iblk1 (V13 m ρ) c 3 t) (ix2 r q)) e).trans (z_block m ρ c t r _ _ fun k => winOf_hi _ k ⟨512 + j.val, by omega⟩))

/-- The latents of a block. -/
theorem ckv_blk (j : Fin 256) : k1_pay14 (k1_pay7 (iblk1 (V13 m ρ) c 0 t) (iblk1 (V13 m ρ) c 1 t) (iblk1 (V13 m ρ) c 2 t) (iblk1 (V13 m ρ) c 3 t)) (iblk1 (V13 m ρ) c 5 t) (ix2 r j) = Cert.CtxRefIdeal.Value.latents (Z m c) (m ((c : Thread nD τ).loc main_arg8)) (ix3 (prompt (row t r)) (place (row t r)) j) :=
  (ckv_pay_at _ _ _ _).trans (Eq.trans (congrFun (congrArg₂ (normed _) (funext fun k => zkv_blk m ρ c t r k) (funext fun k => b_kvg m ρ c t k)) j) (Cert.CtxRefIdeal.Value.latents_at _ _ _ _ _).symm)

/-- The queries of a block. -/
theorem q_blk (o : Fin 1) (j : Fin 1024) : k1_pay13 (k1_pay6 (iblk1 (V13 m ρ) c 0 t) (iblk1 (V13 m ρ) c 1 t) (iblk1 (V13 m ρ) c 2 t) (iblk1 (V13 m ρ) c 3 t)) (iblk1 (V13 m ρ) c 4 t) (k1_pay12 (iblk1 (V13 m ρ) c 0 t) (iblk1 (V13 m ρ) c 1 t) (iblk1 (V13 m ρ) c 2 t) (iblk1 (V13 m ρ) c 3 t)) (iblk1 (V13 m ρ) c 6 t) (ix3 o r j)
    = Cert.CtxRefIdeal.Value.queries (Z m c) (m ((c : Thread nD τ).loc main_arg7)) (m ((c : Thread nD τ).loc main_arg9)) (ix3 (prompt (row t r)) (place (row t r)) j) := by
  refine (q_pay_at _ _ _ _ _ _ _ (sq_at _ _ _ _ _)).trans (Eq.trans ?_ (Cert.CtxRefIdeal.Value.queries_at _ _ _ _ _ _).symm)
  refine (congrArg₂ dot (congrArg₂ (normed _) (funext fun k => zq_blk m ρ c t r k) (funext fun k => b_qg m ρ c t k)) (funext fun k => (b_wuq m ρ c t k j).trans (wuqOf_at _ _ _))).trans ?_
  by_cases h : j.val % 128 < 96
  · simp only [dif_pos h]
    exact congrArg₂ dot (funext fun k => (Cert.CtxRefIdeal.Value.queriesIn_at _ _ _ _ _).symm) rfl
  · simp only [dif_neg h]
    exact Finset.sum_eq_zero fun k _ => mul_zero _

/-- The values of a block. -/
theorem v_blk (o : Fin 1) (j : Fin 1024) : k1_pay3 (k1_pay14 (k1_pay7 (iblk1 (V13 m ρ) c 0 t) (iblk1 (V13 m ρ) c 1 t) (iblk1 (V13 m ρ) c 2 t) (iblk1 (V13 m ρ) c 3 t)) (iblk1 (V13 m ρ) c 5 t)) (iblk1 (V13 m ρ) c 9 t) (ix3 o r j)
    = Cert.CtxRefIdeal.Value.values (Z m c) (m ((c : Thread nD τ).loc main_arg8)) (m ((c : Thread nD τ).loc main_arg11)) (ix3 (prompt (row t r)) (place (row t r)) j) := by
  refine (v_pay_at _ _ _ _ _).trans (Eq.trans ?_ (Cert.CtxRefIdeal.Value.values_at _ _ _ _ _ _).symm)
  refine (congrArg₂ dot (funext fun k => ckv_blk m ρ c t r k) (funext fun k => (b_wuv m ρ c t k j).trans (wukOf_at _ _ _))).trans ?_
  by_cases h : j.val % 128 < 64
  · simp only [dif_pos h]
  · simp only [dif_neg h]
    exact Finset.sum_eq_zero fun k _ => mul_zero _

/-- The convolution's input of a block. -/
theorem u_blk (o : Fin 1) (j : Fin 512) : k1_pay4 (k1_pay9 (iblk1 (V13 m ρ) c 0 t) (iblk1 (V13 m ρ) c 1 t) (iblk1 (V13 m ρ) c 2 t) (iblk1 (V13 m ρ) c 3 t)) (k1_pay10 (iblk1 (V13 m ρ) c 0 t) (iblk1 (V13 m ρ) c 1 t) (iblk1 (V13 m ρ) c 2 t) (iblk1 (V13 m ρ) c 3 t)) (ix3 o r j) = Cert.CtxRefIdeal.Value.gated (Z m c) (ix3 (prompt (row t r)) (place (row t r)) j) :=
  (u_pay_at _ _ _ _ _).trans (Eq.trans (congrArg₂ (fun a b => a * Ideal.logistic b) (zval_blk m ρ c t r j) (zgate_blk m ρ c t r j)) (Cert.CtxRefIdeal.Value.gated_at _ _ _ _).symm)

/-- The rotary part goes, unchanged, to each head's rotary lanes. -/
theorem rot_blk (j : Fin 1024) : dot (fun k => k1_pay8 (iblk1 (V13 m ρ) c 0 t) (iblk1 (V13 m ρ) c 1 t) (iblk1 (V13 m ρ) c 2 t) (iblk1 (V13 m ρ) c 3 t) (ix2 r k)) (fun k => (iblk1 (V13 m ρ) c 8 t) (ix2 k j))
    = if h : 64 ≤ j.val % 128 ∧ j.val % 128 < 96 then Z m c (ix3 (prompt (row t r)) (place (row t r)) ⟨640 + (j.val % 128 - 64), by omega⟩) else 0 := by
  refine (congrArg (dot _) (funext fun k => (b_place m ρ c t k j).trans (placeOf_at _ _ _))).trans ?_
  by_cases h : 64 ≤ j.val % 128 ∧ j.val % 128 < 96
  · rw [dif_pos h]
    refine (Finset.sum_eq_single (⟨j.val % 128 - 64, by omega⟩ : Fin 128) (fun k _ hk => ?_) fun hk => absurd (Finset.mem_univ _) hk).trans ?_
    · by_cases hk' : k.val < 32
      · beta_reduce
        rw [dif_pos hk', placeHead_at, dif_pos h, unit32_at, if_neg fun e => hk (Fin.ext (by have := congrArg Fin.val e; simpa using this))]
        exact mul_zero _
      · beta_reduce
        rw [dif_neg hk']
        exact mul_zero _
    · beta_reduce
      rw [dif_pos (show j.val % 128 - 64 < 32 by omega), placeHead_at, dif_pos h, unit32_at, if_pos rfl]
      exact (mul_one _).trans (zkr_blk m ρ c t r ⟨j.val % 128 - 64, by omega⟩)
  · rw [dif_neg h]
    refine Finset.sum_eq_zero fun k _ => ?_
    by_cases hk' : k.val < 32
    · beta_reduce
      rw [dif_pos hk', placeHead_at, dif_neg h]
      exact mul_zero _
    · beta_reduce
      rw [dif_neg hk']
      exact mul_zero _

/-- The keys of a block. -/
theorem k_blk (o : Fin 1) (j : Fin 1024) : k1_pay2 (k1_pay8 (iblk1 (V13 m ρ) c 0 t) (iblk1 (V13 m ρ) c 1 t) (iblk1 (V13 m ρ) c 2 t) (iblk1 (V13 m ρ) c 3 t)) (k1_pay14 (k1_pay7 (iblk1 (V13 m ρ) c 0 t) (iblk1 (V13 m ρ) c 1 t) (iblk1 (V13 m ρ) c 2 t) (iblk1 (V13 m ρ) c 3 t)) (iblk1 (V13 m ρ) c 5 t)) (iblk1 (V13 m ρ) c 7 t) (iblk1 (V13 m ρ) c 8 t) (ix3 o r j)
    = Cert.CtxRefIdeal.Value.keys (Z m c) (m ((c : Thread nD τ).loc main_arg8)) (m ((c : Thread nD τ).loc main_arg10)) (ix3 (prompt (row t r)) (place (row t r)) j) := by
  refine (k_pay_at _ _ _ _ _ _ _).trans (Eq.trans ?_ (Cert.CtxRefIdeal.Value.keys_at _ _ _ _ _ _).symm)
  refine (congrArg₂ (· + ·) ((congrArg₂ dot (funext fun k => ckv_blk m ρ c t r k) (funext fun k => (b_wuk m ρ c t k j).trans (wukOf_at _ _ _)))) (rot_blk m ρ c t r j)).trans ?_
  by_cases h : j.val % 128 < 96
  · rw [dif_pos h, Cert.CtxRefIdeal.Value.keysCat_at]
    by_cases hd : j.val % 128 < 64
    · simp only [dif_pos hd]
      rw [dif_neg fun h' => absurd h'.1 (by omega)]
      exact add_zero _
    · simp only [dif_neg hd]
      rw [dif_pos ⟨by omega, h⟩]
      exact (congrArg (· + _) (Finset.sum_eq_zero fun k _ => mul_zero _)).trans (zero_add _)
  · rw [dif_neg h, dif_neg fun h' => h h'.2]
    simp only [dif_neg (show ¬ j.val % 128 < 64 by omega)]
    exact (congrArg (· + _) (Finset.sum_eq_zero fun k _ => mul_zero _)).trans (zero_add _)

end Cert.CtxIdeal.Value

end
-- ==== Proof.CtxOut.lean ====
/- The arrays the second call leaves, and the program's results: the reference's. -/
module

public import proofs.«01_k».proof.Proof.CtxValue
public import Idealize.ShloMosaic.Lib.Claim
public import proofs.«01_k».proof.Proof.CtxMath

@[expose] public section

set_option maxRecDepth 16384

noncomputable section

namespace Cert.CtxIdeal.Value

open Cert.CtxIdeal Cert.CtxIdeal.Gen Cert.CtxMath Idealize.ShloMosaic Idealize.ShloMosaic.TcCoe Idealize.SL.Sem

open Idealize.ShloMosaic.Pipeline (Dat)

variable (m : (ℓ : Loc nD τ sig) → Buf (Elt Ideal) ℓ) (ρ : Dev nD → PrngReg) (c : Dev nD)

/-- The array of `ckv` after the call. -/
def arr_ckv (f : FVec Ideal S32x256x256 .f32) : FVec Ideal S1x8192x256 .f32 := fun i => f (ix3 (prompt (i 1)) (place (i 1)) (i 2))
theorem fin_ckv : (dat1 (V13 m ρ) c).arrAt 13 cfg1.N = arr_ckv (Cert.CtxRefIdeal.Value.latents (Z m c) (m ((c : Thread nD τ).loc main_arg8))) := by
  refine (dat1 (V13 m ρ) c).arrAt_eq_of_covers 13 _ (by decide +kernel) fun t _ y => ?_
  blk_simp
  rw [after1_13]
  unfold out1_13 k1_pay17
  frame_out
  rw [eq_ix3 y]
  have h : ((View.whole main_v57_3).slice (win1_13.rect t)).emb (ix3 (y 0) (y 1) (y 2)) = ix3 0 (row t (y 1)) (y 2) := by blk_ext [idx1 t, row]
  refine Eq.trans ?_ (congrArg (arr_ckv (Cert.CtxRefIdeal.Value.latents (Z m c) (m ((c : Thread nD τ).loc main_arg8)))) h).symm
  exact (ckv_out_at _ _ _ _ _).trans (ckv_blk m ρ c t _ _)
theorem cast_ckv (f : FVec Ideal S32x256x256 .f32) : (shapeCast S32x256x256 (arr_ckv f) shapeCasts_S1x8192x256_S32x256x256 : FVec Ideal S32x256x256 .f32) = f := by
  funext i
  idx_vars i
  pointwise [arr_ckv]
  refine congrArg f ?_
  refine congrArg₂ (fun a b => ix3 a b _) (Fin.ext ?_) (Fin.ext ?_)
  · simp only [prompt]; omega
  · simp only [place]; omega
theorem line_ckv (σ : Valuation τ sig (Elt Ideal)) : StableHlo.after hostOps2 σ (Proc.devRef .tc main_v58)
    = (shapeCast S32x256x256 (σ (Proc.devRef .tc main_v57_3)) shapeCasts_S1x8192x256_S32x256x256 : FVec Ideal S32x256x256 .f32) := rfl
/-- The result `ckv`. -/
theorem res_ckv : W15 m ρ c (Proc.devRef .tc main_v58) = Cert.CtxRefIdeal.Value.latents (Z m c) (m ((c : Thread nD τ).loc main_arg8)) := by
  refine (line_ckv (W14 m ρ c)).trans ?_
  refine (congrArg (fun a => (shapeCast S32x256x256 a shapeCasts_S1x8192x256_S32x256x256 : FVec Ideal S32x256x256 .f32)) ((W14_arr m ρ c 13).trans (fin_ckv m ρ c))).trans ?_
  exact cast_ckv _

/-- The array of `kr` after the call. -/
def arr_kr (f : FVec Ideal S32x256x32 .f32) : FVec Ideal S1x8192x32 .f32 := fun i => f (ix3 (prompt (i 1)) (place (i 1)) (i 2))
theorem fin_kr : (dat1 (V13 m ρ) c).arrAt 14 cfg1.N = arr_kr (Cert.CtxRefIdeal.Value.rotary (Z m c)) := by
  refine (dat1 (V13 m ρ) c).arrAt_eq_of_covers 14 _ (by decide +kernel) fun t _ y => ?_
  blk_simp
  rw [after1_14]
  unfold out1_14 k1_pay18
  frame_out
  rw [eq_ix3 y]
  have h : ((View.whole main_v57_4).slice (win1_14.rect t)).emb (ix3 (y 0) (y 1) (y 2)) = ix3 0 (row t (y 1)) (y 2) := by blk_ext [idx1 t, row]
  refine Eq.trans ?_ (congrArg (arr_kr (Cert.CtxRefIdeal.Value.rotary (Z m c))) h).symm
  exact (kr_pay_at _ _ _ _).trans ((zkr_blk m ρ c t _ _).trans (Cert.CtxRefIdeal.Value.rotary_at _ _ _ _).symm)
theorem cast_kr (f : FVec Ideal S32x256x32 .f32) : (shapeCast S32x256x32 (arr_kr f) shapeCasts_S1x8192x32_S32x256x32 : FVec Ideal S32x256x32 .f32) = f := by
  funext i
  idx_vars i
  pointwise [arr_kr]
  refine congrArg f ?_
  refine congrArg₂ (fun a b => ix3 a b _) (Fin.ext ?_) (Fin.ext ?_)
  · simp only [prompt]; omega
  · simp only [place]; omega
theorem line_kr (σ : Valuation τ sig (Elt Ideal)) : StableHlo.after hostOps2 σ (Proc.devRef .tc main_v59)
    = (shapeCast S32x256x32 (σ (Proc.devRef .tc main_v57_4)) shapeCasts_S1x8192x32_S32x256x32 : FVec Ideal S32x256x32 .f32) := rfl
/-- The result `kr`. -/
theorem res_kr : W15 m ρ c (Proc.devRef .tc main_v59) = Cert.CtxRefIdeal.Value.rotary (Z m c) := by
  refine (line_kr (W14 m ρ c)).trans ?_
  refine (congrArg (fun a => (shapeCast S32x256x32 a shapeCasts_S1x8192x32_S32x256x32 : FVec Ideal S32x256x32 .f32)) ((W14_arr m ρ c 14).trans (fin_kr m ρ c))).trans ?_
  exact cast_kr _

/-- The queries' gain is read as it is. -/
theorem gain_id (g : FVec Ideal S1x384 .f32) : k1_pay11 g = g := by
  funext i
  idx_vars i
  pointwise [k1_pay11]

/-- The array of `q` after the call. -/
def arr_q (f : FVec Ideal S32x256x1024 .bf16) : FVec Ideal S1x8192x1024 .bf16 := fun i => f (ix3 (prompt (i 1)) (place (i 1)) (i 2))
theorem fin_q : (dat1 (V13 m ρ) c).arrAt 10 cfg1.N = arr_q (Cert.CtxRefIdeal.Value.queries (Z m c) (m ((c : Thread nD τ).loc main_arg7)) (m ((c : Thread nD τ).loc main_arg9))) := by
  refine (dat1 (V13 m ρ) c).arrAt_eq_of_covers 10 _ (by decide +kernel) fun t _ y => ?_
  blk_simp
  rw [after1_10]
  unfold out1_10
  frame_out
  rw [eq_ix3 y]
  have h : ((View.whole main_v57_0).slice (win1_10.rect t)).emb (ix3 (y 0) (y 1) (y 2)) = ix3 0 (row t (y 1)) (y 2) := by blk_ext [idx1 t, row]
  refine Eq.trans ?_ (congrArg (arr_q (Cert.CtxRefIdeal.Value.queries (Z m c) (m ((c : Thread nD τ).loc main_arg7)) (m ((c : Thread nD τ).loc main_arg9)))) h).symm
  rw [gain_id]
  exact q_blk m ρ c t _ _ _
theorem cast_q (f : FVec Ideal S32x256x1024 .bf16) : (shapeCast S32x256x1024 (arr_q f) shapeCasts_S1x8192x1024_S32x256x1024 : FVec Ideal S32x256x1024 .bf16) = f := by
  funext i
  idx_vars i
  pointwise [arr_q]
  refine congrArg f ?_
  refine congrArg₂ (fun a b => ix3 a b _) (Fin.ext ?_) (Fin.ext ?_)
  · simp only [prompt]; omega
  · simp only [place]; omega
theorem line_q (σ : Valuation τ sig (Elt Ideal)) : StableHlo.after hostOps2 σ (Proc.devRef .tc main_v60)
    = (shapeCast S32x256x1024 (σ (Proc.devRef .tc main_v57_0)) shapeCasts_S1x8192x1024_S32x256x1024 : FVec Ideal S32x256x1024 .bf16) := rfl
/-- The result `q`. -/
theorem res_q : W15 m ρ c (Proc.devRef .tc main_v60) = Cert.CtxRefIdeal.Value.queries (Z m c) (m ((c : Thread nD τ).loc main_arg7)) (m ((c : Thread nD τ).loc main_arg9)) := by
  refine (line_q (W14 m ρ c)).trans ?_
  refine (congrArg (fun a => (shapeCast S32x256x1024 a shapeCasts_S1x8192x1024_S32x256x1024 : FVec Ideal S32x256x1024 .bf16)) ((W14_arr m ρ c 10).trans (fin_q m ρ c))).trans ?_
  exact cast_q _

/-- The array of `k` after the call. -/
def arr_k (f : FVec Ideal S32x256x1024 .bf16) : FVec Ideal S1x8192x1024 .bf16 := fun i => f (ix3 (prompt (i 1)) (place (i 1)) (i 2))
theorem fin_k : (dat1 (V13 m ρ) c).arrAt 11 cfg1.N = arr_k (Cert.CtxRefIdeal.Value.keys (Z m c) (m ((c : Thread nD τ).loc main_arg8)) (m ((c : Thread nD τ).loc main_arg10))) := by
  refine (dat1 (V13 m ρ) c).arrAt_eq_of_covers 11 _ (by decide +kernel) fun t _ y => ?_
  blk_simp
  rw [after1_11]
  unfold out1_11 k1_pay18 k1_pay19 k1_pay17
  frame_out
  rw [eq_ix3 y]
  have h : ((View.whole main_v57_1).slice (win1_11.rect t)).emb (ix3 (y 0) (y 1) (y 2)) = ix3 0 (row t (y 1)) (y 2) := by blk_ext [idx1 t, row]
  refine Eq.trans ?_ (congrArg (arr_k (Cert.CtxRefIdeal.Value.keys (Z m c) (m ((c : Thread nD τ).loc main_arg8)) (m ((c : Thread nD τ).loc main_arg10)))) h).symm
  exact k_blk m ρ c t _ _ _
theorem cast_k (f : FVec Ideal S32x256x1024 .bf16) : (shapeCast S32x256x1024 (arr_k f) shapeCasts_S1x8192x1024_S32x256x1024 : FVec Ideal S32x256x1024 .bf16) = f := by
  funext i
  idx_vars i
  pointwise [arr_k]
  refine congrArg f ?_
  refine congrArg₂ (fun a b => ix3 a b _) (Fin.ext ?_) (Fin.ext ?_)
  · simp only [prompt]; omega
  · simp only [place]; omega
theorem line_k (σ : Valuation τ sig (Elt Ideal)) : StableHlo.after hostOps2 σ (Proc.devRef .tc main_v61)
    = (shapeCast S32x256x1024 (σ (Proc.devRef .tc main_v57_1)) shapeCasts_S1x8192x1024_S32x256x1024 : FVec Ideal S32x256x1024 .bf16) := rfl
/-- The result `k`. -/
theorem res_k : W15 m ρ c (Proc.devRef .tc main_v61) = Cert.CtxRefIdeal.Value.keys (Z m c) (m ((c : Thread nD τ).loc main_arg8)) (m ((c : Thread nD τ).loc main_arg10)) := by
  refine (line_k (W14 m ρ c)).trans ?_
  refine (congrArg (fun a => (shapeCast S32x256x1024 a shapeCasts_S1x8192x1024_S32x256x1024 : FVec Ideal S32x256x1024 .bf16)) ((W14_arr m ρ c 11).trans (fin_k m ρ c))).trans ?_
  exact cast_k _

/-- The array of `v` after the call. -/
def arr_v (f : FVec Ideal S32x256x1024 .bf16) : FVec Ideal S1x8192x1024 .bf16 := fun i => f (ix3 (prompt (i 1)) (place (i 1)) (i 2))
theorem fin_v : (dat1 (V13 m ρ) c).arrAt 12 cfg1.N = arr_v (Cert.CtxRefIdeal.Value.values (Z m c) (m ((c : Thread nD τ).loc main_arg8)) (m ((c : Thread nD τ).loc main_arg11))) := by
  refine (dat1 (V13 m ρ) c).arrAt_eq_of_covers 12 _ (by decide +kernel) fun t _ y => ?_
  blk_simp
  rw [after1_12]
  unfold out1_12 k1_pay19 k1_pay17
  frame_out
  rw [eq_ix3 y]
  have h : ((View.whole main_v57_2).slice (win1_12.rect t)).emb (ix3 (y 0) (y 1) (y 2)) = ix3 0 (row t (y 1)) (y 2) := by blk_ext [idx1 t, row]
  refine Eq.trans ?_ (congrArg (arr_v (Cert.CtxRefIdeal.Value.values (Z m c) (m ((c : Thread nD τ).loc main_arg8)) (m ((c : Thread nD τ).loc main_arg11)))) h).symm
  exact v_blk m ρ c t _ _ _
theorem cast_v (f : FVec Ideal S32x256x1024 .bf16) : (shapeCast S32x256x1024 (arr_v f) shapeCasts_S1x8192x1024_S32x256x1024 : FVec Ideal S32x256x1024 .bf16) = f := by
  funext i
  idx_vars i
  pointwise [arr_v]
  refine congrArg f ?_
  refine congrArg₂ (fun a b => ix3 a b _) (Fin.ext ?_) (Fin.ext ?_)
  · simp only [prompt]; omega
  · simp only [place]; omega
theorem line_v (σ : Valuation τ sig (Elt Ideal)) : StableHlo.after hostOps2 σ (Proc.devRef .tc main_v62)
    = (shapeCast S32x256x1024 (σ (Proc.devRef .tc main_v57_2)) shapeCasts_S1x8192x1024_S32x256x1024 : FVec Ideal S32x256x1024 .bf16) := rfl
/-- The result `v`. -/
theorem res_v : W15 m ρ c (Proc.devRef .tc main_v62) = Cert.CtxRefIdeal.Value.values (Z m c) (m ((c : Thread nD τ).loc main_arg8)) (m ((c : Thread nD τ).loc main_arg11)) := by
  refine (line_v (W14 m ρ c)).trans ?_
  refine (congrArg (fun a => (shapeCast S32x256x1024 a shapeCasts_S1x8192x1024_S32x256x1024 : FVec Ideal S32x256x1024 .bf16)) ((W14_arr m ρ c 12).trans (fin_v m ρ c))).trans ?_
  exact cast_v _

/-- The array of `u` after the call. -/
def arr_u (f : FVec Ideal S32x256x512 .f32) : FVec Ideal S1x8192x512 .f32 := fun i => f (ix3 (prompt (i 1)) (place (i 1)) (i 2))
theorem fin_u : (dat1 (V13 m ρ) c).arrAt 15 cfg1.N = arr_u (Cert.CtxRefIdeal.Value.gated (Z m c)) := by
  refine (dat1 (V13 m ρ) c).arrAt_eq_of_covers 15 _ (by decide +kernel) fun t _ y => ?_
  blk_simp
  rw [after1_15]
  unfold out1_15
  frame_out
  rw [eq_ix3 y]
  have h : ((View.whole main_v57_5).slice (win1_15.rect t)).emb (ix3 (y 0) (y 1) (y 2)) = ix3 0 (row t (y 1)) (y 2) := by blk_ext [idx1 t, row]
  refine Eq.trans ?_ (congrArg (arr_u (Cert.CtxRefIdeal.Value.gated (Z m c))) h).symm
  exact u_blk m ρ c t _ _ _
theorem cast_u (f : FVec Ideal S32x256x512 .f32) : (shapeCast S32x256x512 (arr_u f) shapeCasts_S1x8192x512_S32x256x512 : FVec Ideal S32x256x512 .f32) = f := by
  funext i
  idx_vars i
  pointwise [arr_u]
  refine congrArg f ?_
  refine congrArg₂ (fun a b => ix3 a b _) (Fin.ext ?_) (Fin.ext ?_)
  · simp only [prompt]; omega
  · simp only [place]; omega
theorem line_u (σ : Valuation τ sig (Elt Ideal)) : StableHlo.after hostOps2 σ (Proc.devRef .tc main_v63)
    = (shapeCast S32x256x512 (σ (Proc.devRef .tc main_v57_5)) shapeCasts_S1x8192x512_S32x256x512 : FVec Ideal S32x256x512 .f32) := rfl
/-- The result `u`. -/
theorem res_u : W15 m ρ c (Proc.devRef .tc main_v63) = Cert.CtxRefIdeal.Value.gated (Z m c) := by
  refine (line_u (W14 m ρ c)).trans ?_
  refine (congrArg (fun a => (shapeCast S32x256x512 a shapeCasts_S1x8192x512_S32x256x512 : FVec Ideal S32x256x512 .f32)) ((W14_arr m ρ c 15).trans (fin_u m ρ c))).trans ?_
  exact cast_u _

end Cert.CtxIdeal.Value

end
-- ==== Proof.CtxRun.lean ====
/-
The run of layer 0's projections on the prompt (both calls and the host lines around them), with every buffer's last
contents: the frame certificate's own launch, read at every buffer instead of at the arguments alone.
-/
module

public import proofs.«01_k».proof.Proof.Gen.CtxIdeal.Frame

@[expose] public section

set_option maxRecDepth 16384

noncomputable section

namespace Cert.CtxIdeal

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every fair run ends with each buffer holding what the fold of the program's segments leaves in it, all counters zero. -/
theorem run_final : θ_run defs (onTc (τ := τ) (main (F := F))) ⟨m, fun _ => 0, ρ⟩ (fun r => (∀ c : Dev nD, ∀ b ∈ Pipeline.ucRefs τ sig,
      r.2.mem (((c : Thread nD τ)).1, b) = W15 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => ⟨h, funext fun g => hz g (.inr (no_unscoped g.2))⟩)

end Cert.CtxIdeal

end
-- ==== Proof.CtxRefRun.lean ====
/- The reference's run, its results by their names. -/
module

public import proofs.«01_k».proof.Proof.CtxRefAt

@[expose] public section

set_option maxRecDepth 16384

noncomputable section

namespace Cert.CtxRefIdeal.Value

open Cert.CtxRefIdeal Cert.CtxRefIdeal.Gen Idealize.ShloMosaic Idealize.ShloMosaic.TcCoe Idealize.SL.Sem

/-- The first projection from the reference's arguments. -/
abbrev Z (m : (ℓ : Loc nD τ sig) → Buf (Elt Ideal) ℓ) (c : Dev nD) : FVec Ideal S32x256x1696 .f32 :=
  projected (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = latents (Z m c) (m ((c.tc : Thread nD τ).loc main_arg8))
      ∧ r.2.mem ((c.tc : Thread nD τ).loc main_v34) = rotary (Z m c)
      ∧ r.2.mem ((c.tc : Thread nD τ).loc main_v75) = queries (Z m c) (m ((c.tc : Thread nD τ).loc main_arg7)) (m ((c.tc : Thread nD τ).loc main_arg9))
      ∧ r.2.mem ((c.tc : Thread nD τ).loc main_v78) = keys (Z m c) (m ((c.tc : Thread nD τ).loc main_arg8)) (m ((c.tc : Thread nD τ).loc main_arg10))
      ∧ r.2.mem ((c.tc : Thread nD τ).loc main_v81) = values (Z m c) (m ((c.tc : Thread nD τ).loc main_arg8)) (m ((c.tc : Thread nD τ).loc main_arg11))
      ∧ r.2.mem ((c.tc : Thread nD τ).loc main_v88) = gated (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h => h) (Cert.CtxRefIdeal.Value.run (F := Ideal) m ρ)

end Cert.CtxRefIdeal.Value

end
-- ==== Proof.CtxClaim.lean ====
/- The claims about the context projections of layer 0. -/
module

public import proofs.«01_k».proof.Defs
public import proofs.«01_k».proof.Proof.CtxOut
public import proofs.«01_k».proof.Proof.CtxRun
public import proofs.«01_k».proof.Proof.CtxRefRun
public import proofs.«01_k».proof.Proof.Gen.Ctx.Frame

@[expose] public section

set_option maxRecDepth 16384

noncomputable section

namespace Cert.CtxIdeal.Value

open Idealize.ShloMosaic Idealize.ShloMosaic.TcCoe Idealize.SL.Sem Cert.CtxIdeal Cert.CtxIdeal.Gen

/-- The kernel's run, its results the reference's pieces of its own arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = Cert.CtxRefIdeal.Value.latents (Z m c) (m ((c : Thread nD τ).loc main_arg8))
      ∧ r.2.mem ((c.tc : Thread nD τ).loc main_v59) = Cert.CtxRefIdeal.Value.rotary (Z m c)
      ∧ r.2.mem ((c.tc : Thread nD τ).loc main_v60) = Cert.CtxRefIdeal.Value.queries (Z m c) (m ((c : Thread nD τ).loc main_arg7)) (m ((c : Thread nD τ).loc main_arg9))
      ∧ r.2.mem ((c.tc : Thread nD τ).loc main_v61) = Cert.CtxRefIdeal.Value.keys (Z m c) (m ((c : Thread nD τ).loc main_arg8)) (m ((c : Thread nD τ).loc main_arg10))
      ∧ r.2.mem ((c.tc : Thread nD τ).loc main_v62) = Cert.CtxRefIdeal.Value.values (Z m c) (m ((c : Thread nD τ).loc main_arg8)) (m ((c : Thread nD τ).loc main_arg11))
      ∧ r.2.mem ((c.tc : Thread nD τ).loc main_v63) = Cert.CtxRefIdeal.Value.gated (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h.1 c _ (mem_uc main_v58 (by decide))).trans (res_ckv m ρ c),
    (h.1 c _ (mem_uc main_v59 (by decide))).trans (res_kr m ρ c),
    (h.1 c _ (mem_uc main_v60 (by decide))).trans (res_q m ρ c),
    (h.1 c _ (mem_uc main_v61 (by decide))).trans (res_k m ρ c),
    (h.1 c _ (mem_uc main_v62 (by decide))).trans (res_v m ρ c),
    (h.1 c _ (mem_uc main_v63 (by decide))).trans (res_u m ρ c),
    (h.1 c _ (mem_uc main_arg0 (by decide))).trans (W15_main_arg0 m ρ c),
    (h.1 c _ (mem_uc main_arg1 (by decide))).trans (W15_main_arg1 m ρ c),
    (h.1 c _ (mem_uc main_arg2 (by decide))).trans (W15_main_arg2 m ρ c),
    (h.1 c _ (mem_uc main_arg3 (by decide))).trans (W15_main_arg3 m ρ c),
    (h.1 c _ (mem_uc main_arg4 (by decide))).trans (W15_main_arg4 m ρ c),
    (h.1 c _ (mem_uc main_arg5 (by decide))).trans (W15_main_arg5 m ρ c),
    (h.1 c _ (mem_uc main_arg6 (by decide))).trans (W15_main_arg6 m ρ c),
    (h.1 c _ (mem_uc main_arg7 (by decide))).trans (W15_main_arg7 m ρ c),
    (h.1 c _ (mem_uc main_arg8 (by decide))).trans (W15_main_arg8 m ρ c),
    (h.1 c _ (mem_uc main_arg9 (by decide))).trans (W15_main_arg9 m ρ c),
    (h.1 c _ (mem_uc main_arg10 (by decide))).trans (W15_main_arg10 m ρ c),
    (h.1 c _ (mem_uc main_arg11 (by decide))).trans (W15_main_arg11 m ρ c)⟩) (run_final m ρ)

/-- The reference's projection of arguments that agree. -/
theorem z_of_agree (m : (ℓ : Loc nD τ sig) → Buf (Elt Ideal) ℓ) (m' : (ℓ : Loc Cert.CtxRefIdeal.nD Cert.CtxRefIdeal.τ Cert.CtxRefIdeal.sig) → Buf (Elt Ideal) ℓ) (c : Dev nD)
    (h : m' ((c.tc : Thread Cert.CtxRefIdeal.nD Cert.CtxRefIdeal.τ).loc Cert.CtxRefIdeal.main_arg0) = m ((c.tc : Thread nD τ).loc main_arg0)
      ∧ m' ((c.tc : Thread Cert.CtxRefIdeal.nD Cert.CtxRefIdeal.τ).loc Cert.CtxRefIdeal.main_arg1) = m ((c.tc : Thread nD τ).loc main_arg1)
      ∧ m' ((c.tc : Thread Cert.CtxRefIdeal.nD Cert.CtxRefIdeal.τ).loc Cert.CtxRefIdeal.main_arg2) = m ((c.tc : Thread nD τ).loc main_arg2)
      ∧ m' ((c.tc : Thread Cert.CtxRefIdeal.nD Cert.CtxRefIdeal.τ).loc Cert.CtxRefIdeal.main_arg3) = m ((c.tc : Thread nD τ).loc main_arg3)
      ∧ m' ((c.tc : Thread Cert.CtxRefIdeal.nD Cert.CtxRefIdeal.τ).loc Cert.CtxRefIdeal.main_arg4) = m ((c.tc : Thread nD τ).loc main_arg4)
      ∧ m' ((c.tc : Thread Cert.CtxRefIdeal.nD Cert.CtxRefIdeal.τ).loc Cert.CtxRefIdeal.main_arg5) = m ((c.tc : Thread nD τ).loc main_arg5)
      ∧ m' ((c.tc : Thread Cert.CtxRefIdeal.nD Cert.CtxRefIdeal.τ).loc Cert.CtxRefIdeal.main_arg6) = m ((c.tc : Thread nD τ).loc main_arg6)
      ∧ m' ((c.tc : Thread Cert.CtxRefIdeal.nD Cert.CtxRefIdeal.τ).loc Cert.CtxRefIdeal.main_arg7) = m ((c.tc : Thread nD τ).loc main_arg7)
      ∧ m' ((c.tc : Thread Cert.CtxRefIdeal.nD Cert.CtxRefIdeal.τ).loc Cert.CtxRefIdeal.main_arg8) = m ((c.tc : Thread nD τ).loc main_arg8)
      ∧ m' ((c.tc : Thread Cert.CtxRefIdeal.nD Cert.CtxRefIdeal.τ).loc Cert.CtxRefIdeal.main_arg9) = m ((c.tc : Thread nD τ).loc main_arg9)
      ∧ m' ((c.tc : Thread Cert.CtxRefIdeal.nD Cert.CtxRefIdeal.τ).loc Cert.CtxRefIdeal.main_arg10) = m ((c.tc : Thread nD τ).loc main_arg10)
      ∧ m' ((c.tc : Thread Cert.CtxRefIdeal.nD Cert.CtxRefIdeal.τ).loc Cert.CtxRefIdeal.main_arg11) = m ((c.tc : Thread nD τ).loc main_arg11)) : Cert.CtxRefIdeal.Value.Z m' c = Z m c := by
  obtain ⟨h0, h1, h2, h3, h4, h5, h6, h7, h8, h9, h10, h11⟩ := h
  unfold Cert.CtxRefIdeal.Value.Z Z
  rw [h0, h2, h3, h4, h5, h6]

/-- The kernel and the reference end with equal results. -/
theorem algebraic : Cert.algebraic_CtxIdeal_CtxRefIdeal (hCtxIdeal := Cert.CtxIdeal.Gen.facts) (hCtxRefIdeal := Cert.CtxRefIdeal.Gen.facts) := fun m g m' g' _ hagree =>
  ⟨_, _, _, _, _, _, run m g, (θ_run Cert.CtxRefIdeal.defs _ _).mono (fun _ h c => by
    have z := z_of_agree m m' c (hagree c)
    obtain ⟨h0, h1, h2, h3, h4, h5, h6, h7, h8, h9, h10, h11⟩ := hagree c
    obtain ⟨e0, e1, e2, e3, e4, e5, ha⟩ := h c
    refine ⟨e0.trans ?_, e1.trans ?_, e2.trans ?_, e3.trans ?_, e4.trans ?_, e5.trans ?_, ha⟩
    · rw [z, h8]
    · rw [z]
    · rw [z, h7, h9]
    · rw [z, h8, h10]
    · rw [z, h8, h11]
    · rw [z]) (Cert.CtxRefIdeal.Value.run_named m' g')⟩

/-- The reference ends with its counters at zero and its arguments as they were. -/
theorem frame_ref : Cert.quiescent_CtxRefIdeal (hCtxRefIdeal := Cert.CtxRefIdeal.Gen.facts) := fun m ρ _ =>
  (θ_run Cert.CtxRefIdeal.defs _ _).mono (fun r h => ⟨fun c => (h c).2.2.2.2.2.2, Idealize.ShloMosaic.sem_eq_zero_of_no_sems (by decide) r.2⟩)
    (Cert.CtxRefIdeal.Value.run_named m ρ)

end Cert.CtxIdeal.Value

end
-- ==== Proof.Consts.lean ====
/- The float constants the programs spell, as the extended reals they denote. -/
module

public import Idealize.ShloMosaic.PureOps.Ideal

@[expose] public section

noncomputable section

namespace Cert.Consts

open Idealize.ShloMosaic

/-- The start of a maximum. -/
theorem negInf : Ideal.ofBits .f32 0xFF800000#32 = ⊥ := by simp [Ideal.ofBits, Ideal.ieee]

/-- The bound that every number is below. -/
theorem posInf : Ideal.ofBits .f32 0x7F800000#32 = ⊤ := by simp [Ideal.ofBits, Ideal.ieee]

/-- The width of a query and a key of layer 0. -/
theorem ninetySix : Ideal.ofBits .f32 0x42C00000#32 = ((96 : ℝ) : EReal) := by
  simp [Ideal.ofBits, Ideal.ieee, -EReal.coe_mul]; norm_num

end Cert.Consts

end
-- ==== Proof.Softmax.lean ====
/- One row of attention over the extended reals. The kernel mixes the values by the exponentials and divides the mixture by
   their sum; the reference divides every exponential by the sum first. Where the scores are numbers, the two agree,
   whatever the values are. -/
module

public import proofs.«01_k».proof.Proof.Consts
public import Idealize.ShloMosaic.PureOps.Ideal.Laws
public import Idealize.ShloMosaic.Lib.Pointwise

@[expose] public section

noncomputable section

namespace Cert.Attn

open Idealize.ShloMosaic

/-- The largest of a family, as the programs fold it. -/
def top {n : ℕ} (s : Fin n → EReal) : EReal := Finset.univ.fold max (Ideal.ofBits .f32 0xFF800000#32) s

/-- A score's exponential, relative to the largest score. -/
def ex {n : ℕ} (s : Fin n → EReal) (j : Fin n) : EReal := Ideal.exp (s j - top s)

/-- The mixture of the values, divided at the end. -/
def mix {n : ℕ} (s v : Fin n → EReal) : EReal := Ideal.div (∑ j, ex s j * v j) (∑ j, ex s j)

/-- The largest of finitely many numbers is one of them. -/
theorem top_mem {n : ℕ} (hn : 0 < n) (s : Fin n → EReal) : ∃ j, top s = s j := by
  have h : top s = Finset.univ.sup s := by unfold top; rw [Consts.negInf]; rfl
  haveI : Nonempty (Fin n) := ⟨⟨0, hn⟩⟩
  obtain ⟨j, -, hj⟩ := Finset.exists_mem_eq_sup Finset.univ Finset.univ_nonempty s
  exact ⟨j, h.trans hj⟩

/-- A nonnegative number goes over a sum of extended reals. -/
theorem sum_mul_coe {ι : Type} (t : Finset ι) (f : ι → EReal) (x : ℝ) (hx : 0 ≤ x) : (∑ j ∈ t, f j) * (x : EReal) = ∑ j ∈ t, f j * (x : EReal) := by
  classical
  induction t using Finset.induction_on with
  | empty => simp
  | insert a t ha ih =>
    rw [Finset.sum_insert ha, Finset.sum_insert ha, ← ih]
    exact EReal.right_distrib_of_nonneg_of_ne_top (by exact_mod_cast hx) (EReal.coe_ne_top x) _ _

/-- A sum of numbers is a number. -/
theorem sum_coe {ι : Type} (t : Finset ι) (f : ι → ℝ) : ∑ j ∈ t, (f j : EReal) = ((∑ j ∈ t, f j : ℝ) : EReal) := by
  classical
  induction t using Finset.induction_on with
  | empty => simp
  | insert a t ha ih => rw [Finset.sum_insert ha, Finset.sum_insert ha, ih, EReal.coe_add]

/-- THE TWO SOFTMAXES: weights first, or the division at the end. -/
theorem mix_eq {n : ℕ} (hn : 0 < n) (s v : Fin n → EReal) (hs : ∀ j, ∃ f : ℝ, s j = f) :
    ∑ j, v j * Ideal.div (Ideal.exp (s j - max (Ideal.ofBits .f32 0xFF800000#32) (top s)))
        (∑ x, Ideal.exp (s x - max (Ideal.ofBits .f32 0xFF800000#32) (top s))) = mix s v := by
  have hm : max (Ideal.ofBits .f32 0xFF800000#32) (top s) = top s := by rw [Consts.negInf]; exact max_eq_right bot_le
  rw [hm]
  choose f hf using hs
  obtain ⟨i, hi⟩ := top_mem hn s
  have he : ∀ j, Ideal.exp (s j - top s) = ((Real.exp (f j - f i) : ℝ) : EReal) := fun j => by
    rw [hi, hf j, hf i, ← EReal.coe_sub]; rfl
  have hpos : 0 < ∑ j, Real.exp (f j - f i) := Finset.sum_pos (fun j _ => Real.exp_pos _) ⟨⟨0, hn⟩, Finset.mem_univ _⟩
  unfold mix ex
  simp only [he, sum_coe]
  rw [Ideal.div_coe hpos.ne', sum_mul_coe _ _ _ (by positivity)]
  refine Finset.sum_congr rfl fun j _ => ?_
  rw [Ideal.div_coe hpos.ne', mul_comm (v j), mul_assoc, mul_assoc, mul_comm (v j)]

/-- A sum of products of numbers, times a number, is a number. -/
theorem score_coe {n : ℕ} (a b : Fin n → EReal) (x : ℝ) (ha : ∀ j, ∃ f : ℝ, a j = f) (hb : ∀ j, ∃ f : ℝ, b j = f) :
    ∃ f : ℝ, (∑ j, a j * b j) * (x : EReal) = f := by
  choose f hf using ha
  choose g hg using hb
  refine ⟨(∑ j, f j * g j) * x, ?_⟩
  rw [EReal.coe_mul, ← sum_coe]
  simp only [hf, hg, EReal.coe_mul]

/-! ## Row maxima at any sizes -/

/-- The host's largest score of each row. -/
theorem rowMax_host {n0 n1 n2 n3 n4 : ℕ} {u : Shape} (v : FVec Ideal ⟨5, ![n0, n1, n2, n3, n4]⟩ .f32) (c : FVec Ideal u .f32)
    (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce FloatOps.maximumf v c h hu (ix4 i0 i1 i2 i3)
      = Finset.univ.fold max (c (Shape.Idx.first hu)) fun x : Fin n4 => v (ix5 i0 i1 i2 i3 x) := by
  rw [Host.reduce_eq_fold]
  exact h.fold_fiber_r5_a4 ..

/-- The kernel's. -/
theorem rowMax_kernel {n0 n1 : ℕ} (v : FVec Ideal ⟨2, ![n0, n1]⟩ .f32)
    (h : (⟨2, ![n0, n1]⟩ : Shape).Reduces [1] ⟨1, ![n0]⟩) (hφ : FKind.Formats FTy.f32)
    (hacc : 0xFF800000#32 = FKind.maximumf.neutral .f32 hφ) (i0 : Fin n0) :
    multiReduction .maximumf [1] ⟨1, ![n0]⟩ v 0xFF800000#32 h hφ hacc (ix1 i0) = top fun x : Fin n1 => v (ix2 i0 x) := by
  rw [multiReduction_maximumf_eq_fold]
  exact h.fold_fiber_r2_a1 ..

end Cert.Attn

end
-- ==== Proof.MlaPay.lean ====
/- What the kernel's body computes of one block of queries, one head's keys and values, read at an index. -/
module

public import proofs.«01_k».proof.Proof.Gen.MlaIdeal.Skeleton
public import proofs.«01_k».proof.Proof.Softmax

@[expose] public section

set_option maxRecDepth 16384

noncomputable section

namespace Cert.MlaIdeal.Value

open Cert.MlaIdeal Cert.MlaIdeal.Gen Idealize.ShloMosaic Idealize.ShloMosaic.TcCoe Idealize.SL.Sem

/-- The block's scores. -/
def scores (q : FVec Ideal S1x256x128 .bf16) (k : FVec Ideal S1x4608x128 .bf16) : FVec Ideal S256x4608 .f32 :=
  mulf (matmul dot_S256x128_S4608x128_S256x4608_1_1_0_0_n_n none (shapeCast S256x128 q shapeCasts_S1x256x128_S256x128 : FVec Ideal S256x128 .bf16)
    (shapeCast S4608x128 k shapeCasts_S1x4608x128_S4608x128 : FVec Ideal S4608x128 .bf16) (constant S256x4608 .f32 0x00000000#32))
    (broadcast S256x4608 (Named.named κ "mla_scale" 0x3DD105EC#32 : Ideal .f32))

/-- The largest score of each of its rows. -/
def rowMaxes (s : FVec Ideal S256x4608 .f32) : FVec Ideal S256 .f32 :=
  multiReduction .maximumf [1] S256 s 0xFF800000#32 reduces_S256x4608_S256 (.inl rfl) rfl

/-- The exponentials. -/
def exps (s : FVec Ideal S256x4608 .f32) (mx : FVec Ideal S256 .f32) : FVec Ideal S256x4608 .f32 :=
  exp (subf s (broadcastTo S256x4608 (shapeCast S256x1 mx shapeCasts_S256_S256x1 : FVec Ideal S256x1 .f32) broadcasts_S256x1_S256x4608))

/-- The mixture of the values over the sum of the exponentials. -/
def mixed (e : FVec Ideal S256x4608 .f32) (v : FVec Ideal S1x4608x128 .bf16) : FVec Ideal S1x256x128 .bf16 :=
  shapeCast S1x256x128 (truncf .bf16 (divf (matmul dot_S256x4608_S4608x128_S256x128_1_0_0_1_n_n none (truncf .bf16 e bitsLt_bf16_f32 : FVec Ideal S256x4608 .bf16)
      (shapeCast S4608x128 v shapeCasts_S1x4608x128_S4608x128 : FVec Ideal S4608x128 .bf16) (constant S256x128 .f32 0x00000000#32))
    (broadcastTo S256x128 (shapeCast S256x1 (multiReduction .add [1] S256 e 0x00000000#32 reduces_S256x4608_S256 (.inl rfl) rfl : FVec Ideal S256 .f32)
      shapeCasts_S256_S256x1 : FVec Ideal S256x1 .f32) broadcasts_S256x1_S256x128)) bitsLt_bf16_f32 : FVec Ideal S256x128 .bf16) shapeCasts_S256x128_S1x256x128

theorem pay_eq (q : FVec Ideal S1x256x128 .bf16) (k v : FVec Ideal S1x4608x128 .bf16) :
    k0_pay1 q k v = mixed (exps (scores q k) (rowMaxes (scores q k))) v := rfl

/-- The name the scale has in the programs stands for the root's reciprocal. -/
theorem scale : (Named.named κ "mla_scale" 0x3DD105EC#32 : Ideal .f32) = (((Real.sqrt 96)⁻¹ : ℝ) : EReal) :=
  IdealRules.named_const.ideal_named_scalar κ "mla_scale" (φ := .f32) _ _ rfl

theorem scores_at (q : FVec Ideal S1x256x128 .bf16) (k : FVec Ideal S1x4608x128 .bf16) (r : Fin 256) (j : Fin 4608) :
    scores q k (ix2 r j) = (∑ x : Fin 128, q (ix3 0 r x) * k (ix3 0 j x)) * (((Real.sqrt 96)⁻¹ : ℝ) : EReal) := by
  have e := scale
  pointwise [scores]
  rw [e]

theorem rowMaxes_at (s : FVec Ideal S256x4608 .f32) (r : Fin 256) : rowMaxes s (ix1 r) = Attn.top fun x : Fin 4608 => s (ix2 r x) :=
  Attn.rowMax_kernel s _ _ _ r

theorem exps_at (s : FVec Ideal S256x4608 .f32) (mx : FVec Ideal S256 .f32) (r : Fin 256) (j : Fin 4608) :
    exps s mx (ix2 r j) = Ideal.exp (s (ix2 r j) - mx (ix1 r)) := by
  pointwise [exps]

theorem mixed_at (e : FVec Ideal S256x4608 .f32) (v : FVec Ideal S1x4608x128 .bf16) (o : Fin 1) (r : Fin 256) (d : Fin 128) :
    mixed e v (ix3 o r d) = Ideal.div (∑ x : Fin 4608, e (ix2 r x) * v (ix3 0 x d)) (∑ x : Fin 4608, e (ix2 r x)) := by
  pointwise [mixed]

/-- The body's result at an index. -/
theorem pay_at (q : FVec Ideal S1x256x128 .bf16) (k v : FVec Ideal S1x4608x128 .bf16) (o : Fin 1) (r : Fin 256) (d : Fin 128) :
    k0_pay1 (F := Ideal) q k v (ix3 o r d) = Attn.mix (fun j : Fin 4608 => (∑ x : Fin 128, q (ix3 0 r x) * k (ix3 0 j x)) * (((Real.sqrt 96)⁻¹ : ℝ) : EReal))
      (fun j => v (ix3 0 j d)) := by
  rw [pay_eq, mixed_at]
  unfold Attn.mix Attn.ex
  simp only [exps_at, rowMaxes_at, scores_at]

end Cert.MlaIdeal.Value

end
-- ==== Proof.MlaRefAt.lean ====
/- The reference's attention of layer 0, read at an index: the score of a query and a key, the softmax of a row of scores,
   and the sum over the keys. -/
module

public import proofs.«01_k».proof.Proof.Gen.MlaRefIdeal.Run
public import proofs.«01_k».proof.Proof.Softmax

@[expose] public section

set_option maxRecDepth 16384

noncomputable section

namespace Cert.MlaRefIdeal.Value

open Cert.MlaRefIdeal Cert.MlaRefIdeal.Gen Idealize.ShloMosaic Idealize.ShloMosaic.TcCoe Idealize.SL.Sem

/-- All scores: each query of each head against each key, scaled. -/
def scores (q : FVec Ideal S2x4096x1024 .bf16) (k : FVec Ideal S2x4608x1024 .bf16) : FVec Ideal S2x8x1x4096x4608 .f32 :=
  mulf (transpose S2x8x1x4096x4608 [0, 1, 4, 3, 2] (Host.dotGeneral dot_S2x4608x8x128_S2x4096x8x1x128_S2x8x4608x4096x1_3_4_1_13_02_02 none
      (shapeCast _ (extf .f32 k bitsLt_bf16_f32) shapeCasts_S2x4608x1024_S2x4608x8x128)
      (shapeCast _ (extf .f32 q bitsLt_bf16_f32) shapeCasts_S2x4096x1024_S2x4096x8x1x128)) transposes_S2x8x4608x4096x1_S2x8x1x4096x4608_0_1_4_3_2)
    (broadcastInDim S2x8x1x4096x4608 ![] bcast_S_S2x8x1x4096x4608 (Host.divf (constant S_ .f32 0x3F800000#32) (Host.sqrt (constant S_ .f32 0x42C00000#32))))

/-- The largest score of each row. -/
def rowMaxes (s : FVec Ideal S2x8x1x4096x4608 .f32) : FVec Ideal S2x8x1x4096 .f32 :=
  Host.reduce FloatOps.maximumf s (constant S_ .f32 0xFF800000#32) reducesTo_S2x8x1x4096x4608_S2x8x1x4096_d4 h_S_

/-- Each score's exponential, after the largest score of its row has been taken away. -/
def exps (s : FVec Ideal S2x8x1x4096x4608 .f32) (mx : FVec Ideal S2x8x1x4096 .f32) : FVec Ideal S2x8x1x4096x4608 .f32 :=
  Host.exp (subf s (broadcastInDim S2x8x1x4096x4608 ![0, 1, 2, 3, 4] bcast_S2x8x1x4096x1_S2x8x1x4096x4608_0_1_2_3_4
    (broadcastInDim S2x8x1x4096x1 ![0, 1, 2, 3] bcast_S2x8x1x4096_S2x8x1x4096x1_0_1_2_3
      (maximumf (broadcastInDim S2x8x1x4096 ![] bcast_S_S2x8x1x4096 (constant S_ .f32 0xFF800000#32)) mx))))

/-- The weights: each exponential over the sum of its row. -/
def weights (e : FVec Ideal S2x8x1x4096x4608 .f32) : FVec Ideal S2x8x1x4096x4608 .f32 :=
  Host.divf e (broadcastInDim S2x8x1x4096x4608 ![0, 1, 2, 3, 4] bcast_S2x8x1x4096x1_S2x8x1x4096x4608_0_1_2_3_4
    (broadcastInDim S2x8x1x4096x1 ![0, 1, 2, 3] bcast_S2x8x1x4096_S2x8x1x4096x1_0_1_2_3
      (Host.reduceAdd e (constant S_ .f32 0x00000000#32) reducesTo_S2x8x1x4096x4608_S2x8x1x4096_d4 h_S_)))

/-- The values mixed by the weights, the heads side by side again. -/
def mixed (w : FVec Ideal S2x8x1x4096x4608 .f32) (v : FVec Ideal S2x4608x1024 .bf16) : FVec Ideal S2x4096x1024 .bf16 :=
  shapeCast _ (truncf .bf16 (transpose S2x4096x8x1x128 [0, 4, 1, 3, 2] (Host.dotGeneral dot_S2x4608x8x128_S2x8x1x4096x4608_S2x8x128x1x4096_1_4_3_23_02_01 none
      (shapeCast _ (extf .f32 v bitsLt_bf16_f32) shapeCasts_S2x4608x1024_S2x4608x8x128)
      (extf .f32 (truncf .bf16 w bitsLt_bf16_f32) bitsLt_bf16_f32)) transposes_S2x8x128x1x4096_S2x4096x8x1x128_0_4_1_3_2) bitsLt_bf16_f32)
    shapeCasts_S2x4096x8x1x128_S2x4096x1024

/-- The cached entries before the latent ones. -/
abbrev joined (a : FVec Ideal S2x512x1024 .bf16) (b : FVec Ideal S2x4096x1024 .bf16) : FVec Ideal S2x4608x1024 .bf16 :=
  concatenate S2x4608x1024 1 [⟨S2x512x1024, a⟩, ⟨S2x4096x1024, b⟩] concatenates_S2x512x1024_S2x4096x1024_S2x4608x1024_d1

/-- The whole of the reference's attention. -/
def attention (q : FVec Ideal S2x4096x1024 .bf16) (k v : FVec Ideal S2x4608x1024 .bf16) : FVec Ideal S2x4096x1024 .bf16 :=
  mixed (weights (exps (scores q k) (rowMaxes (scores q k)))) v

theorem res_eq (m : (ℓ : Loc nD τ sig) → Buf (Elt Ideal) ℓ) (c : Dev nD) : res_out0 m c =
    attention (m ((c.tc : Thread nD τ).loc main_arg0)) (joined (m ((c.tc : Thread nD τ).loc main_arg1)) (m ((c.tc : Thread nD τ).loc main_arg2)))
      (joined (m ((c.tc : Thread nD τ).loc main_arg3)) (m ((c.tc : Thread nD τ).loc main_arg4))) := rfl

/-- The score of a query and a key, one head. -/
theorem scores_at (q : FVec Ideal S2x4096x1024 .bf16) (k : FVec Ideal S2x4608x1024 .bf16) (b : Fin 2) (h : Fin 8) (r : Fin 4096) (j : Fin 4608) :
    scores q k (ix5 b h 0 r j) = (∑ x : Fin 128, k (ix3 b j ⟨h.val * 128 + x.val, by omega⟩) * q (ix3 b r ⟨h.val * 128 + x.val, by omega⟩))
      * (((Real.sqrt 96)⁻¹ : ℝ) : EReal) := by
  have e : Ideal.div 1 (Ideal.sqrt (Ideal.ofBits .f32 0x42C00000#32)) = (((Real.sqrt 96)⁻¹ : ℝ) : EReal) := by
    rw [Consts.ninetySix, Ideal.sqrt_coe, if_neg (by norm_num), Ideal.div_coe (by positivity), one_mul, one_div]
  pointwise [scores]
  rw [e]

theorem rowMaxes_at (s : FVec Ideal S2x8x1x4096x4608 .f32) (b : Fin 2) (h : Fin 8) (r : Fin 4096) :
    rowMaxes s (ix4 b h 0 r) = Attn.top fun x : Fin 4608 => s (ix5 b h 0 r x) :=
  Attn.rowMax_host s _ _ _ b h 0 r

theorem exps_at (s : FVec Ideal S2x8x1x4096x4608 .f32) (mx : FVec Ideal S2x8x1x4096 .f32) (b : Fin 2) (h : Fin 8) (r : Fin 4096) (j : Fin 4608) :
    exps s mx (ix5 b h 0 r j) = Ideal.exp (s (ix5 b h 0 r j) - max (Ideal.ofBits .f32 0xFF800000#32) (mx (ix4 b h 0 r))) := by
  pointwise [exps]

theorem weights_at (e : FVec Ideal S2x8x1x4096x4608 .f32) (b : Fin 2) (h : Fin 8) (r : Fin 4096) (j : Fin 4608) :
    weights e (ix5 b h 0 r j) = Ideal.div (e (ix5 b h 0 r j)) (∑ x : Fin 4608, e (ix5 b h 0 r x)) := by
  pointwise [weights]

theorem mixed_at (w : FVec Ideal S2x8x1x4096x4608 .f32) (v : FVec Ideal S2x4608x1024 .bf16) (b : Fin 2) (r : Fin 4096) (d : Fin 1024) :
    mixed w v (ix3 b r d) = ∑ x : Fin 4608, v (ix3 b x d) * w (ix5 b ⟨d.val / 128, by omega⟩ 0 r x) := by
  pointwise [mixed]

/-- The reference at an index, where the queries and the keys are numbers. -/
theorem attention_at (q : FVec Ideal S2x4096x1024 .bf16) (k v : FVec Ideal S2x4608x1024 .bf16)
    (hq : ∀ i, ∃ f : ℝ, q i = (f : EReal)) (hk : ∀ i, ∃ f : ℝ, k i = (f : EReal)) (b : Fin 2) (r : Fin 4096) (d : Fin 1024) :
    attention q k v (ix3 b r d) = Attn.mix (fun j : Fin 4608 => (∑ x : Fin 128, k (ix3 b j ⟨d.val / 128 * 128 + x.val, by omega⟩) * q (ix3 b r ⟨d.val / 128 * 128 + x.val, by omega⟩))
      * (((Real.sqrt 96)⁻¹ : ℝ) : EReal)) (fun j => v (ix3 b j d)) := by
  unfold attention
  rw [mixed_at, ← Attn.mix_eq (by omega) _ _ fun j => Attn.score_coe _ _ _ (fun _ => hk _) (fun _ => hq _)]
  simp only [weights_at, exps_at, rowMaxes_at, scores_at]

end Cert.MlaRefIdeal.Value

end
-- ==== Proof.MlaValue.lean ====
/- The attention of layer 0 for the latent tokens: the kernel's result array is the reference's, where the queries and the
   keys are numbers. -/
module

public import proofs.«01_k».proof.Proof.MlaPay
public import proofs.«01_k».proof.Proof.MlaRefAt
public import proofs.«01_k».proof.Proof.Gen.MlaIdeal.Value
public import Idealize.ShloMosaic.Lib.Pipeline.ValueKit
public import Idealize.ShloMosaic.Lib.Claim

@[expose] public section

set_option maxRecDepth 16384

noncomputable section

namespace Cert.MlaIdeal.Value

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

/-- The reference's attention from the call's arguments. -/
abbrev REF (q : FVec Ideal S2x4096x1024 .bf16) (kc : FVec Ideal S2x512x1024 .bf16) (ks : FVec Ideal S2x4096x1024 .bf16)
    (vc : FVec Ideal S2x512x1024 .bf16) (vs : FVec Ideal S2x4096x1024 .bf16) : FVec Ideal S2x4096x1024 .bf16 :=
  Cert.MlaRefIdeal.Value.attention q (Cert.MlaRefIdeal.Value.joined kc ks) (Cert.MlaRefIdeal.Value.joined vc vs)

/-- Where a point of the grid (batch, head, block of queries) reads and writes. -/
theorem idx : ∀ t : Fin cfg0.N, win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, (grid0.coords t 1).val] :=
  (by decide +kernel : ∀ t : Fin grid0.N, _)

/-- Joined keys are numbers where both parts are. -/
theorem joined_coe (a : FVec Ideal S2x512x1024 .bf16) (b : FVec Ideal S2x4096x1024 .bf16)
    (ha : ∀ i, ∃ f : ℝ, a i = (f : EReal)) (hb : ∀ i, ∃ f : ℝ, b i = (f : EReal)) (i : S2x4608x1024.Idx) :
    ∃ f : ℝ, Cert.MlaRefIdeal.Value.joined a b i = (f : EReal) := by
  idx_vars i
  pointwise
  split
  · exact ha _
  · exact hb _

/-- The keys as the region finds them. -/
theorem V_keys (c : Dev nD) : V m c main_v0 = Cert.MlaRefIdeal.Value.joined (m ((c : Thread nD τ).loc main_arg1)) (m ((c : Thread nD τ).loc main_arg2)) := by
  entry_read
  rfl

/-- The values as the region finds them. -/
theorem V_values (c : Dev nD) : V m c main_v1 = Cert.MlaRefIdeal.Value.joined (m ((c : Thread nD τ).loc main_arg3)) (m ((c : Thread nD τ).loc main_arg4)) := by
  entry_read
  rfl

/-- What the body stores at index `y` of its block is the reference at the array index `y` sits at. -/
theorem point (c : Dev nD) (t : Fin cfg0.N) (y : S1x256x128.Idx)
    (hq : ∀ i, ∃ f : ℝ, (m ((c : Thread nD τ).loc main_arg0) : FVec Ideal S2x4096x1024 .bf16) i = (f : EReal))
    (hkc : ∀ i, ∃ f : ℝ, (m ((c : Thread nD τ).loc main_arg1) : FVec Ideal S2x512x1024 .bf16) i = (f : EReal))
    (hks : ∀ i, ∃ f : ℝ, (m ((c : Thread nD τ).loc main_arg2) : FVec Ideal S2x4096x1024 .bf16) i = (f : EReal)) :
    k0_pay1 (iblk m c 0 t) (iblk m c 1 t) (iblk m c 2 t) y
      = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 3).blk t).view.emb y) := by
  have e : ((cfg0.win 3).blk t).view.emb y = ix3 (((cfg0.win 3).blk t).view.emb y 0) (((cfg0.win 3).blk t).view.emb y 1) (((cfg0.win 3).blk t).view.emb y 2) := eq_ix3 _
  rw [e]
  refine Eq.trans ?_ (Cert.MlaRefIdeal.Value.attention_at _ _ _ hq (joined_coe _ _ hkc hks) _ _ _).symm
  rw [eq_ix3 y]
  refine (pay_at _ _ _ _ _ _).trans ?_
  refine congrArg₂ Attn.mix (funext fun j => congrArg (· * (((Real.sqrt 96)⁻¹ : ℝ) : EReal)) (Finset.sum_congr rfl fun x _ => ?_)) (funext fun j => ?_)
  · rw [mul_comm]
    refine congrArg₂ (· * ·) ?_ ?_
    · blk_simp [iblk]
      rw [V_keys]
      blk_ext [idx t]
    · blk_ext [iblk, V, idx t]
  · blk_simp [iblk]
    rw [V_values]
    blk_ext [idx t]

/-- THE RESULT ARRAY of the kernel. -/
theorem final (c : Dev nD)
    (hq : ∀ i, ∃ f : ℝ, (m ((c : Thread nD τ).loc main_arg0) : FVec Ideal S2x4096x1024 .bf16) i = (f : EReal))
    (hkc : ∀ i, ∃ f : ℝ, (m ((c : Thread nD τ).loc main_arg1) : FVec Ideal S2x512x1024 .bf16) i = (f : EReal))
    (hks : ∀ i, ∃ f : ℝ, (m ((c : Thread nD τ).loc main_arg2) : FVec Ideal S2x4096x1024 .bf16) i = (f : EReal)) :
    (dats m 0 c).arrAt 3 (cfgs 0).N
      = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 3 _ (by decide +kernel) fun t _ y => ?_
  blk_simp
  rw [after0_3]; frame_out
  exact point m c t y hq hkc hks

end Cert.MlaIdeal.Value

end
-- ==== Proof.Finite.lean ====
/- The precondition of the attention calls, decoded: where the predicate holds, every query and every key is a number. -/
module

public import proofs.«01_k».proof.Defs
public import proofs.«01_k».proof.Proof.Consts
public import Idealize.ShloMosaic.Lib.ReduceAll
public import Idealize.ShloMosaic.PureOps.Ideal.Laws

@[expose] public section

noncomputable section

namespace Cert.Finite

open Idealize.ShloMosaic

/-- An extended real whose absolute value is below the infinite one is a number. -/
theorem coe_of_abs_lt (x : EReal) (h : Ideal.cmp .olt (max x (-x)) (Ideal.ofBits .f32 0x7F800000#32) = 1#1) : ∃ f : ℝ, x = (f : EReal) := by
  rw [Consts.posInf] at h
  induction x using EReal.rec with
  | bot => simp [Ideal.cmp] at h
  | top => simp [Ideal.cmp] at h
  | coe f => exact ⟨f, rfl⟩

/-- Both bits of a conjunction that is one are one. -/
theorem and_one {a b : BitVec 1} (h : IntOp.andi a b = 1#1) : a = 1#1 ∧ b = 1#1 := by
  revert a b; decide

instance : Subsingleton (⟨0, ![]⟩ : Shape).Idx := ⟨fun a b => funext fun i => i.elim0⟩

/-- One array of the predicate: all its absolute values are below the infinite one. -/
theorem all_coe {s : Shape} {axes : List (Fin s.rank)} (x : FVec Ideal s .bf16) (hb : (⟨0, ![]⟩ : Shape).BroadcastsInDim s (![] : Fin 0 → Fin s.rank))
    (hl : FTy.bf16.bits < FTy.f32.bits) (h : s.ReducesTo axes ⟨0, ![]⟩) (hu : 0 < (⟨0, ![]⟩ : Shape).numel) (j : (⟨0, ![]⟩ : Shape).Idx)
    (e : Host.reduce IntOp.andi (cmpf .olt (Host.absf (extf .f32 x hl)) (broadcastInDim s ![] hb (constant ⟨0, ![]⟩ .f32 0x7F800000#32)))
      (constantI ⟨0, ![]⟩ 1 1#1) h hu j = 1#1) (i : s.Idx) : ∃ f : ℝ, x i = (f : EReal) :=
  coe_of_abs_lt _ (Host.reduce_andi_all _ _ h hu j e i)

end Cert.Finite

end
-- ==== Proof.MlaClaim.lean ====
/- The claims about the attention of layer 0. -/
module

public import proofs.«01_k».proof.Defs
public import proofs.«01_k».proof.Proof.MlaValue
public import proofs.«01_k».proof.Proof.Finite
public import proofs.«01_k».proof.Proof.Gen.Mla.Frame

@[expose] public section

noncomputable section

namespace Cert.MlaIdeal.Value

open Idealize.ShloMosaic Idealize.ShloMosaic.TcCoe Idealize.SL.Sem Cert.MlaIdeal

/-- The precondition makes every query and every key a number. -/
theorem coe_of_pre (hF : Cert.Pre_finite_queries_and_keys.Facts) (m : (ℓ : Loc nD τ sig) → Buf (Elt Ideal) ℓ)
    (h : Cert.Pre_MlaIdeal_finite_queries_and_keys m) (c : Dev nD) :
    (∀ i, ∃ f : ℝ, (m ((c : Thread nD τ).loc main_arg0) : FVec Ideal S2x4096x1024 .bf16) i = (f : EReal))
    ∧ (∀ i, ∃ f : ℝ, (m ((c : Thread nD τ).loc main_arg1) : FVec Ideal S2x512x1024 .bf16) i = (f : EReal))
    ∧ (∀ i, ∃ f : ℝ, (m ((c : Thread nD τ).loc main_arg2) : FVec Ideal S2x4096x1024 .bf16) i = (f : EReal)) := by
  have e := congrFun (h c) fun i => i.elim0
  obtain ⟨e₁, e₂⟩ := Cert.Finite.and_one e
  obtain ⟨e₀, e₁⟩ := Cert.Finite.and_one e₁
  exact ⟨fun i => Cert.Finite.all_coe _ _ _ _ _ _ e₀ i, fun i => Cert.Finite.all_coe _ _ _ _ _ _ e₁ i, fun i => Cert.Finite.all_coe _ _ _ _ _ _ e₂ i⟩

/-- The named constant is the reciprocal of the root of the width. -/
theorem preserves : Cert.preserves_Mla_MlaIdeal := IdealRules.named_const.statement _ _ _ _ _ rfl

/-- The reference's result, from the kernel's memory. -/
theorem res_of_agree (m : (ℓ : Loc nD τ sig) → Buf (Elt Ideal) ℓ) (m' : (ℓ : Loc Cert.MlaRefIdeal.nD Cert.MlaRefIdeal.τ Cert.MlaRefIdeal.sig) → Buf (Elt Ideal) ℓ) (c : Dev nD)
    (h : m' ((c.tc : Thread Cert.MlaRefIdeal.nD Cert.MlaRefIdeal.τ).loc Cert.MlaRefIdeal.main_arg0) = m ((c.tc : Thread nD τ).loc main_arg0)
      ∧ m' ((c.tc : Thread Cert.MlaRefIdeal.nD Cert.MlaRefIdeal.τ).loc Cert.MlaRefIdeal.main_arg1) = m ((c.tc : Thread nD τ).loc main_arg1)
      ∧ m' ((c.tc : Thread Cert.MlaRefIdeal.nD Cert.MlaRefIdeal.τ).loc Cert.MlaRefIdeal.main_arg2) = m ((c.tc : Thread nD τ).loc main_arg2)
      ∧ m' ((c.tc : Thread Cert.MlaRefIdeal.nD Cert.MlaRefIdeal.τ).loc Cert.MlaRefIdeal.main_arg3) = m ((c.tc : Thread nD τ).loc main_arg3)
      ∧ m' ((c.tc : Thread Cert.MlaRefIdeal.nD Cert.MlaRefIdeal.τ).loc Cert.MlaRefIdeal.main_arg4) = m ((c.tc : Thread nD τ).loc main_arg4)) :
    Cert.MlaRefIdeal.Value.res_out0 m' c = REF (m ((c : Thread nD τ).loc main_arg0)) (m ((c : Thread nD τ).loc main_arg1)) (m ((c : Thread nD τ).loc main_arg2))
        (m ((c : Thread nD τ).loc main_arg3)) (m ((c : Thread nD τ).loc main_arg4)) := by
  rw [Cert.MlaRefIdeal.Value.res_eq, h.1, h.2.1, h.2.2.1, h.2.2.2.1, h.2.2.2.2]

/-- The kernel and the reference end with equal results. -/
theorem algebraic (hF : Cert.Pre_finite_queries_and_keys.Facts) : Cert.algebraic_MlaIdeal_MlaRefIdeal_pre_finite_queries_and_keys (hMlaIdeal := Cert.MlaIdeal.Gen.facts) (hMlaRefIdeal := Cert.MlaRefIdeal.Gen.facts) := by
  pair_intro
  · run_from Cert.MlaIdeal.Value.run_blocks m g
  · run_from Cert.MlaRefIdeal.Value.run m' g'
    exact (res_of_agree m m' c (hagree c)).trans (final m c (coe_of_pre hF m hpre c).1 (coe_of_pre hF m hpre c).2.1 (coe_of_pre hF m hpre c).2.2).symm

/-- The reference ends with its counters at zero and its arguments as they were. -/
theorem frame_ref : Cert.quiescent_MlaRefIdeal := fun m ρ _ =>
  (θ_run Cert.MlaRefIdeal.defs _ _).mono (fun r h => ⟨fun c => (h c).2, Idealize.ShloMosaic.sem_eq_zero_of_no_sems (by decide) r.2⟩)
    (Cert.MlaRefIdeal.Value.run (F := Ideal) m ρ)

end Cert.MlaIdeal.Value

end
-- ==== Proof.FfnRun.lean ====
/- One call of the kernel body of the experts' feed-forward part, on any tables: the weights held in the two scratch
   buffers, and the block of rows it leaves. -/
module

public import proofs.«01_k».proof.Proof.Gen.Ffn.Skeleton
public import proofs.«01_k».proof.Proof.Gen.Ffn.Launch
public import Idealize.ShloMosaic.Lib.Pipeline.ValueKit

@[expose] public section

set_option maxRecDepth 16384
set_option Elab.async false

noncomputable section

namespace Cert.Ffn.Tab

open Cert.Ffn Cert.Ffn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-! ## The words the body decides by -/

/-- The table of the tiles' experts and the number of tiles in use, as the body is handed them. -/
abbrev expertsM : Memref sig .tc .smem S288 .i32 := Memref.whole main_arg0
abbrev usedM : Memref sig .tc .smem S1 .i32 := Memref.whole main_arg1
/-- The two scratch buffers: an expert's weights, cast. -/
abbrev upM : Memref sig .tc .vmem S1024x2048 .bf16 := Memref.whole cc0_scratch0
abbrev downM : Memref sig .tc .vmem S1024x1024 .bf16 := Memref.whole cc0_scratch1

/-- The word of the table of experts at this point, and at the one before (at the first point: its own). -/
abbrev here (T0 : S288.Idx → Elt Bits .i32) (i : grid0.Coords) : Elt Bits .i32 :=
  View.readAt (Elt Bits) expertsM.view (Rect.unit (s := S288) (k0_off1 i) S1.size (k0_off1_inb i)).toLoadRect T0 (Shape.Idx.first (numel1_S1.symm ▸ Nat.one_pos))
abbrev back (T0 : S288.Idx → Elt Bits .i32) (i : grid0.Coords) : Elt Bits .i32 :=
  View.readAt (Elt Bits) expertsM.view (Rect.unit (s := S288) (k0_off2 i) S1.size (k0_off2_inb i)).toLoadRect T0 (Shape.Idx.first (numel1_S1.symm ▸ Nat.one_pos))
/-- The number of tiles in use. -/
abbrev count (T1 : S1.Idx → Elt Bits .i32) : Elt Bits .i32 :=
  View.readAt (Elt Bits) usedM.view (Rect.unit (s := S1) ![0] S1.size inb_S1_S1_0).toLoadRect T1 (Shape.Idx.first (numel1_S1.symm ▸ Nat.one_pos))

/-- The body casts the expert's weights afresh. -/
abbrev Refill (T0 : S288.Idx → Elt Bits .i32) (i : grid0.Coords) : Prop :=
  Scalar.cmpi .ne (Scalar.extui (Scalar.ori (Scalar.cmpi .eq (BitVec.ofNat 32 (i 0).val) 0#32) (Scalar.cmpi .ne (here T0 i) (back T0 i)))) 0#32 = 1#1
/-- The tile is in use; and the test for the tiles that are not. -/
abbrev Used (T1 : S1.Idx → Elt Bits .i32) (i : grid0.Coords) : Prop := k0_cond2 i (count T1) = 1#1
abbrev Spare (T1 : S1.Idx → Elt Bits .i32) (i : grid0.Coords) : Prop := k0_cond3 i (count T1) = 1#1

/-! ## The four ways through the body -/

set_option backward.proofsInPublic true in
set_option maxHeartbeats 8000000 in
/-- What the body leaves where the weights are cast afresh and the tile is in use, with its run. -/
noncomputable def fillUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : Used T1 i) (hs : ¬Spare T1 i) :
    Σ' (out0 : List (View.Piece (Elt Bits) S256x1024 .f32)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Bits) f out0)
              ∗ (upM.view.loc (c : Thread nD τ) ↦{fullShare} out1)
              ∗ (downM.view.loc (c : Thread nD τ) ↦{fullShare} out2)) -∗ K ⟨⟩))
          ⊢ wp frame (wpE (defs₀ (F := Bits)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun xa0 xa1 K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = Scalar.cmpi = _; exact hr) | (guard_target = k0_cond2 _ _ = _; exact hu) | (guard_target = ¬(k0_cond3 _ _ = _); exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- What the body leaves where the weights are cast afresh and the tile is not in use, with its run. -/
noncomputable def fillSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : ¬Used T1 i) (hs : Spare T1 i) :
    Σ' (out0 : List (View.Piece (Elt Bits) S256x1024 .f32)) (out1 : Buf (Elt Bits) ((c : Thread nD τ).loc cc0_scratch0)), { out2 : Buf (Elt Bits) ((c : Thread nD τ).loc cc0_scratch1) //
      ∀ (xa0 : Buf (Elt Bits) ((c : Thread nD τ).loc cc0_scratch0)) (xa1 : Buf (Elt Bits) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Bits) f out0)
              ∗ (upM.view.loc (c : Thread nD τ) ↦{fullShare} out1)
              ∗ (downM.view.loc (c : Thread nD τ) ↦{fullShare} out2)) -∗ K ⟨⟩))
          ⊢ wp frame (wpE (defs₀ (F := Bits)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun xa0 xa1 K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = Scalar.cmpi = _; exact hr) | (guard_target = ¬(k0_cond2 _ _ = _); exact hu) | (guard_target = k0_cond3 _ _ = _; exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- What the body leaves where the weights are kept and the tile is in use, with its run. -/
noncomputable def keepUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32) (xa0 : Buf (Elt Bits) ((c : Thread nD τ).loc cc0_scratch0)) (xa1 : Buf (Elt Bits) ((c : Thread nD τ).loc cc0_scratch1))
    (hr : ¬Refill T0 i) (hu : Used T1 i) (hs : ¬Spare T1 i) :
    Σ' (out0 : List (View.Piece (Elt Bits) S256x1024 .f32)) (out1 : Buf (Elt Bits) ((c : Thread nD τ).loc cc0_scratch0)), { out2 : Buf (Elt Bits) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Bits) f out0)
              ∗ (upM.view.loc (c : Thread nD τ) ↦{fullShare} out1)
              ∗ (downM.view.loc (c : Thread nD τ) ↦{fullShare} out2)) -∗ K ⟨⟩))
          ⊢ wp frame (wpE (defs₀ (F := Bits)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = ¬(Scalar.cmpi = _); exact hr) | (guard_target = k0_cond2 _ _ = _; exact hu) | (guard_target = ¬(k0_cond3 _ _ = _); exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- What the body leaves where the weights are kept and the tile is not in use, with its run. -/
noncomputable def keepSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32) (xa0 : Buf (Elt Bits) ((c : Thread nD τ).loc cc0_scratch0)) (xa1 : Buf (Elt Bits) ((c : Thread nD τ).loc cc0_scratch1))
    (hr : ¬Refill T0 i) (hu : ¬Used T1 i) (hs : Spare T1 i) :
    Σ' (out0 : List (View.Piece (Elt Bits) S256x1024 .f32)) (out1 : Buf (Elt Bits) ((c : Thread nD τ).loc cc0_scratch0)), { out2 : Buf (Elt Bits) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Bits) f out0)
              ∗ (upM.view.loc (c : Thread nD τ) ↦{fullShare} out1)
              ∗ (downM.view.loc (c : Thread nD τ) ↦{fullShare} out2)) -∗ K ⟨⟩))
          ⊢ wp frame (wpE (defs₀ (F := Bits)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = ¬(Scalar.cmpi = _); exact hr) | (guard_target = ¬(k0_cond2 _ _ = _); exact hu) | (guard_target = k0_cond3 _ _ = _; exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

end Cert.Ffn.Tab

end
-- ==== Proof.FfnBody.lean ====
/- One call of the kernel body of the experts' feed-forward part in closed form: what the two scratch buffers hold of the
   expert's weights, and the block of rows the body leaves. -/
module

public import proofs.«01_k».proof.Proof.FfnRun
public import Idealize.ShloMosaic.Lib.LaneScatter.Tiles
public import Idealize.ShloMosaic.Lib.VecWindow

@[expose] public section

set_option maxRecDepth 16384
set_option Elab.async false

noncomputable section

namespace Cert.Ffn.Tab

open Cert.Ffn Cert.Ffn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-! ## The weights in the scratch buffers -/

/-- The eight stores that cast the first weights, the last first, as a function of how a part of the block is read. -/
def upPieces (rd : (r : Rect S1x1024x2048) → r.shape.Idx → Elt Bits .f32) : List (View.Piece (Elt Bits) S1024x2048 .bf16) :=
  [⟨Rect.unit (s := S1024x2048) ![896, 0] S128x2048.size inb_S1024x2048_S128x2048_896_0, k0_pay11 (rd (Rect.unit (s := S1x1024x2048) ![0, 896, 0] S1x128x2048.size inb_S1x1024x2048_S1x128x2048_0_896_0))⟩,
   ⟨Rect.unit (s := S1024x2048) ![768, 0] S128x2048.size inb_S1024x2048_S128x2048_768_0, k0_pay10 (rd (Rect.unit (s := S1x1024x2048) ![0, 768, 0] S1x128x2048.size inb_S1x1024x2048_S1x128x2048_0_768_0))⟩,
   ⟨Rect.unit (s := S1024x2048) ![640, 0] S128x2048.size inb_S1024x2048_S128x2048_640_0, k0_pay9 (rd (Rect.unit (s := S1x1024x2048) ![0, 640, 0] S1x128x2048.size inb_S1x1024x2048_S1x128x2048_0_640_0))⟩,
   ⟨Rect.unit (s := S1024x2048) ![512, 0] S128x2048.size inb_S1024x2048_S128x2048_512_0, k0_pay8 (rd (Rect.unit (s := S1x1024x2048) ![0, 512, 0] S1x128x2048.size inb_S1x1024x2048_S1x128x2048_0_512_0))⟩,
   ⟨Rect.unit (s := S1024x2048) ![384, 0] S128x2048.size inb_S1024x2048_S128x2048_384_0, k0_pay7 (rd (Rect.unit (s := S1x1024x2048) ![0, 384, 0] S1x128x2048.size inb_S1x1024x2048_S1x128x2048_0_384_0))⟩,
   ⟨Rect.unit (s := S1024x2048) ![256, 0] S128x2048.size inb_S1024x2048_S128x2048_256_0, k0_pay6 (rd (Rect.unit (s := S1x1024x2048) ![0, 256, 0] S1x128x2048.size inb_S1x1024x2048_S1x128x2048_0_256_0))⟩,
   ⟨Rect.unit (s := S1024x2048) ![128, 0] S128x2048.size inb_S1024x2048_S128x2048_128_0, k0_pay5 (rd (Rect.unit (s := S1x1024x2048) ![0, 128, 0] S1x128x2048.size inb_S1x1024x2048_S1x128x2048_0_128_0))⟩,
   ⟨Rect.unit (s := S1024x2048) ![0, 0] S128x2048.size inb_S1024x2048_S128x2048_0_0, k0_pay4 (rd (Rect.unit (s := S1x1024x2048) ![0, 0, 0] S1x128x2048.size inb_S1x1024x2048_S1x128x2048_0_0_0))⟩]
/-- The eight stores that cast the second weights. -/
def downPieces (rd : (r : Rect S1x1024x1024) → r.shape.Idx → Elt Bits .f32) : List (View.Piece (Elt Bits) S1024x1024 .bf16) :=
  [⟨Rect.unit (s := S1024x1024) ![896, 0] S128x1024.size inb_S1024x1024_S128x1024_896_0, k0_pay1 (rd (Rect.unit (s := S1x1024x1024) ![0, 896, 0] S1x128x1024.size inb_S1x1024x1024_S1x128x1024_0_896_0))⟩,
   ⟨Rect.unit (s := S1024x1024) ![768, 0] S128x1024.size inb_S1024x1024_S128x1024_768_0, k0_pay18 (rd (Rect.unit (s := S1x1024x1024) ![0, 768, 0] S1x128x1024.size inb_S1x1024x1024_S1x128x1024_0_768_0))⟩,
   ⟨Rect.unit (s := S1024x1024) ![640, 0] S128x1024.size inb_S1024x1024_S128x1024_640_0, k0_pay17 (rd (Rect.unit (s := S1x1024x1024) ![0, 640, 0] S1x128x1024.size inb_S1x1024x1024_S1x128x1024_0_640_0))⟩,
   ⟨Rect.unit (s := S1024x1024) ![512, 0] S128x1024.size inb_S1024x1024_S128x1024_512_0, k0_pay16 (rd (Rect.unit (s := S1x1024x1024) ![0, 512, 0] S1x128x1024.size inb_S1x1024x1024_S1x128x1024_0_512_0))⟩,
   ⟨Rect.unit (s := S1024x1024) ![384, 0] S128x1024.size inb_S1024x1024_S128x1024_384_0, k0_pay15 (rd (Rect.unit (s := S1x1024x1024) ![0, 384, 0] S1x128x1024.size inb_S1x1024x1024_S1x128x1024_0_384_0))⟩,
   ⟨Rect.unit (s := S1024x1024) ![256, 0] S128x1024.size inb_S1024x1024_S128x1024_256_0, k0_pay14 (rd (Rect.unit (s := S1x1024x1024) ![0, 256, 0] S1x128x1024.size inb_S1x1024x1024_S1x128x1024_0_256_0))⟩,
   ⟨Rect.unit (s := S1024x1024) ![128, 0] S128x1024.size inb_S1024x1024_S128x1024_128_0, k0_pay13 (rd (Rect.unit (s := S1x1024x1024) ![0, 128, 0] S1x128x1024.size inb_S1x1024x1024_S1x128x1024_0_128_0))⟩,
   ⟨Rect.unit (s := S1024x1024) ![0, 0] S128x1024.size inb_S1024x1024_S128x1024_0_0, k0_pay12 (rd (Rect.unit (s := S1x1024x1024) ![0, 0, 0] S1x128x1024.size inb_S1x1024x1024_S1x128x1024_0_0_0))⟩]

/-- What the two buffers hold after a cast of these blocks. -/
def up (x1 : S1x1024x2048.Idx → Elt Bits .f32) : S1024x2048.Idx → Elt Bits .bf16 := View.canon (upPieces (View.ld x1))
def down (x3 : S1x1024x1024.Idx → Elt Bits .f32) : S1024x1024.Idx → Elt Bits .bf16 := View.canon (downPieces (View.ld x3))

/-- A load of a staged block reads the block. -/
theorem rd_eq {sg : RefSig} {κ : Kind} {sp : Space} {s : Shape} {e : EltTy} (v : View sg κ sp s e) (x : s.Idx → Elt Bits e) :
    (fun r : Rect s => v.readAt (Elt Bits) r.toLoadRect (v.rep x)) = View.ld x := by
  funext r; rw [View.readAt_eq_ld, View.read_rep]

theorem fresh_up (arg4 : Memref sig .tc .vmem S1x1024x2048 .f32) (x1 : S1x1024x2048.Idx → Elt Bits .f32) :
    (View.whole cc0_scratch0).writes (Elt Bits) (View.whole cc0_scratch0).junk (upPieces fun r => arg4.view.readAt (Elt Bits) r.toLoadRect (arg4.view.rep x1)) = up x1 := by
  rw [rd_eq]
  have h := View.read_writes_junk_eq_canon (Val := Elt Bits) (View.whole cc0_scratch0) (upPieces (View.ld x1))
  rw [View.read_whole] at h
  exact h
theorem fresh_down (arg6 : Memref sig .tc .vmem S1x1024x1024 .f32) (x3 : S1x1024x1024.Idx → Elt Bits .f32) :
    (View.whole cc0_scratch1).writes (Elt Bits) (View.whole cc0_scratch1).junk (downPieces fun r => arg6.view.readAt (Elt Bits) r.toLoadRect (arg6.view.rep x3)) = down x3 := by
  rw [rd_eq]
  have h := View.read_writes_junk_eq_canon (Val := Elt Bits) (View.whole cc0_scratch1) (downPieces (View.ld x3))
  rw [View.read_whole] at h
  exact h

/-- A load of a whole buffer just cast reads what the cast left. -/
theorem load_up (arg4 : Memref sig .tc .vmem S1x1024x2048 .f32) (x1 : S1x1024x2048.Idx → Elt Bits .f32) :
    (View.whole cc0_scratch0).readCov (upPieces fun r => arg4.view.readAt (Elt Bits) r.toLoadRect (arg4.view.rep x1)) (Rect.unit (s := S1024x2048) ![0, 0] S1024x2048.size inb_S1024x2048_S1024x2048_0_0).toLoadRect = up x1 := by
  rw [rd_eq]
  exact (View.readAt_full (Val := Elt Bits) (View.whole cc0_scratch0) _ _).trans (View.read_writes_junk_eq_canon (Val := Elt Bits) (View.whole cc0_scratch0) (upPieces (View.ld x1)))
theorem load_down (arg6 : Memref sig .tc .vmem S1x1024x1024 .f32) (x3 : S1x1024x1024.Idx → Elt Bits .f32) :
    (View.whole cc0_scratch1).readCov (downPieces fun r => arg6.view.readAt (Elt Bits) r.toLoadRect (arg6.view.rep x3)) (Rect.unit (s := S1024x1024) ![0, 0] S1024x1024.size inb_S1024x1024_S1024x1024_0_0).toLoadRect = down x3 := by
  rw [rd_eq]
  exact (View.readAt_full (Val := Elt Bits) (View.whole cc0_scratch1) _ _).trans (View.read_writes_junk_eq_canon (Val := Elt Bits) (View.whole cc0_scratch1) (downPieces (View.ld x3)))

/-- A load of a whole buffer reads what it holds. -/
theorem load_kept {sg : RefSig} {κ : Kind} (b : Ref sg κ) (x : b.ty.Contents (Elt Bits)) {off : Fin b.ty.shape.rank → ℕ} (inb : ∀ a, off a + b.ty.shape.size a ≤ b.ty.shape.size a) :
    (View.whole b).readAt (Elt Bits) (Rect.unit off b.ty.shape.size inb).toLoadRect x = x :=
  (View.readAt_full (Val := Elt Bits) (View.whole b) x inb).trans (View.read_whole b x)

/-! ## The tile -/

/-- The tile the body leaves: the expert's output on these rows where the tile is in use, zeros where it is not. -/
def tile (T1 : S1.Idx → Elt Bits .i32) (i : grid0.Coords) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32) : S256x1024.Idx → Elt Bits .f32 :=
  if Used T1 i then k0_pay2 x0 (up x1) x2 (down x3) x4 else k0_pay3 (F := Bits)

theorem pay2_congr {x0 y0 : Vec Bits S256x1024 .f32} {u v : Vec Bits S1024x2048 .bf16} {x2 y2 : Vec Bits S1x1x2048 .f32} {d e : Vec Bits S1024x1024 .bf16} {x4 y4 : Vec Bits S1x1x1024 .f32}
    (h0 : x0 = y0) (h1 : u = v) (h2 : x2 = y2) (h3 : d = e) (h4 : x4 = y4) : k0_pay2 x0 u x2 d x4 = k0_pay2 y0 v y2 e y4 := by
  subst h0 h1 h2 h3 h4; rfl

/-- Every tile is of exactly one of the two kinds. -/
theorem bit_one (b : Bool) : (Scalar.cmpi .ne (Scalar.extui (BitVec.ofBool b) : BitVec 32) 0#32 = 1#1) ↔ b = true := by
  cases b <;> decide
theorem spare_iff_word (i : grid0.Coords) (n : BitVec 32) : k0_cond3 i n = 1#1 ↔ ¬(k0_cond2 i n = 1#1) := by
  refine (bit_one (n.sle (BitVec.ofNat 32 (i 0).val))).trans (Iff.trans ?_ (not_congr (bit_one ((BitVec.ofNat 32 (i 0).val).slt n))).symm)
  simp only [BitVec.sle, BitVec.slt, decide_eq_true_eq, not_lt]
theorem spare_iff (T1 : S1.Idx → Elt Bits .i32) (i : grid0.Coords) : Spare T1 i ↔ ¬Used T1 i := spare_iff_word i _

/-! ## The body -/

/-- One run of the body from these blocks, tables and scratch buffers. -/
def Step (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (xa0 : Buf (Elt Bits) ((c : Thread nD τ).loc cc0_scratch0)) (xa1 : Buf (Elt Bits) ((c : Thread nD τ).loc cc0_scratch1)) (K : PUnit → sProp 𝕄) : Prop :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (expertsM.view.loc (c : Thread nD τ) ↦{fullShare.right} T0)
    ∗ (usedM.view.loc (c : Thread nD τ) ↦{fullShare.right} T1)
    ∗ (∃ d, owns (c : Thread nD τ) arg8 fullShare d)
    ∗ (upM.view.loc (c : Thread nD τ) ↦{fullShare} xa0)
    ∗ (downM.view.loc (c : Thread nD τ) ↦{fullShare} xa1)
    ∗ (iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (expertsM.view.loc (c : Thread nD τ) ↦{fullShare.right} T0)
        ∗ (usedM.view.loc (c : Thread nD τ) ↦{fullShare.right} T1)
        ∗ owns (c : Thread nD τ) arg8 fullShare (tile T1 i x0 x1 x2 x3 x4)
        ∗ (upM.view.loc (c : Thread nD τ) ↦{fullShare} up x1)
        ∗ (downM.view.loc (c : Thread nD τ) ↦{fullShare} down x3)) -∗ K ⟨⟩))
    ⊢ wp frame (wpE (defs₀ (F := Bits)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K

set_option maxHeartbeats 1000000 in
/-- A run that leaves these three leaves what the step says. -/
theorem step_of_run (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (xa0 : Buf (Elt Bits) ((c : Thread nD τ).loc cc0_scratch0)) (xa1 : Buf (Elt Bits) ((c : Thread nD τ).loc cc0_scratch1)) (K : PUnit → sProp 𝕄)
    (out0 : List (View.Piece (Elt Bits) S256x1024 .f32)) (out1 : Buf (Elt Bits) ((c : Thread nD τ).loc cc0_scratch0)) (out2 : Buf (Elt Bits) ((c : Thread nD τ).loc cc0_scratch1))
    (e0 : ∀ f, arg8.view.read (Elt Bits) (arg8.view.writes (Elt Bits) f out0) = tile T1 i x0 x1 x2 x3 x4) (e1 : out1 = up x1) (e2 : out2 = down x3)
    (R : iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (expertsM.view.loc (c : Thread nD τ) ↦{fullShare.right} T0)
    ∗ (usedM.view.loc (c : Thread nD τ) ↦{fullShare.right} T1)
      ∗ (∃ d, owns (c : Thread nD τ) arg8 fullShare d)
      ∗ (upM.view.loc (c : Thread nD τ) ↦{fullShare} xa0)
      ∗ (downM.view.loc (c : Thread nD τ) ↦{fullShare} xa1)
      ∗ (iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (expertsM.view.loc (c : Thread nD τ) ↦{fullShare.right} T0)
        ∗ (usedM.view.loc (c : Thread nD τ) ↦{fullShare.right} T1)
        ∗ (∃ f, arg8.view.loc (c : Thread nD τ) ↦[arg8.view.set]{fullShare} arg8.view.writes (Elt Bits) f out0)
        ∗ (upM.view.loc (c : Thread nD τ) ↦{fullShare} out1)
        ∗ (downM.view.loc (c : Thread nD τ) ↦{fullShare} out2)) -∗ K ⟨⟩))
      ⊢ wp frame (wpE (defs₀ (F := Bits)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K) :
    Step c i arg3 harg3 arg4 harg4 arg5 harg5 arg6 harg6 arg7 harg7 arg8 harg8 T0 T1 x0 x1 x2 x3 x4 xa0 xa1 K := by
  subst e1 e2
  unfold Step
  iintro ⟨H0, H1, H2, H3, H4, HT0, HT1, HO, HS0, HS1, Hk⟩
  iapply R
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]; · iexact HO
  isplitl [HS0]; · iexact HS0
  isplitl [HS1]; · iexact HS1
  iintro ⟨H0, H1, H2, H3, H4, HT0, HT1, ⟨%f, HO⟩, HS0, HS1⟩
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]
  · unfold owns; iexists _; isplitr; swap
    · iexact HO
    · ipureintro; exact e0 f
  isplitl [HS0]; · iexact HS0
  iexact HS1

theorem fillUse_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : Used T1 i) (hs : ¬Spare T1 i) : (fillUse c i arg3 harg3 arg4 harg4 arg5 harg5 arg6 harg6 arg7 harg7 arg8 harg8 T0 T1 x0 x1 x2 x3 x4 hr hu hs).2.1 = up x1 := by
  unfold fillUse
  dsimp only
  exact fresh_up arg4 x1
theorem fillUse_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : Used T1 i) (hs : ¬Spare T1 i) : (fillUse c i arg3 harg3 arg4 harg4 arg5 harg5 arg6 harg6 arg7 harg7 arg8 harg8 T0 T1 x0 x1 x2 x3 x4 hr hu hs).2.2.1 = down x3 := by
  unfold fillUse
  dsimp only
  exact fresh_down arg6 x3
theorem fillUse_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : Used T1 i) (hs : ¬Spare T1 i) (f) : arg8.view.read (Elt Bits) (arg8.view.writes (Elt Bits) f (fillUse c i arg3 harg3 arg4 harg4 arg5 harg5 arg6 harg6 arg7 harg7 arg8 harg8 T0 T1 x0 x1 x2 x3 x4 hr hu hs).1) = tile T1 i x0 x1 x2 x3 x4 := by
  unfold fillUse
  dsimp only
  rw [tile, if_pos hu]
  unfold fillUse.sl.HO_1
  refine (LaneScatter.read_whole_store arg8.view f (by decide) inb_S256x1024_S256x1024_0_0 _).trans ?_
  unfold fillUse.sl.v21 fillUse.sl.v43
  refine pay2_congr (View.readAt_rep_full arg3.view x0 _) ?_ (View.readAt_rep_full arg5.view x2 _) ?_ (View.readAt_rep_full arg7.view x4 _)
  · exact load_up arg4 x1
  · exact load_down arg6 x3

/-- The weights are cast afresh; the tile is in use. -/
theorem body_fillUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (xa0 : Buf (Elt Bits) ((c : Thread nD τ).loc cc0_scratch0)) (xa1 : Buf (Elt Bits) ((c : Thread nD τ).loc cc0_scratch1)) (keep : ¬Refill T0 i → xa0 = up x1 ∧ xa1 = down x3)
    (hr : Refill T0 i) (hu : Used T1 i) (K : PUnit → sProp 𝕄) : Step c i arg3 harg3 arg4 harg4 arg5 harg5 arg6 harg6 arg7 harg7 arg8 harg8 T0 T1 x0 x1 x2 x3 x4 xa0 xa1 K := by
  have hs : ¬Spare T1 i := fun h => (spare_iff T1 i).1 h hu
  exact step_of_run c i arg3 harg3 arg4 harg4 arg5 harg5 arg6 harg6 arg7 harg7 arg8 harg8 T0 T1 x0 x1 x2 x3 x4 xa0 xa1 K (fillUse c i arg3 harg3 arg4 harg4 arg5 harg5 arg6 harg6 arg7 harg7 arg8 harg8 T0 T1 x0 x1 x2 x3 x4 hr hu hs).1 (fillUse c i arg3 harg3 arg4 harg4 arg5 harg5 arg6 harg6 arg7 harg7 arg8 harg8 T0 T1 x0 x1 x2 x3 x4 hr hu hs).2.1 (fillUse c i arg3 harg3 arg4 harg4 arg5 harg5 arg6 harg6 arg7 harg7 arg8 harg8 T0 T1 x0 x1 x2 x3 x4 hr hu hs).2.2.1
    (fillUse_out c i arg3 harg3 arg4 harg4 arg5 harg5 arg6 harg6 arg7 harg7 arg8 harg8 T0 T1 x0 x1 x2 x3 x4 hr hu hs) (fillUse_up c i arg3 harg3 arg4 harg4 arg5 harg5 arg6 harg6 arg7 harg7 arg8 harg8 T0 T1 x0 x1 x2 x3 x4 hr hu hs) (fillUse_down c i arg3 harg3 arg4 harg4 arg5 harg5 arg6 harg6 arg7 harg7 arg8 harg8 T0 T1 x0 x1 x2 x3 x4 hr hu hs) ((fillUse c i arg3 harg3 arg4 harg4 arg5 harg5 arg6 harg6 arg7 harg7 arg8 harg8 T0 T1 x0 x1 x2 x3 x4 hr hu hs).2.2.2 xa0 xa1 K)

theorem fillSpare_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : ¬Used T1 i) (hs : Spare T1 i) : (fillSpare c i arg3 harg3 arg4 harg4 arg5 harg5 arg6 harg6 arg7 harg7 arg8 harg8 T0 T1 x0 x1 x2 x3 x4 hr hu hs).2.1 = up x1 := by
  unfold fillSpare
  dsimp only
  exact fresh_up arg4 x1
theorem fillSpare_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : ¬Used T1 i) (hs : Spare T1 i) : (fillSpare c i arg3 harg3 arg4 harg4 arg5 harg5 arg6 harg6 arg7 harg7 arg8 harg8 T0 T1 x0 x1 x2 x3 x4 hr hu hs).2.2.1 = down x3 := by
  unfold fillSpare
  dsimp only
  exact fresh_down arg6 x3
theorem fillSpare_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : Refill T0 i) (hu : ¬Used T1 i) (hs : Spare T1 i) (f) : arg8.view.read (Elt Bits) (arg8.view.writes (Elt Bits) f (fillSpare c i arg3 harg3 arg4 harg4 arg5 harg5 arg6 harg6 arg7 harg7 arg8 harg8 T0 T1 x0 x1 x2 x3 x4 hr hu hs).1) = tile T1 i x0 x1 x2 x3 x4 := by
  unfold fillSpare
  dsimp only
  rw [tile, if_neg hu]
  exact LaneScatter.read_whole_store arg8.view f (by decide) inb_S256x1024_S256x1024_0_0 _

/-- The weights are cast afresh; the tile is not in use. -/
theorem body_fillSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (xa0 : Buf (Elt Bits) ((c : Thread nD τ).loc cc0_scratch0)) (xa1 : Buf (Elt Bits) ((c : Thread nD τ).loc cc0_scratch1)) (keep : ¬Refill T0 i → xa0 = up x1 ∧ xa1 = down x3)
    (hr : Refill T0 i) (hu : ¬Used T1 i) (K : PUnit → sProp 𝕄) : Step c i arg3 harg3 arg4 harg4 arg5 harg5 arg6 harg6 arg7 harg7 arg8 harg8 T0 T1 x0 x1 x2 x3 x4 xa0 xa1 K := by
  have hs : Spare T1 i := (spare_iff T1 i).2 hu
  exact step_of_run c i arg3 harg3 arg4 harg4 arg5 harg5 arg6 harg6 arg7 harg7 arg8 harg8 T0 T1 x0 x1 x2 x3 x4 xa0 xa1 K (fillSpare c i arg3 harg3 arg4 harg4 arg5 harg5 arg6 harg6 arg7 harg7 arg8 harg8 T0 T1 x0 x1 x2 x3 x4 hr hu hs).1 (fillSpare c i arg3 harg3 arg4 harg4 arg5 harg5 arg6 harg6 arg7 harg7 arg8 harg8 T0 T1 x0 x1 x2 x3 x4 hr hu hs).2.1 (fillSpare c i arg3 harg3 arg4 harg4 arg5 harg5 arg6 harg6 arg7 harg7 arg8 harg8 T0 T1 x0 x1 x2 x3 x4 hr hu hs).2.2.1
    (fillSpare_out c i arg3 harg3 arg4 harg4 arg5 harg5 arg6 harg6 arg7 harg7 arg8 harg8 T0 T1 x0 x1 x2 x3 x4 hr hu hs) (fillSpare_up c i arg3 harg3 arg4 harg4 arg5 harg5 arg6 harg6 arg7 harg7 arg8 harg8 T0 T1 x0 x1 x2 x3 x4 hr hu hs) (fillSpare_down c i arg3 harg3 arg4 harg4 arg5 harg5 arg6 harg6 arg7 harg7 arg8 harg8 T0 T1 x0 x1 x2 x3 x4 hr hu hs) ((fillSpare c i arg3 harg3 arg4 harg4 arg5 harg5 arg6 harg6 arg7 harg7 arg8 harg8 T0 T1 x0 x1 x2 x3 x4 hr hu hs).2.2.2 xa0 xa1 K)

theorem keepUse_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : ¬Refill T0 i) (hu : Used T1 i) (hs : ¬Spare T1 i) : (keepUse c i arg3 harg3 arg4 harg4 arg5 harg5 arg6 harg6 arg7 harg7 arg8 harg8 T0 T1 x0 x1 x2 x3 x4 (up x1) (down x3) hr hu hs).2.1 = up x1 := by
  unfold keepUse
  dsimp only

theorem keepUse_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : ¬Refill T0 i) (hu : Used T1 i) (hs : ¬Spare T1 i) : (keepUse c i arg3 harg3 arg4 harg4 arg5 harg5 arg6 harg6 arg7 harg7 arg8 harg8 T0 T1 x0 x1 x2 x3 x4 (up x1) (down x3) hr hu hs).2.2.1 = down x3 := by
  unfold keepUse
  dsimp only

theorem keepUse_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : ¬Refill T0 i) (hu : Used T1 i) (hs : ¬Spare T1 i) (f) : arg8.view.read (Elt Bits) (arg8.view.writes (Elt Bits) f (keepUse c i arg3 harg3 arg4 harg4 arg5 harg5 arg6 harg6 arg7 harg7 arg8 harg8 T0 T1 x0 x1 x2 x3 x4 (up x1) (down x3) hr hu hs).1) = tile T1 i x0 x1 x2 x3 x4 := by
  unfold keepUse
  dsimp only
  rw [tile, if_pos hu]
  unfold keepUse.sl.HO_1
  refine (LaneScatter.read_whole_store arg8.view f (by decide) inb_S256x1024_S256x1024_0_0 _).trans ?_

  refine pay2_congr (View.readAt_rep_full arg3.view x0 _) ?_ (View.readAt_rep_full arg5.view x2 _) ?_ (View.readAt_rep_full arg7.view x4 _)
  · exact load_kept _ _ _
  · exact load_kept _ _ _

/-- The weights are kept; the tile is in use. -/
theorem body_keepUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (xa0 : Buf (Elt Bits) ((c : Thread nD τ).loc cc0_scratch0)) (xa1 : Buf (Elt Bits) ((c : Thread nD τ).loc cc0_scratch1)) (keep : ¬Refill T0 i → xa0 = up x1 ∧ xa1 = down x3)
    (hr : ¬Refill T0 i) (hu : Used T1 i) (K : PUnit → sProp 𝕄) : Step c i arg3 harg3 arg4 harg4 arg5 harg5 arg6 harg6 arg7 harg7 arg8 harg8 T0 T1 x0 x1 x2 x3 x4 xa0 xa1 K := by
  have hs : ¬Spare T1 i := fun h => (spare_iff T1 i).1 h hu
  obtain ⟨rfl, rfl⟩ := keep hr
  exact step_of_run c i arg3 harg3 arg4 harg4 arg5 harg5 arg6 harg6 arg7 harg7 arg8 harg8 T0 T1 x0 x1 x2 x3 x4 (up x1) (down x3) K (keepUse c i arg3 harg3 arg4 harg4 arg5 harg5 arg6 harg6 arg7 harg7 arg8 harg8 T0 T1 x0 x1 x2 x3 x4 (up x1) (down x3) hr hu hs).1 (keepUse c i arg3 harg3 arg4 harg4 arg5 harg5 arg6 harg6 arg7 harg7 arg8 harg8 T0 T1 x0 x1 x2 x3 x4 (up x1) (down x3) hr hu hs).2.1 (keepUse c i arg3 harg3 arg4 harg4 arg5 harg5 arg6 harg6 arg7 harg7 arg8 harg8 T0 T1 x0 x1 x2 x3 x4 (up x1) (down x3) hr hu hs).2.2.1
    (keepUse_out c i arg3 harg3 arg4 harg4 arg5 harg5 arg6 harg6 arg7 harg7 arg8 harg8 T0 T1 x0 x1 x2 x3 x4 hr hu hs) (keepUse_up c i arg3 harg3 arg4 harg4 arg5 harg5 arg6 harg6 arg7 harg7 arg8 harg8 T0 T1 x0 x1 x2 x3 x4 hr hu hs) (keepUse_down c i arg3 harg3 arg4 harg4 arg5 harg5 arg6 harg6 arg7 harg7 arg8 harg8 T0 T1 x0 x1 x2 x3 x4 hr hu hs) ((keepUse c i arg3 harg3 arg4 harg4 arg5 harg5 arg6 harg6 arg7 harg7 arg8 harg8 T0 T1 x0 x1 x2 x3 x4 (up x1) (down x3) hr hu hs).2.2.2 K)

theorem keepSpare_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : ¬Refill T0 i) (hu : ¬Used T1 i) (hs : Spare T1 i) : (keepSpare c i arg3 harg3 arg4 harg4 arg5 harg5 arg6 harg6 arg7 harg7 arg8 harg8 T0 T1 x0 x1 x2 x3 x4 (up x1) (down x3) hr hu hs).2.1 = up x1 := by
  unfold keepSpare
  dsimp only

theorem keepSpare_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : ¬Refill T0 i) (hu : ¬Used T1 i) (hs : Spare T1 i) : (keepSpare c i arg3 harg3 arg4 harg4 arg5 harg5 arg6 harg6 arg7 harg7 arg8 harg8 T0 T1 x0 x1 x2 x3 x4 (up x1) (down x3) hr hu hs).2.2.1 = down x3 := by
  unfold keepSpare
  dsimp only

theorem keepSpare_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (hr : ¬Refill T0 i) (hu : ¬Used T1 i) (hs : Spare T1 i) (f) : arg8.view.read (Elt Bits) (arg8.view.writes (Elt Bits) f (keepSpare c i arg3 harg3 arg4 harg4 arg5 harg5 arg6 harg6 arg7 harg7 arg8 harg8 T0 T1 x0 x1 x2 x3 x4 (up x1) (down x3) hr hu hs).1) = tile T1 i x0 x1 x2 x3 x4 := by
  unfold keepSpare
  dsimp only
  rw [tile, if_neg hu]
  exact LaneScatter.read_whole_store arg8.view f (by decide) inb_S256x1024_S256x1024_0_0 _

/-- The weights are kept; the tile is not in use. -/
theorem body_keepSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (xa0 : Buf (Elt Bits) ((c : Thread nD τ).loc cc0_scratch0)) (xa1 : Buf (Elt Bits) ((c : Thread nD τ).loc cc0_scratch1)) (keep : ¬Refill T0 i → xa0 = up x1 ∧ xa1 = down x3)
    (hr : ¬Refill T0 i) (hu : ¬Used T1 i) (K : PUnit → sProp 𝕄) : Step c i arg3 harg3 arg4 harg4 arg5 harg5 arg6 harg6 arg7 harg7 arg8 harg8 T0 T1 x0 x1 x2 x3 x4 xa0 xa1 K := by
  have hs : Spare T1 i := (spare_iff T1 i).2 hu
  obtain ⟨rfl, rfl⟩ := keep hr
  exact step_of_run c i arg3 harg3 arg4 harg4 arg5 harg5 arg6 harg6 arg7 harg7 arg8 harg8 T0 T1 x0 x1 x2 x3 x4 (up x1) (down x3) K (keepSpare c i arg3 harg3 arg4 harg4 arg5 harg5 arg6 harg6 arg7 harg7 arg8 harg8 T0 T1 x0 x1 x2 x3 x4 (up x1) (down x3) hr hu hs).1 (keepSpare c i arg3 harg3 arg4 harg4 arg5 harg5 arg6 harg6 arg7 harg7 arg8 harg8 T0 T1 x0 x1 x2 x3 x4 (up x1) (down x3) hr hu hs).2.1 (keepSpare c i arg3 harg3 arg4 harg4 arg5 harg5 arg6 harg6 arg7 harg7 arg8 harg8 T0 T1 x0 x1 x2 x3 x4 (up x1) (down x3) hr hu hs).2.2.1
    (keepSpare_out c i arg3 harg3 arg4 harg4 arg5 harg5 arg6 harg6 arg7 harg7 arg8 harg8 T0 T1 x0 x1 x2 x3 x4 hr hu hs) (keepSpare_up c i arg3 harg3 arg4 harg4 arg5 harg5 arg6 harg6 arg7 harg7 arg8 harg8 T0 T1 x0 x1 x2 x3 x4 hr hu hs) (keepSpare_down c i arg3 harg3 arg4 harg4 arg5 harg5 arg6 harg6 arg7 harg7 arg8 harg8 T0 T1 x0 x1 x2 x3 x4 hr hu hs) ((keepSpare c i arg3 harg3 arg4 harg4 arg5 harg5 arg6 harg6 arg7 harg7 arg8 harg8 T0 T1 x0 x1 x2 x3 x4 (up x1) (down x3) hr hu hs).2.2.2 K)

/-- The body, from scratch buffers that hold this expert's weights wherever they are kept. -/
theorem body (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Bits .i32) (T1 : S1.Idx → Elt Bits .i32) (x0 : S256x1024.Idx → Elt Bits .f32) (x1 : S1x1024x2048.Idx → Elt Bits .f32) (x2 : S1x1x2048.Idx → Elt Bits .f32) (x3 : S1x1024x1024.Idx → Elt Bits .f32) (x4 : S1x1x1024.Idx → Elt Bits .f32)
    (xa0 : Buf (Elt Bits) ((c : Thread nD τ).loc cc0_scratch0)) (xa1 : Buf (Elt Bits) ((c : Thread nD τ).loc cc0_scratch1)) (keep : ¬Refill T0 i → xa0 = up x1 ∧ xa1 = down x3)
    (K : PUnit → sProp 𝕄) : Step c i arg3 harg3 arg4 harg4 arg5 harg5 arg6 harg6 arg7 harg7 arg8 harg8 T0 T1 x0 x1 x2 x3 x4 xa0 xa1 K := by
  by_cases hr : Refill T0 i
  · by_cases hu : Used T1 i
    · exact body_fillUse c i arg3 harg3 arg4 harg4 arg5 harg5 arg6 harg6 arg7 harg7 arg8 harg8 T0 T1 x0 x1 x2 x3 x4 xa0 xa1 keep hr hu K
    · exact body_fillSpare c i arg3 harg3 arg4 harg4 arg5 harg5 arg6 harg6 arg7 harg7 arg8 harg8 T0 T1 x0 x1 x2 x3 x4 xa0 xa1 keep hr hu K
  · by_cases hu : Used T1 i
    · exact body_keepUse c i arg3 harg3 arg4 harg4 arg5 harg5 arg6 harg6 arg7 harg7 arg8 harg8 T0 T1 x0 x1 x2 x3 x4 xa0 xa1 keep hr hu K
    · exact body_keepSpare c i arg3 harg3 arg4 harg4 arg5 harg5 arg6 harg6 arg7 harg7 arg8 harg8 T0 T1 x0 x1 x2 x3 x4 xa0 xa1 keep hr hu K

end Cert.Ffn.Tab

end
-- ==== Proof.FfnTables.lean ====
/- The two tables of the experts' feed-forward part: what its precondition says of them, and the words read from them. -/
module

public import proofs.«01_k».proof.Pre_tiles_in_range
public import proofs.«01_k».proof.Proof.Finite

@[expose] public section

noncomputable section

namespace Cert.Tables

open Idealize.ShloMosaic

/-- Every tile's expert is one of the 32, and between one and all 288 tiles are in use. -/
def InRange (T0 : (⟨1, ![288]⟩ : Shape).Idx → BitVec 32) (T1 : (⟨1, ![1]⟩ : Shape).Idx → BitVec 32) : Prop :=
  (∀ j, (T0 j).toNat < 32) ∧ ∀ j, 1 ≤ (T1 j).toNat ∧ (T1 j).toNat ≤ 288

theorem ofBool_one (b : Bool) : BitVec.ofBool b = 1#1 ↔ b = true := by cases b <;> decide

/-- A word that is not negative and below 32, as a signed comparison says it. -/
theorem lt_of_bits (x : BitVec 32) (h : IntOp.andi (IntOp.cmpi .sge x 0#32) (IntOp.cmpi .slt x 32#32) = 1#1) : x.toNat < 32 := by
  obtain ⟨h1, h2⟩ := Cert.Finite.and_one h
  simp only [IntOp.cmpi, ofBool_one, BitVec.sle_iff_toInt_le, BitVec.slt_iff_toInt_lt] at h1 h2
  have e := x.toInt_eq_toNat_cond
  rw [show (0#32 : BitVec 32).toInt = 0 by decide] at h1
  rw [show (32#32 : BitVec 32).toInt = 32 by decide] at h2
  split at e <;> omega

theorem count_of_bits (x : BitVec 32) (h1 : IntOp.cmpi .sge x 1#32 = 1#1) (h2 : IntOp.cmpi .sle x 288#32 = 1#1) : 1 ≤ x.toNat ∧ x.toNat ≤ 288 := by
  simp only [IntOp.cmpi, ofBool_one, BitVec.sle_iff_toInt_le] at h1 h2
  have e := x.toInt_eq_toNat_cond
  rw [show (1#32 : BitVec 32).toInt = 1 by decide] at h1
  rw [show (288#32 : BitVec 32).toInt = 288 by decide] at h2
  split at e <;> omega

/-- The precondition, decoded. -/
theorem inRange_of_pre [Cert.Pre_tiles_in_range.Facts] {F : FTy → Type} [FloatOps F] (T0 : IVec ⟨1, ![288]⟩ 32) (T1 : IVec ⟨1, ![1]⟩ 32) (a2 a3 a4 a5 a6)
    (h : Cert.Pre_tiles_in_range.fn (F := F) T0 T1 a2 a3 a4 a5 a6 = fun _ => 1#1) : InRange T0 T1 := by
  have e := congrFun h fun i => i.elim0
  obtain ⟨e₁, e₂⟩ := Cert.Finite.and_one e
  obtain ⟨e₀, e₁⟩ := Cert.Finite.and_one e₁
  refine ⟨fun j => lt_of_bits _ (Host.reduce_andi_all _ _ _ _ _ e₀ j), fun j => ?_⟩
  have hj : ∀ k : (⟨1, ![1]⟩ : Shape).Idx, k = j := fun k => funext fun a => by
    fin_cases a; exact Fin.ext (by have h0 := (k 0).isLt; have h1 := (j 0).isLt; simp at h0 h1; simp; omega)
  have hc := count_of_bits _ e₁ e₂
  exact (congrArg (fun x : BitVec 32 => 1 ≤ x.toNat ∧ x.toNat ≤ 288) (congrArg T1 (hj _))).mp hc

/-- The smaller of a point and the last tile in use. -/
theorem minsi_toNat (a n : BitVec 32) (ha : a.toNat < 288) (hn : 1 ≤ n.toNat ∧ n.toNat ≤ 288) :
    (Scalar.minsi a (Scalar.subi n 1#32)).toNat = min a.toNat (n.toNat - 1) := by
  have hs : (n - 1#32).toNat = n.toNat - 1 := by
    rw [BitVec.toNat_sub]; simp; omega
  show (if BitVec.slt a (n - 1#32) then a else n - 1#32).toNat = _
  have e1 := a.toInt_eq_toNat_cond
  have e2 := (n - 1#32).toInt_eq_toNat_cond
  rw [if_pos (by omega)] at e1 e2
  by_cases hlt : BitVec.slt a (n - 1#32)
  · rw [if_pos hlt]
    rw [BitVec.slt_iff_toInt_lt, e1, e2, hs] at hlt
    omega
  · rw [if_neg hlt, hs]
    rw [BitVec.slt_iff_toInt_lt, e1, e2, hs] at hlt
    omega

/-- The signed comparison of a point with the number of tiles in use. -/
theorem slt_iff (a n : BitVec 32) (ha : a.toNat < 288) (hn : n.toNat ≤ 288) : BitVec.slt a n = true ↔ a.toNat < n.toNat := by
  have e1 := a.toInt_eq_toNat_cond
  have e2 := n.toInt_eq_toNat_cond
  rw [if_pos (by omega)] at e1 e2
  rw [BitVec.slt_iff_toInt_lt, e1, e2]; omega

end Cert.Tables

end
-- ==== Proof.FfnDat.lean ====
/- The pipeline of the experts' feed-forward part at the tables a launch memory holds: the blocks the windows stage, what the
   scratch buffers hold between two points, and the body's obligation at every point. -/
module

public import proofs.«01_k».proof.Proof.FfnBody
public import proofs.«01_k».proof.Proof.FfnTables
public import Idealize.ShloMosaic.Lib.Pipeline.TableIdle

@[expose] public section

set_option maxRecDepth 16384
set_option Elab.async false

noncomputable section

namespace Cert.Ffn.Tab

open Cert.Ffn Cert.Ffn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra. -/
abbrev EP : Emb (UR sig nD τ) 𝕄 := emb₁

variable (m : (ℓ : Loc nD τ sig) → Buf (Elt Bits) ℓ) (ρ : Dev nD → PrngReg)

/-! ## The tables of a memory -/

/-- The launch state. -/
abbrev s₀ : MemSt nD τ sig (Elt Bits) := ⟨m, fun _ => 0, ρ⟩

/-- The two tables in the first device's memory (there is one device). -/
abbrev T0 : S288.Idx → Elt Bits .i32 := m (((0 : Dev nD) : Thread nD τ).loc main_arg0)
abbrev T1 : S1.Idx → Elt Bits .i32 := m (((0 : Dev nD) : Thread nD τ).loc main_arg1)
def pf : pre0.Contents (Elt Bits) := fun | ⟨0, _⟩ => T0 m | ⟨1, _⟩ => T1 m | ⟨_ + 2, h⟩ => absurd h (by simp)

/-- The tables are in range. -/
abbrev Ok : Prop := Cert.Tables.InRange (T0 m) (T1 m)

/-- A point's block index, bounded axis by axis. -/
theorem ok_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- Every block a table names is inside its array. -/
theorem ok (hm : Ok m) : ok0 (F := Bits) (pf m) := by
  have hT : ∀ j, ((T0 m) j).toNat + 1 ≤ 32 := hm.1
  refine ⟨fun i => ⟨?_, .inl rfl⟩, fun i => ⟨?_, .inl rfl⟩, fun i => ⟨?_, .inl rfl⟩, fun i => ⟨?_, .inl rfl⟩, fun i => ⟨?_, .inl rfl⟩⟩
  · have hi : (BitVec.ofNat 32 (i 0).val).toNat < 288 := by
      have := (i 0).isLt; rw [BitVec.toNat_ofNat]; exact lt_of_le_of_lt (Nat.mod_le _ _) this
    refine ok_cons ?_ (ok_cons (by decide) (fun a => a.elim0))
    have e := Cert.Tables.minsi_toNat _ _ hi (hm.2 ((Rect.unit (s := S1) ![0] S1.size inb_S1_S1_0).emb (Shape.Idx.first (numel1_S1.symm ▸ Nat.one_pos))))
    refine (Nat.mul_le_mul_right 256 (Nat.add_le_add_right e.le 1)).trans ?_
    omega
  · exact ok_cons ((Nat.mul_one _).le.trans (hT _)) (ok_cons (by decide) (ok_cons (by decide) (fun a => a.elim0)))
  · exact ok_cons ((Nat.mul_one _).le.trans (hT _)) (ok_cons (by decide) (ok_cons (by decide) (fun a => a.elim0)))
  · exact ok_cons ((Nat.mul_one _).le.trans (hT _)) (ok_cons (by decide) (ok_cons (by decide) (fun a => a.elim0)))
  · exact ok_cons ((Nat.mul_one _).le.trans (hT _)) (ok_cons (by decide) (ok_cons (by decide) (fun a => a.elim0)))

variable (hm : Ok m)

/-- The tables as the pipeline admits them, and the pipeline at them. -/
def adm : (pcfg0 (F := Bits)).Adm := ⟨pf m, ok m hm⟩
abbrev cfgA : Pipeline.Cfg sig Λ₀ := cfg0 (F := Bits) (adm m hm)
abbrev pcs : Fin 1 → Pipeline.Cfg sig Λ₀ := Pipeline.pin (pcfgs (F := Bits)) fun _ => adm m hm

/-! ## A point: its coordinates, staging buffers and blocks -/

abbrev crd (t : Fin (cfgA m hm).N) : (cfgA m hm).grid.Coords := (cfgA m hm).grid.coords t
abbrev ms0 (t : Fin (cfgA m hm).N) : Memref sig .tc .vmem S256x1024 .f32 := spec0_0.stage ((cfgA m hm).slots t (0 : Fin 6))
abbrev hs0 (t : Fin (cfgA m hm).N) : (ms0 m hm t).IsWhole := hstage0_0 (((cfgA m hm).slots t (0 : Fin 6)).cast nbuf0_0)
abbrev ms1 (t : Fin (cfgA m hm).N) : Memref sig .tc .vmem S1x1024x2048 .f32 := spec0_1.stage ((cfgA m hm).slots t (1 : Fin 6))
abbrev hs1 (t : Fin (cfgA m hm).N) : (ms1 m hm t).IsWhole := hstage0_1 (((cfgA m hm).slots t (1 : Fin 6)).cast nbuf0_1)
abbrev ms2 (t : Fin (cfgA m hm).N) : Memref sig .tc .vmem S1x1x2048 .f32 := spec0_2.stage ((cfgA m hm).slots t (2 : Fin 6))
abbrev hs2 (t : Fin (cfgA m hm).N) : (ms2 m hm t).IsWhole := hstage0_2 (((cfgA m hm).slots t (2 : Fin 6)).cast nbuf0_2)
abbrev ms3 (t : Fin (cfgA m hm).N) : Memref sig .tc .vmem S1x1024x1024 .f32 := spec0_3.stage ((cfgA m hm).slots t (3 : Fin 6))
abbrev hs3 (t : Fin (cfgA m hm).N) : (ms3 m hm t).IsWhole := hstage0_3 (((cfgA m hm).slots t (3 : Fin 6)).cast nbuf0_3)
abbrev ms4 (t : Fin (cfgA m hm).N) : Memref sig .tc .vmem S1x1x1024 .f32 := spec0_4.stage ((cfgA m hm).slots t (4 : Fin 6))
abbrev hs4 (t : Fin (cfgA m hm).N) : (ms4 m hm t).IsWhole := hstage0_4 (((cfgA m hm).slots t (4 : Fin 6)).cast nbuf0_4)
abbrev ms5 (t : Fin (cfgA m hm).N) : Memref sig .tc .vmem S256x1024 .f32 := spec0_5.stage ((cfgA m hm).slots t (5 : Fin 6))
abbrev hs5 (t : Fin (cfgA m hm).N) : (ms5 m hm t).IsWhole := hstage0_5 (((cfgA m hm).slots t (5 : Fin 6)).cast nbuf0_5)

/-- Window `w`'s block at point `t`, read off its array at launch. -/
def iblk (c : Dev nD) (w : Fin (cfgA m hm).W) (t : Fin (cfgA m hm).N) : (((cfgA m hm).win w).xblock (crd m hm t)).Idx → Elt Bits ((cfgA m hm).win w).elt :=
  (((cfgA m hm).win w).blk t).view.read (Elt Bits) ((s₀ m ρ).mem (((cfgA m hm).win w).arr.view.loc (c : Thread nD τ)))

/-- The grid's only coordinate is the point. -/
theorem crd_val (t : Fin (cfgA m hm).N) : (crd m hm t 0).val = t.val := (by decide +kernel : ∀ t : Fin grid0.N, (grid0.coords t 0).val = t.val) t

theorem lt_288 (t : Fin (cfgA m hm).N) : t.val < 288 := lt_of_lt_of_eq t.isLt N_0

/-- The word of the table of experts at point `n`. -/
abbrev word (n : ℕ) (hn : n < 288) : Elt Bits .i32 := T0 m fun a => ⟨n, by have : a = 0 := Subsingleton.elim _ _; subst this; exact hn⟩

theorem here_eq (t : Fin (cfgA m hm).N) : here (T0 m) (crd m hm t) = word m t.val (lt_288 m hm t) := by
  refine congrArg (T0 m) (funext fun a => Fin.ext ?_)
  obtain rfl : a = (0 : Fin 1) := Subsingleton.elim (α := Fin 1) _ _
  show (BitVec.ofNat 32 (crd m hm t 0).val).toNat + 1 * 0 = t.val
  rw [crd_val, BitVec.toNat_ofNat]
  have := lt_288 m hm t
  omega

theorem back_eq (t : Fin (cfgA m hm).N) (h : t.val ≠ 0) : back (T0 m) (crd m hm t) = word m (t.val - 1) (by have := lt_288 m hm t; omega) := by
  refine congrArg (T0 m) (funext fun a => Fin.ext ?_)
  obtain rfl : a = (0 : Fin 1) := Subsingleton.elim (α := Fin 1) _ _
  have ht := lt_288 m hm t
  show (Scalar.maxsi (Scalar.subi (BitVec.ofNat 32 (crd m hm t 0).val) 1#32) 0#32).toNat + 1 * 0 = t.val - 1
  rw [crd_val]
  exact (by decide +kernel : ∀ n : Fin 288, n.val ≠ 0 → (Scalar.maxsi (Scalar.subi (BitVec.ofNat 32 n.val) 1#32) 0#32).toNat + 1 * 0 = n.val - 1) ⟨t.val, ht⟩ h

/-- Weights are kept only where the point before was the same expert's. -/
theorem same_of_kept (t : Fin (cfgA m hm).N) (h : ¬Refill (T0 m) (crd m hm t)) :
    ∃ h0 : t.val ≠ 0, word m t.val (lt_288 m hm t) = word m (t.val - 1) (by have := lt_288 m hm t; omega) := by
  have e : ¬(Scalar.ori (Scalar.cmpi .eq (BitVec.ofNat 32 (crd m hm t 0).val) 0#32) (Scalar.cmpi .ne (here (T0 m) (crd m hm t)) (back (T0 m) (crd m hm t))) = 1#1) := by
    intro hb; apply h; show Scalar.cmpi .ne (Scalar.extui _) 0#32 = 1#1; rw [hb]; decide
  have hor : ∀ a b : BitVec 1, ¬(Scalar.ori a b = 1#1) → a = 0#1 ∧ b = 0#1 := by decide
  obtain ⟨ha, hb⟩ := hor _ _ e
  have h0 : t.val ≠ 0 := by
    intro h0; rw [crd_val, h0] at ha; exact absurd ha (by decide)
  refine ⟨h0, ?_⟩
  rw [here_eq, back_eq m hm t h0] at hb
  by_contra hne
  have : Scalar.cmpi .ne (word m t.val (lt_288 m hm t)) (word m (t.val - 1) (by have := lt_288 m hm t; omega)) = 1#1 := by
    show BitVec.ofBool (_ != _) = 1#1
    rw [bne_iff_ne.2 hne]; rfl
  rw [this] at hb; exact absurd hb (by decide)

/-! ## The blocks named by the tables -/

/-- Where a point reads its expert's weights. -/
theorem idx1 (t : Fin (cfgA m hm).N) : ((cfgA m hm).win (1 : Fin 6)).index t = ![(here (T0 m) (crd m hm t)).toNat, 0, 0] := rfl
theorem idx2 (t : Fin (cfgA m hm).N) : ((cfgA m hm).win (2 : Fin 6)).index t = ![(here (T0 m) (crd m hm t)).toNat, 0, 0] := rfl
theorem idx3 (t : Fin (cfgA m hm).N) : ((cfgA m hm).win (3 : Fin 6)).index t = ![(here (T0 m) (crd m hm t)).toNat, 0, 0] := rfl
theorem idx4 (t : Fin (cfgA m hm).N) : ((cfgA m hm).win (4 : Fin 6)).index t = ![(here (T0 m) (crd m hm t)).toNat, 0, 0] := rfl

/-- The first weights of an expert. -/
def upOf (c : Dev nD) (e : ℕ) (he : e < 32) : S1x1024x2048.Idx → Elt Bits .f32 :=
  fun y => m ((c : Thread nD τ).loc main_arg3) (fun | ⟨0, _⟩ => (⟨e, he⟩ : Fin 32) | ⟨1, _⟩ => (y 1 : Fin 1024) | ⟨2, _⟩ => (y 2 : Fin 2048) | ⟨_ + 3, h⟩ => absurd h (Nat.not_lt.2 (Nat.le_add_left _ _)))
/-- Its first bias. -/
def upBiasOf (c : Dev nD) (e : ℕ) (he : e < 32) : S1x1x2048.Idx → Elt Bits .f32 :=
  fun y => m ((c : Thread nD τ).loc main_arg4) (fun | ⟨0, _⟩ => (⟨e, he⟩ : Fin 32) | ⟨1, _⟩ => (y 1 : Fin 1) | ⟨2, _⟩ => (y 2 : Fin 2048) | ⟨_ + 3, h⟩ => absurd h (Nat.not_lt.2 (Nat.le_add_left _ _)))
/-- Its second weights. -/
def downOf (c : Dev nD) (e : ℕ) (he : e < 32) : S1x1024x1024.Idx → Elt Bits .f32 :=
  fun y => m ((c : Thread nD τ).loc main_arg5) (fun | ⟨0, _⟩ => (⟨e, he⟩ : Fin 32) | ⟨1, _⟩ => (y 1 : Fin 1024) | ⟨2, _⟩ => (y 2 : Fin 1024) | ⟨_ + 3, h⟩ => absurd h (Nat.not_lt.2 (Nat.le_add_left _ _)))
/-- Its second bias. -/
def downBiasOf (c : Dev nD) (e : ℕ) (he : e < 32) : S1x1x1024.Idx → Elt Bits .f32 :=
  fun y => m ((c : Thread nD τ).loc main_arg6) (fun | ⟨0, _⟩ => (⟨e, he⟩ : Fin 32) | ⟨1, _⟩ => (y 1 : Fin 1) | ⟨2, _⟩ => (y 2 : Fin 1024) | ⟨_ + 3, h⟩ => absurd h (Nat.not_lt.2 (Nat.le_add_left _ _)))

include hm in
theorem word_lt (n : ℕ) (hn : n < 288) : (word m n hn).toNat < 32 := hm.1 _

theorem iblk1 (c : Dev nD) (t : Fin (cfgA m hm).N) :
    (iblk m ρ hm c (1 : Fin 6) t : S1x1024x2048.Idx → Elt Bits .f32) = upOf m c (word m t.val (lt_288 m hm t)).toNat (word_lt m hm _ _) := by
  funext y
  unfold upOf
  blk_simp [iblk]
  blk_ext [idx1 m hm t, here_eq m hm t]
theorem iblk2 (c : Dev nD) (t : Fin (cfgA m hm).N) :
    (iblk m ρ hm c (2 : Fin 6) t : S1x1x2048.Idx → Elt Bits .f32) = upBiasOf m c (word m t.val (lt_288 m hm t)).toNat (word_lt m hm _ _) := by
  funext y
  unfold upBiasOf
  blk_simp [iblk]
  blk_ext [idx2 m hm t, here_eq m hm t]
theorem iblk3 (c : Dev nD) (t : Fin (cfgA m hm).N) :
    (iblk m ρ hm c (3 : Fin 6) t : S1x1024x1024.Idx → Elt Bits .f32) = downOf m c (word m t.val (lt_288 m hm t)).toNat (word_lt m hm _ _) := by
  funext y
  unfold downOf
  blk_simp [iblk]
  blk_ext [idx3 m hm t, here_eq m hm t]
theorem iblk4 (c : Dev nD) (t : Fin (cfgA m hm).N) :
    (iblk m ρ hm c (4 : Fin 6) t : S1x1x1024.Idx → Elt Bits .f32) = downBiasOf m c (word m t.val (lt_288 m hm t)).toNat (word_lt m hm _ _) := by
  funext y
  unfold downBiasOf
  blk_simp [iblk]
  blk_ext [idx4 m hm t, here_eq m hm t]

/-! ## The invariant and the pipeline's data -/

/-- What the first scratch buffer holds before point `n` (after the first point): the weights of the expert of the point before. -/
def Held (c : Dev nD) (n : ℕ) (a0 : Buf (Elt Bits) ((c : Thread nD τ).loc cc0_scratch0)) (a1 : Buf (Elt Bits) ((c : Thread nD τ).loc cc0_scratch1)) : Prop :=
  ∀ (h0 : n ≠ 0) (hn : n - 1 < 288), a0 = up (upOf m c (word m (n - 1) hn).toNat (word_lt m hm _ hn)) ∧ a1 = down (downOf m c (word m (n - 1) hn).toNat (word_lt m hm _ hn))

/-- THE INVARIANT before a point: the scratch buffers hold those weights; the body's halves of the tables. -/
def Phi (c : Dev nD) (n : ℕ) : sProp 𝕄 :=
  iprop(∃ a0 a1, ⌜Held m hm c n a0 a1⌝ ∗ (upM.view.loc (c : Thread nD τ) ↦{fullShare} a0) ∗ (downM.view.loc (c : Thread nD τ) ↦{fullShare} a1)
    ∗ (expertsM.view.loc (c : Thread nD τ) ↦{fullShare.right} T0 m) ∗ (usedM.view.loc (c : Thread nD τ) ↦{fullShare.right} T1 m))

/-- What each window's buffer holds after a point: an input its block, the output its tile. -/
def dats (_ : Fin 1) (c : Dev nD) : Dat τ (Elt Bits) Unit ℕ (UR sig nD τ) ℕ (cfgA m hm) c where
  A w := (s₀ m ρ).mem (((cfgA m hm).win w).arr.view.loc (c : Thread nD τ))
  after w t := match w with
    | ⟨0, _⟩ => iblk m ρ hm c (0 : Fin 6) t
    | ⟨1, _⟩ => iblk m ρ hm c (1 : Fin 6) t
    | ⟨2, _⟩ => iblk m ρ hm c (2 : Fin 6) t
    | ⟨3, _⟩ => iblk m ρ hm c (3 : Fin 6) t
    | ⟨4, _⟩ => iblk m ρ hm c (4 : Fin 6) t
    | ⟨5, _⟩ => tile (T1 m) (crd m hm t) (iblk m ρ hm c (0 : Fin 6) t) (iblk m ρ hm c (1 : Fin 6) t) (iblk m ρ hm c (2 : Fin 6) t) (iblk m ρ hm c (3 : Fin 6) t) (iblk m ρ hm c (4 : Fin 6) t)
  Φ t := Phi m hm c t.val
  q _ := fullShare
  owed _ := 0

theorem after5 (c : Dev nD) (t : Fin (cfgA m hm).N) : (dats m ρ hm 0 c).after (5 : Fin 6) t
    = tile (T1 m) (crd m hm t) (iblk m ρ hm c (0 : Fin 6) t) (iblk m ρ hm c (1 : Fin 6) t) (iblk m ρ hm c (2 : Fin 6) t) (iblk m ρ hm c (3 : Fin 6) t) (iblk m ρ hm c (4 : Fin 6) t) := rfl
theorem after0 (c : Dev nD) (t : Fin (cfgA m hm).N) : (dats m ρ hm 0 c).after (0 : Fin 6) t = iblk m ρ hm c (0 : Fin 6) t := rfl
theorem after1 (c : Dev nD) (t : Fin (cfgA m hm).N) : (dats m ρ hm 0 c).after (1 : Fin 6) t = iblk m ρ hm c (1 : Fin 6) t := rfl
theorem after2 (c : Dev nD) (t : Fin (cfgA m hm).N) : (dats m ρ hm 0 c).after (2 : Fin 6) t = iblk m ρ hm c (2 : Fin 6) t := rfl
theorem after3 (c : Dev nD) (t : Fin (cfgA m hm).N) : (dats m ρ hm 0 c).after (3 : Fin 6) t = iblk m ρ hm c (3 : Fin 6) t := rfl
theorem after4 (c : Dev nD) (t : Fin (cfgA m hm).N) : (dats m ρ hm 0 c).after (4 : Fin 6) t = iblk m ρ hm c (4 : Fin 6) t := rfl

/-- An input's buffer holds its block when the body runs. -/
theorem before0 (c : Dev nD) (t : Fin (cfgA m hm).N) (d) : (dats m ρ hm 0 c).before (0 : Fin 6) t d = iblk m ρ hm c (0 : Fin 6) t :=
  ((dats m ρ hm 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA m hm).N) (d) : (dats m ρ hm 0 c).before (1 : Fin 6) t d = iblk m ρ hm c (1 : Fin 6) t :=
  ((dats m ρ hm 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA m hm).N) (d) : (dats m ρ hm 0 c).before (2 : Fin 6) t d = iblk m ρ hm c (2 : Fin 6) t :=
  ((dats m ρ hm 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA m hm).N) (d) : (dats m ρ hm 0 c).before (3 : Fin 6) t d = iblk m ρ hm c (3 : Fin 6) t :=
  ((dats m ρ hm 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA m hm).N) (d) : (dats m ρ hm 0 c).before (4 : Fin 6) t d = iblk m ρ hm c (4 : Fin 6) t :=
  ((dats m ρ hm 0 c).before_in_eq_fetched (4 : Fin 6) rfl (fun _ => rfl) (fun _ _ _ => rfl) (fun t => by rw [after4]; unfold Dat.blockOf iblk; rfl) t d).trans
    (by unfold Dat.fetched Dat.blockOf iblk; rfl)

/-- The output is stored at every point. -/
theorem idle5 (t : Fin (cfgA m hm).N) : (cfgA m hm).idle (5 : Fin 6) ((cfgA m hm).grid.coords t) = false := by
  have e : ∀ (i : grid0.Coords) (n : BitVec 32), (!(k0_cond2 i n == 1#1) && !(k0_cond3 i n == 1#1)) = false := fun i n => by
    by_cases h : k0_cond2 i n = 1#1
    · rw [h]; rfl
    · rw [(spare_iff_word i n).2 h]; simp
  exact e _ _

/-- The buffers hold this point's weights wherever they are kept. -/
theorem keep (c : Dev nD) (t : Fin (cfgA m hm).N) (a0 : Buf (Elt Bits) ((c : Thread nD τ).loc cc0_scratch0)) (a1 : Buf (Elt Bits) ((c : Thread nD τ).loc cc0_scratch1))
    (h : Held m hm c t.val a0 a1) (hr : ¬Refill (T0 m) (crd m hm t)) : a0 = up (iblk m ρ hm c (1 : Fin 6) t) ∧ a1 = down (iblk m ρ hm c (3 : Fin 6) t) := by
  obtain ⟨h0, e⟩ := same_of_kept m hm t hr
  have hn : t.val - 1 < 288 := by have := lt_288 m hm t; omega
  obtain ⟨e0, e1⟩ := h h0 hn
  rw [iblk1, iblk3, e0, e1]
  constructor
  · congr 2; exact congrArg BitVec.toNat e.symm
  · congr 2; exact congrArg BitVec.toNat e.symm

/-- After a point the buffers hold its weights. -/
theorem held_succ (c : Dev nD) (t : Fin (cfgA m hm).N) : Held m hm c (t.val + 1) (up (iblk m ρ hm c (1 : Fin 6) t)) (down (iblk m ρ hm c (3 : Fin 6) t)) := by
  intro _ hn
  rw [iblk1, iblk3]
  exact ⟨rfl, rfl⟩

/-- The body at point `t`, as the pipeline calls it. -/
abbrev bodyAt (t : Fin (cfgA m hm).N) : Prog (TpuEff nD τ sig (Elt Bits) Λ₀ .tc) PUnit :=
  cc0_grouped_ffn (crd m hm t) expertsM (Memref.isWhole_whole _) usedM (Memref.isWhole_whole _) (ms0 m hm t) (hs0 m hm t) (ms1 m hm t) (hs1 m hm t) (ms2 m hm t) (hs2 m hm t) (ms3 m hm t) (hs3 m hm t) (ms4 m hm t) (hs4 m hm t) (ms5 m hm t) (hs5 m hm t) upM (Memref.isWhole_whole _) downM (Memref.isWhole_whole _)

set_option maxHeartbeats 4000000 in
/-- THE BODY'S OBLIGATION at point `t`. -/
theorem sound_body (c : Dev nD) (t : Fin (cfgA m hm).N) :
    iprop((dats m ρ hm 0 c).Φ t.castSucc ∗ (dats m ρ hm 0 c).owesAt () t.castSucc
        ∗ (∃ d, owns (c : Thread nD τ) (ms0 m hm t) fullShare ((dats m ρ hm 0 c).before (0 : Fin 6) t d))
        ∗ (∃ d, owns (c : Thread nD τ) (ms1 m hm t) fullShare ((dats m ρ hm 0 c).before (1 : Fin 6) t d))
        ∗ (∃ d, owns (c : Thread nD τ) (ms2 m hm t) fullShare ((dats m ρ hm 0 c).before (2 : Fin 6) t d))
        ∗ (∃ d, owns (c : Thread nD τ) (ms3 m hm t) fullShare ((dats m ρ hm 0 c).before (3 : Fin 6) t d))
        ∗ (∃ d, owns (c : Thread nD τ) (ms4 m hm t) fullShare ((dats m ρ hm 0 c).before (4 : Fin 6) t d))
        ∗ (∃ d, owns (c : Thread nD τ) (ms5 m hm t) fullShare ((dats m ρ hm 0 c).before (5 : Fin 6) t d)))
      ⊢ wp frame (wpE (defs₀ (F := Bits)) Variants.none c none) Set.univ (bodyAt m hm t) fun _ =>
          iprop((dats m ρ hm 0 c).Φ t.succ ∗ (dats m ρ hm 0 c).owesAt () t.succ
            ∗ bigSep Finset.univ fun w : Fin (cfgA m hm).W =>
                match (cfgA m hm).idle w ((cfgA m hm).grid.coords t) with
                | true =>
                  match ((cfgA m hm).win w).flush t with
                  | false => iprop(∃ d, owns (c : Thread nD τ) (((cfgA m hm).win w).stage ((cfgA m hm).slots t w)) fullShare ((dats m ρ hm 0 c).before w t d))
                  | true => owns (c : Thread nD τ) (((cfgA m hm).win w).stage ((cfgA m hm).slots t w)) fullShare ((dats m ρ hm 0 c).after w t)
                | false => owns (c : Thread nD τ) (((cfgA m hm).win w).stage ((cfgA m hm).slots t w)) fullShare ((dats m ρ hm 0 c).after w t)) := by
  rw [bigSep_W0]
  rewrite [idle5]
  simp only [before0, before1, before2, before3, before4, after0, after1, after2, after3, after4, after5]
  rewrite [show (dats m ρ hm 0 c).Φ t.succ = Phi m hm c (t.val + 1) from rfl, show (dats m ρ hm 0 c).Φ t.castSucc = Phi m hm c t.val from rfl,
    show (dats m ρ hm 0 c).owesAt () t.succ = (dats m ρ hm 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩⟩
  have R := fun K => body c (crd m hm t) (ms0 m hm t) (hs0 m hm t) (ms1 m hm t) (hs1 m hm t) (ms2 m hm t) (hs2 m hm t) (ms3 m hm t) (hs3 m hm t) (ms4 m hm t) (hs4 m hm t) (ms5 m hm t) (hs5 m hm t) (T0 m) (T1 m) (iblk m ρ hm c (0 : Fin 6) t) (iblk m ρ hm c (1 : Fin 6) t) (iblk m ρ hm c (2 : Fin 6) t) (iblk m ρ hm c (3 : Fin 6) t) (iblk m ρ hm c (4 : Fin 6) t) a0 a1 (keep m ρ hm c t a0 a1 ha) K
  unfold Step at R
  iapply R
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, H5, HS0, HS1⟩
  isplitl [HS0 HS1 HT0 HT1]
  · iexists _; iexists _; isplitr; swap
    · isplitl [HS0]; · iexact HS0
      isplitl [HS1]; · iexact HS1
      isplitl [HT0]; · iexact HT0
      iexact HT1
    · ipureintro; exact held_succ m ρ hm c t
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-- The library's form of it. -/
theorem body_obligation (c : Dev nD) : BodyObligation (dats m ρ hm 0 c) (defs₀ (F := Bits)) Variants.none () Set.univ := fun t => by
  rw [bigSep_W0]
  exact sound_body m ρ hm c t

end Cert.Ffn.Tab

end
-- ==== Proof.FfnFrame.lean ====
/- The whole run of the experts' feed-forward part at the tables a launch memory holds: it ends, every array at the computed
   contents, the arguments unchanged, every counter at zero. -/
module

public import proofs.«01_k».proof.Proof.FfnDat

@[expose] public section

set_option maxRecDepth 16384
set_option Elab.async false

noncomputable section

namespace Cert.Ffn.Tab

open Cert.Ffn Cert.Ffn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg) (hm : Ok m)

/-- The launch element of the rounds library. -/
def u₀ : UR sig nD τ :=
  initOf (Pipeline.cells (pcs m hm) ((launch0 (F := Bits)).cellOf_inj fun _ => adm m hm))
    (Pipeline.launchToks (pcs m hm) ((launch0 (F := Bits)).cellOf_inj fun _ => adm m hm))

theorem share_eq (c : Dev nD) (w : Fin (cfgA m hm).W) : (dats m ρ hm 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi_first (c : Dev nD) :
    iprop(BI.emp ∗ Pipeline.prefHeld pre0 c (fun _ => fullShare.right) (adm m hm).1 ∗ Pipeline.scopedRest spec0 c) ⊢ (dats m ρ hm 0 c).Φ 0 := by
  rw [prefHeld_eq, scopedRest0_eq, show (dats m ρ hm 0 c).Φ 0 = Phi m hm c 0 from rfl]
  unfold Phi
  iintro ⟨-, ⟨HT0, HT1⟩, ⟨%a0, HS0⟩, ⟨%a1, HS1⟩⟩
  iexists a0; iexists a1; isplitr; swap
  · isplitl [HS0]; · iexact HS0
    isplitl [HS1]; · iexact HS1
    isplitl [HT0]; · iexact HT0
    iexact HT1
  · ipureintro; intro h; exact absurd rfl h

/-- at the last point it gives the scratch buffers back. -/
theorem phi_last (c : Dev nD) : (dats m ρ hm 0 c).Φ (Fin.last (cfgA m hm).N) ⊢ iprop(BI.emp ∗ Pipeline.scopedRest spec0 c) := by
  rw [scopedRest0_eq, show (dats m ρ hm 0 c).Φ (Fin.last (cfgA m hm).N) = Phi m hm c (cfgA m hm).N from rfl]
  unfold Phi
  iintro ⟨%a0, %a1, -, HS0, HS1, -, -⟩
  isplitr; · iempintro
  isplitl [HS0]
  · iexists a0; iexact HS0
  iexists a1; iexact HS1

/-- What a run ends in: every array at its computed contents, every table as it was. -/
def Ends : PUnit × MemSt nD τ sig (Elt Bits) → Prop := fun r =>
  ∀ c : Dev nD, (∀ w : Fin (cfgA m hm).W, r.2.mem (((cfgA m hm).win w).arr.view.loc (c : Thread nD τ)) = (dats m ρ hm 0 c).arrAt w (cfgA m hm).N)
    ∧ ∀ j, r.2.mem ((c : Thread nD τ).loc (pre0.ref j)) = (adm m hm).1 j

theorem tables_eq (c : Dev nD) (j : Fin 2) : m ((c : Thread nD τ).loc (pre0.ref j)) = (adm m hm).1 j := by
  obtain rfl : c = (0 : Fin 1) := Subsingleton.elim (α := Fin 1) _ _
  fin_cases j <;> rfl

set_option backward.isDefEq.respectTransparency.types false in
set_option maxHeartbeats 4000000 in
/-- From any memory whose tables are in range, with zero counters: every weakly fair execution ends, with each array at the
    computed contents and every counter at zero. -/
theorem run_ends : θ_run (defs (F := Bits)) (onTc (τ := τ) (main (F := Bits))) (s₀ m ρ) (fun r => Ends m ρ hm r ∧ r.2.sem = fun _ => 0) :=
  Pipeline.θ_run_region_noSem_pf_quiescent pcfgs (fun _ => adm m hm) (dats m ρ hm) () ((launch0 (F := Bits)).cellOf_inj fun _ => adm m hm) (0 : Fin 1)
    (launch0 (F := Bits)).win.to₀ (launch0 (F := Bits)).pre EP defs₀ Variants.none m ρ main
    (hbody := fun c => (body_obligation m ρ hm c).loose) (hne := (launch0 (F := Bits)).block_pos)
    (harr := (launch0 (F := Bits)).arr_whole) (hstage := (launch0 (F := Bits)).stage_whole) (howed := fun _ _ => rfl)
    (u₀ := u₀ m hm) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hm) (dats m ρ hm) 0 (launch0 (F := Bits)).win.arr_inj c (launch0 (F := Bits)).arr_whole
      (share_eq m ρ hm c) _ _ fun _ => rfl)
    (hpf := tables_eq m hm)
    (X := fun _ => iprop(emp)) (Y := fun _ => iprop(emp)) (Z := fun _ => iprop(emp))
    (hX := fun c => by rw [unscopedRestP0_eq]; iintro -; isplitr <;> iempintro)
    (hin := phi_first m ρ hm)
    (hout := phi_last m ρ hm)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem args_eq (r : PUnit × MemSt nD τ sig (Elt Bits)) (h : Ends m ρ hm r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (tables_eq m hm c 0).symm, ((h c).2 1).trans (tables_eq m hm c 1).symm,
    ((h c).1 (0 : Fin 6)).trans ((dats m ρ hm 0 c).arrAt_in (0 : Fin 6) rfl _), ((h c).1 (1 : Fin 6)).trans ((dats m ρ hm 0 c).arrAt_in (1 : Fin 6) rfl _),
    ((h c).1 (2 : Fin 6)).trans ((dats m ρ hm 0 c).arrAt_in (2 : Fin 6) rfl _), ((h c).1 (3 : Fin 6)).trans ((dats m ρ hm 0 c).arrAt_in (3 : Fin 6) rfl _),
    ((h c).1 (4 : Fin 6)).trans ((dats m ρ hm 0 c).arrAt_in (4 : Fin 6) rfl _)⟩

/-- THE FRAME: from such a memory every execution ends, nothing faults, the arguments end unchanged, every counter at zero. -/
theorem frame [Cert.Pre_tiles_in_range.Facts] (hp : Cert.Pre_Ffn m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  have hm : Ok m := Cert.Tables.inRange_of_pre _ _ _ _ _ _ _ (hp 0)
  (θ_run defs _ _).mono (fun r h => ⟨args_eq m ρ hm r h.1, h.2⟩) (run_ends m ρ hm)

end Cert.Ffn.Tab

end
-- ==== Proof.FfnIdealRun.lean ====
/- One call of the kernel body of the experts' feed-forward part, on any tables: the weights held in the two scratch
   buffers, and the block of rows it leaves. -/
module

public import proofs.«01_k».proof.Proof.Gen.FfnIdeal.Skeleton
public import proofs.«01_k».proof.Proof.Gen.FfnIdeal.Launch
public import Idealize.ShloMosaic.Lib.Pipeline.ValueKit

@[expose] public section

set_option maxRecDepth 16384
set_option Elab.async false

noncomputable section

namespace Cert.FfnIdeal.Tab

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! ## The words the body decides by -/

/-- The table of the tiles' experts and the number of tiles in use, as the body is handed them. -/
abbrev expertsM : Memref sig .tc .smem S288 .i32 := Memref.whole main_arg0
abbrev usedM : Memref sig .tc .smem S1 .i32 := Memref.whole main_arg1
/-- The two scratch buffers: an expert's weights, cast. -/
abbrev upM : Memref sig .tc .vmem S1024x2048 .bf16 := Memref.whole cc0_scratch0
abbrev downM : Memref sig .tc .vmem S1024x1024 .bf16 := Memref.whole cc0_scratch1

/-- The word of the table of experts at this point, and at the one before (at the first point: its own). -/
abbrev here (T0 : S288.Idx → Elt Ideal .i32) (i : grid0.Coords) : Elt Ideal .i32 :=
  View.readAt (Elt Ideal) expertsM.view (Rect.unit (s := S288) (k0_off1 i) S1.size (k0_off1_inb i)).toLoadRect T0 (Shape.Idx.first (numel1_S1.symm ▸ Nat.one_pos))
abbrev back (T0 : S288.Idx → Elt Ideal .i32) (i : grid0.Coords) : Elt Ideal .i32 :=
  View.readAt (Elt Ideal) expertsM.view (Rect.unit (s := S288) (k0_off2 i) S1.size (k0_off2_inb i)).toLoadRect T0 (Shape.Idx.first (numel1_S1.symm ▸ Nat.one_pos))
/-- The number of tiles in use. -/
abbrev count (T1 : S1.Idx → Elt Ideal .i32) : Elt Ideal .i32 :=
  View.readAt (Elt Ideal) usedM.view (Rect.unit (s := S1) ![0] S1.size inb_S1_S1_0).toLoadRect T1 (Shape.Idx.first (numel1_S1.symm ▸ Nat.one_pos))

/-- The body casts the expert's weights afresh. -/
abbrev Refill (T0 : S288.Idx → Elt Ideal .i32) (i : grid0.Coords) : Prop :=
  Scalar.cmpi .ne (Scalar.extui (Scalar.ori (Scalar.cmpi .eq (BitVec.ofNat 32 (i 0).val) 0#32) (Scalar.cmpi .ne (here T0 i) (back T0 i)))) 0#32 = 1#1
/-- The tile is in use; and the test for the tiles that are not. -/
abbrev Used (T1 : S1.Idx → Elt Ideal .i32) (i : grid0.Coords) : Prop := k0_cond2 i (count T1) = 1#1
abbrev Spare (T1 : S1.Idx → Elt Ideal .i32) (i : grid0.Coords) : Prop := k0_cond3 i (count T1) = 1#1

/-! ## The four ways through the body -/

set_option backward.proofsInPublic true in
set_option maxHeartbeats 8000000 in
/-- What the body leaves where the weights are cast afresh and the tile is in use, with its run. -/
noncomputable def fillUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : Used T1 i) (hs : ¬Spare T1 i) :
    Σ' (out0 : List (View.Piece (Elt Ideal) S256x1024 .f32)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Ideal) f out0)
              ∗ (upM.view.loc (c : Thread nD τ) ↦{fullShare} out1)
              ∗ (downM.view.loc (c : Thread nD τ) ↦{fullShare} out2)) -∗ K ⟨⟩))
          ⊢ wp frame (wpE (defs₀ (F := Ideal)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun xa0 xa1 K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = Scalar.cmpi = _; exact hr) | (guard_target = k0_cond2 _ _ = _; exact hu) | (guard_target = ¬(k0_cond3 _ _ = _); exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- What the body leaves where the weights are cast afresh and the tile is not in use, with its run. -/
noncomputable def fillSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : ¬Used T1 i) (hs : Spare T1 i) :
    Σ' (out0 : List (View.Piece (Elt Ideal) S256x1024 .f32)) (out1 : Buf (Elt Ideal) ((c : Thread nD τ).loc cc0_scratch0)), { out2 : Buf (Elt Ideal) ((c : Thread nD τ).loc cc0_scratch1) //
      ∀ (xa0 : Buf (Elt Ideal) ((c : Thread nD τ).loc cc0_scratch0)) (xa1 : Buf (Elt Ideal) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Ideal) f out0)
              ∗ (upM.view.loc (c : Thread nD τ) ↦{fullShare} out1)
              ∗ (downM.view.loc (c : Thread nD τ) ↦{fullShare} out2)) -∗ K ⟨⟩))
          ⊢ wp frame (wpE (defs₀ (F := Ideal)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun xa0 xa1 K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = Scalar.cmpi = _; exact hr) | (guard_target = ¬(k0_cond2 _ _ = _); exact hu) | (guard_target = k0_cond3 _ _ = _; exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- What the body leaves where the weights are kept and the tile is in use, with its run. -/
noncomputable def keepUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32) (xa0 : Buf (Elt Ideal) ((c : Thread nD τ).loc cc0_scratch0)) (xa1 : Buf (Elt Ideal) ((c : Thread nD τ).loc cc0_scratch1))
    (hr : ¬Refill T0 i) (hu : Used T1 i) (hs : ¬Spare T1 i) :
    Σ' (out0 : List (View.Piece (Elt Ideal) S256x1024 .f32)) (out1 : Buf (Elt Ideal) ((c : Thread nD τ).loc cc0_scratch0)), { out2 : Buf (Elt Ideal) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Ideal) f out0)
              ∗ (upM.view.loc (c : Thread nD τ) ↦{fullShare} out1)
              ∗ (downM.view.loc (c : Thread nD τ) ↦{fullShare} out2)) -∗ K ⟨⟩))
          ⊢ wp frame (wpE (defs₀ (F := Ideal)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = ¬(Scalar.cmpi = _); exact hr) | (guard_target = k0_cond2 _ _ = _; exact hu) | (guard_target = ¬(k0_cond3 _ _ = _); exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

set_option backward.proofsInPublic true in
set_option maxHeartbeats 8000000 in
/-- What the body leaves where the weights are kept and the tile is not in use, with its run. -/
noncomputable def keepSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32) (xa0 : Buf (Elt Ideal) ((c : Thread nD τ).loc cc0_scratch0)) (xa1 : Buf (Elt Ideal) ((c : Thread nD τ).loc cc0_scratch1))
    (hr : ¬Refill T0 i) (hu : ¬Used T1 i) (hs : Spare T1 i) :
    Σ' (out0 : List (View.Piece (Elt Ideal) S256x1024 .f32)) (out1 : Buf (Elt Ideal) ((c : Thread nD τ).loc cc0_scratch0)), { out2 : Buf (Elt Ideal) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (expertsM.view.loc (c : Thread nD τ) ↦{fullShare.right} T0)
          ∗ (usedM.view.loc (c : Thread nD τ) ↦{fullShare.right} T1)
          ∗ (∃ d, owns (c : Thread nD τ) arg8 fullShare d)
          ∗ (upM.view.loc (c : Thread nD τ) ↦{fullShare} xa0)
          ∗ (downM.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (expertsM.view.loc (c : Thread nD τ) ↦{fullShare.right} T0)
              ∗ (usedM.view.loc (c : Thread nD τ) ↦{fullShare.right} T1)
              ∗ (∃ f, arg8.view.loc (c : Thread nD τ) ↦[arg8.view.set]{fullShare} arg8.view.writes (Elt Ideal) f out0)
              ∗ (upM.view.loc (c : Thread nD τ) ↦{fullShare} out1)
              ∗ (downM.view.loc (c : Thread nD τ) ↦{fullShare} out2)) -∗ K ⟨⟩))
          ⊢ wp frame (wpE (defs₀ (F := Ideal)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K } :=
  ⟨_, _, _, fun K => by
    unfold owns
    rw [cc0_grouped_ffn_eq_skeleton]; unfold cc0_grouped_ffn_skel
    iintro ⟨H0, H1, H2, H3, H4, HT0, HT1, ⟨%d5, %f5, -, HO⟩, HS0, HS1, Hk⟩
    have hS0 : upM.IsWhole := Memref.isWhole_whole _
    have hS1 : downM.IsWhole := Memref.isWhole_whole _
    have hT0 : expertsM.IsWhole := Memref.isWhole_whole _
    have hT1 : usedM.IsWhole := Memref.isWhole_whole _
    sl_exec! (disch := first | (guard_target = ¬(Scalar.cmpi = _); exact hr) | (guard_target = ¬(k0_cond2 _ _ = _); exact hu) | (guard_target = k0_cond3 _ _ = _; exact hs))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HS0]; · iexact HS0
    iexact HS1⟩

end Cert.FfnIdeal.Tab

end
-- ==== Proof.FfnIdealBody.lean ====
/- One call of the kernel body of the experts' feed-forward part in closed form: what the two scratch buffers hold of the
   expert's weights, and the block of rows the body leaves. -/
module

public import proofs.«01_k».proof.Proof.FfnIdealRun
public import Idealize.ShloMosaic.Lib.LaneScatter.Tiles
public import Idealize.ShloMosaic.Lib.VecWindow

@[expose] public section

set_option maxRecDepth 16384
set_option Elab.async false

noncomputable section

namespace Cert.FfnIdeal.Tab

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-! ## The weights in the scratch buffers -/

/-- The eight stores that cast the first weights, the last first, as a function of how a part of the block is read. -/
def upPieces (rd : (r : Rect S1x1024x2048) → r.shape.Idx → Elt Ideal .f32) : List (View.Piece (Elt Ideal) S1024x2048 .bf16) :=
  [⟨Rect.unit (s := S1024x2048) ![896, 0] S128x2048.size inb_S1024x2048_S128x2048_896_0, k0_pay11 (rd (Rect.unit (s := S1x1024x2048) ![0, 896, 0] S1x128x2048.size inb_S1x1024x2048_S1x128x2048_0_896_0))⟩,
   ⟨Rect.unit (s := S1024x2048) ![768, 0] S128x2048.size inb_S1024x2048_S128x2048_768_0, k0_pay10 (rd (Rect.unit (s := S1x1024x2048) ![0, 768, 0] S1x128x2048.size inb_S1x1024x2048_S1x128x2048_0_768_0))⟩,
   ⟨Rect.unit (s := S1024x2048) ![640, 0] S128x2048.size inb_S1024x2048_S128x2048_640_0, k0_pay9 (rd (Rect.unit (s := S1x1024x2048) ![0, 640, 0] S1x128x2048.size inb_S1x1024x2048_S1x128x2048_0_640_0))⟩,
   ⟨Rect.unit (s := S1024x2048) ![512, 0] S128x2048.size inb_S1024x2048_S128x2048_512_0, k0_pay8 (rd (Rect.unit (s := S1x1024x2048) ![0, 512, 0] S1x128x2048.size inb_S1x1024x2048_S1x128x2048_0_512_0))⟩,
   ⟨Rect.unit (s := S1024x2048) ![384, 0] S128x2048.size inb_S1024x2048_S128x2048_384_0, k0_pay7 (rd (Rect.unit (s := S1x1024x2048) ![0, 384, 0] S1x128x2048.size inb_S1x1024x2048_S1x128x2048_0_384_0))⟩,
   ⟨Rect.unit (s := S1024x2048) ![256, 0] S128x2048.size inb_S1024x2048_S128x2048_256_0, k0_pay6 (rd (Rect.unit (s := S1x1024x2048) ![0, 256, 0] S1x128x2048.size inb_S1x1024x2048_S1x128x2048_0_256_0))⟩,
   ⟨Rect.unit (s := S1024x2048) ![128, 0] S128x2048.size inb_S1024x2048_S128x2048_128_0, k0_pay5 (rd (Rect.unit (s := S1x1024x2048) ![0, 128, 0] S1x128x2048.size inb_S1x1024x2048_S1x128x2048_0_128_0))⟩,
   ⟨Rect.unit (s := S1024x2048) ![0, 0] S128x2048.size inb_S1024x2048_S128x2048_0_0, k0_pay4 (rd (Rect.unit (s := S1x1024x2048) ![0, 0, 0] S1x128x2048.size inb_S1x1024x2048_S1x128x2048_0_0_0))⟩]
/-- The eight stores that cast the second weights. -/
def downPieces (rd : (r : Rect S1x1024x1024) → r.shape.Idx → Elt Ideal .f32) : List (View.Piece (Elt Ideal) S1024x1024 .bf16) :=
  [⟨Rect.unit (s := S1024x1024) ![896, 0] S128x1024.size inb_S1024x1024_S128x1024_896_0, k0_pay1 (rd (Rect.unit (s := S1x1024x1024) ![0, 896, 0] S1x128x1024.size inb_S1x1024x1024_S1x128x1024_0_896_0))⟩,
   ⟨Rect.unit (s := S1024x1024) ![768, 0] S128x1024.size inb_S1024x1024_S128x1024_768_0, k0_pay18 (rd (Rect.unit (s := S1x1024x1024) ![0, 768, 0] S1x128x1024.size inb_S1x1024x1024_S1x128x1024_0_768_0))⟩,
   ⟨Rect.unit (s := S1024x1024) ![640, 0] S128x1024.size inb_S1024x1024_S128x1024_640_0, k0_pay17 (rd (Rect.unit (s := S1x1024x1024) ![0, 640, 0] S1x128x1024.size inb_S1x1024x1024_S1x128x1024_0_640_0))⟩,
   ⟨Rect.unit (s := S1024x1024) ![512, 0] S128x1024.size inb_S1024x1024_S128x1024_512_0, k0_pay16 (rd (Rect.unit (s := S1x1024x1024) ![0, 512, 0] S1x128x1024.size inb_S1x1024x1024_S1x128x1024_0_512_0))⟩,
   ⟨Rect.unit (s := S1024x1024) ![384, 0] S128x1024.size inb_S1024x1024_S128x1024_384_0, k0_pay15 (rd (Rect.unit (s := S1x1024x1024) ![0, 384, 0] S1x128x1024.size inb_S1x1024x1024_S1x128x1024_0_384_0))⟩,
   ⟨Rect.unit (s := S1024x1024) ![256, 0] S128x1024.size inb_S1024x1024_S128x1024_256_0, k0_pay14 (rd (Rect.unit (s := S1x1024x1024) ![0, 256, 0] S1x128x1024.size inb_S1x1024x1024_S1x128x1024_0_256_0))⟩,
   ⟨Rect.unit (s := S1024x1024) ![128, 0] S128x1024.size inb_S1024x1024_S128x1024_128_0, k0_pay13 (rd (Rect.unit (s := S1x1024x1024) ![0, 128, 0] S1x128x1024.size inb_S1x1024x1024_S1x128x1024_0_128_0))⟩,
   ⟨Rect.unit (s := S1024x1024) ![0, 0] S128x1024.size inb_S1024x1024_S128x1024_0_0, k0_pay12 (rd (Rect.unit (s := S1x1024x1024) ![0, 0, 0] S1x128x1024.size inb_S1x1024x1024_S1x128x1024_0_0_0))⟩]

/-- What the two buffers hold after a cast of these blocks. -/
def up (x1 : S1x1024x2048.Idx → Elt Ideal .f32) : S1024x2048.Idx → Elt Ideal .bf16 := View.canon (upPieces (View.ld x1))
def down (x3 : S1x1024x1024.Idx → Elt Ideal .f32) : S1024x1024.Idx → Elt Ideal .bf16 := View.canon (downPieces (View.ld x3))

/-- A load of a staged block reads the block. -/
theorem rd_eq {sg : RefSig} {κ : Kind} {sp : Space} {s : Shape} {e : EltTy} (v : View sg κ sp s e) (x : s.Idx → Elt Ideal e) :
    (fun r : Rect s => v.readAt (Elt Ideal) r.toLoadRect (v.rep x)) = View.ld x := by
  funext r; rw [View.readAt_eq_ld, View.read_rep]

theorem fresh_up (arg4 : Memref sig .tc .vmem S1x1024x2048 .f32) (x1 : S1x1024x2048.Idx → Elt Ideal .f32) :
    (View.whole cc0_scratch0).writes (Elt Ideal) (View.whole cc0_scratch0).junk (upPieces fun r => arg4.view.readAt (Elt Ideal) r.toLoadRect (arg4.view.rep x1)) = up x1 := by
  rw [rd_eq]
  have h := View.read_writes_junk_eq_canon (Val := Elt Ideal) (View.whole cc0_scratch0) (upPieces (View.ld x1))
  rw [View.read_whole] at h
  exact h
theorem fresh_down (arg6 : Memref sig .tc .vmem S1x1024x1024 .f32) (x3 : S1x1024x1024.Idx → Elt Ideal .f32) :
    (View.whole cc0_scratch1).writes (Elt Ideal) (View.whole cc0_scratch1).junk (downPieces fun r => arg6.view.readAt (Elt Ideal) r.toLoadRect (arg6.view.rep x3)) = down x3 := by
  rw [rd_eq]
  have h := View.read_writes_junk_eq_canon (Val := Elt Ideal) (View.whole cc0_scratch1) (downPieces (View.ld x3))
  rw [View.read_whole] at h
  exact h

/-- A load of a whole buffer just cast reads what the cast left. -/
theorem load_up (arg4 : Memref sig .tc .vmem S1x1024x2048 .f32) (x1 : S1x1024x2048.Idx → Elt Ideal .f32) :
    (View.whole cc0_scratch0).readCov (upPieces fun r => arg4.view.readAt (Elt Ideal) r.toLoadRect (arg4.view.rep x1)) (Rect.unit (s := S1024x2048) ![0, 0] S1024x2048.size inb_S1024x2048_S1024x2048_0_0).toLoadRect = up x1 := by
  rw [rd_eq]
  exact (View.readAt_full (Val := Elt Ideal) (View.whole cc0_scratch0) _ _).trans (View.read_writes_junk_eq_canon (Val := Elt Ideal) (View.whole cc0_scratch0) (upPieces (View.ld x1)))
theorem load_down (arg6 : Memref sig .tc .vmem S1x1024x1024 .f32) (x3 : S1x1024x1024.Idx → Elt Ideal .f32) :
    (View.whole cc0_scratch1).readCov (downPieces fun r => arg6.view.readAt (Elt Ideal) r.toLoadRect (arg6.view.rep x3)) (Rect.unit (s := S1024x1024) ![0, 0] S1024x1024.size inb_S1024x1024_S1024x1024_0_0).toLoadRect = down x3 := by
  rw [rd_eq]
  exact (View.readAt_full (Val := Elt Ideal) (View.whole cc0_scratch1) _ _).trans (View.read_writes_junk_eq_canon (Val := Elt Ideal) (View.whole cc0_scratch1) (downPieces (View.ld x3)))

/-- A load of a whole buffer reads what it holds. -/
theorem load_kept {sg : RefSig} {κ : Kind} (b : Ref sg κ) (x : b.ty.Contents (Elt Ideal)) {off : Fin b.ty.shape.rank → ℕ} (inb : ∀ a, off a + b.ty.shape.size a ≤ b.ty.shape.size a) :
    (View.whole b).readAt (Elt Ideal) (Rect.unit off b.ty.shape.size inb).toLoadRect x = x :=
  (View.readAt_full (Val := Elt Ideal) (View.whole b) x inb).trans (View.read_whole b x)

/-! ## The tile -/

/-- The tile the body leaves: the expert's output on these rows where the tile is in use, zeros where it is not. -/
def tile (T1 : S1.Idx → Elt Ideal .i32) (i : grid0.Coords) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32) : S256x1024.Idx → Elt Ideal .f32 :=
  if Used T1 i then k0_pay2 x0 (up x1) x2 (down x3) x4 else k0_pay3 (F := Ideal)

theorem pay2_congr {x0 y0 : Vec Ideal S256x1024 .f32} {u v : Vec Ideal S1024x2048 .bf16} {x2 y2 : Vec Ideal S1x1x2048 .f32} {d e : Vec Ideal S1024x1024 .bf16} {x4 y4 : Vec Ideal S1x1x1024 .f32}
    (h0 : x0 = y0) (h1 : u = v) (h2 : x2 = y2) (h3 : d = e) (h4 : x4 = y4) : k0_pay2 x0 u x2 d x4 = k0_pay2 y0 v y2 e y4 := by
  subst h0 h1 h2 h3 h4; rfl

/-- Every tile is of exactly one of the two kinds. -/
theorem bit_one (b : Bool) : (Scalar.cmpi .ne (Scalar.extui (BitVec.ofBool b) : BitVec 32) 0#32 = 1#1) ↔ b = true := by
  cases b <;> decide
theorem spare_iff_word (i : grid0.Coords) (n : BitVec 32) : k0_cond3 i n = 1#1 ↔ ¬(k0_cond2 i n = 1#1) := by
  refine (bit_one (n.sle (BitVec.ofNat 32 (i 0).val))).trans (Iff.trans ?_ (not_congr (bit_one ((BitVec.ofNat 32 (i 0).val).slt n))).symm)
  simp only [BitVec.sle, BitVec.slt, decide_eq_true_eq, not_lt]
theorem spare_iff (T1 : S1.Idx → Elt Ideal .i32) (i : grid0.Coords) : Spare T1 i ↔ ¬Used T1 i := spare_iff_word i _

/-! ## The body -/

/-- One run of the body from these blocks, tables and scratch buffers. -/
def Step (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (xa0 : Buf (Elt Ideal) ((c : Thread nD τ).loc cc0_scratch0)) (xa1 : Buf (Elt Ideal) ((c : Thread nD τ).loc cc0_scratch1)) (K : PUnit → sProp 𝕄) : Prop :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (expertsM.view.loc (c : Thread nD τ) ↦{fullShare.right} T0)
    ∗ (usedM.view.loc (c : Thread nD τ) ↦{fullShare.right} T1)
    ∗ (∃ d, owns (c : Thread nD τ) arg8 fullShare d)
    ∗ (upM.view.loc (c : Thread nD τ) ↦{fullShare} xa0)
    ∗ (downM.view.loc (c : Thread nD τ) ↦{fullShare} xa1)
    ∗ (iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (expertsM.view.loc (c : Thread nD τ) ↦{fullShare.right} T0)
        ∗ (usedM.view.loc (c : Thread nD τ) ↦{fullShare.right} T1)
        ∗ owns (c : Thread nD τ) arg8 fullShare (tile T1 i x0 x1 x2 x3 x4)
        ∗ (upM.view.loc (c : Thread nD τ) ↦{fullShare} up x1)
        ∗ (downM.view.loc (c : Thread nD τ) ↦{fullShare} down x3)) -∗ K ⟨⟩))
    ⊢ wp frame (wpE (defs₀ (F := Ideal)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K

set_option maxHeartbeats 1000000 in
/-- A run that leaves these three leaves what the step says. -/
theorem step_of_run (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (xa0 : Buf (Elt Ideal) ((c : Thread nD τ).loc cc0_scratch0)) (xa1 : Buf (Elt Ideal) ((c : Thread nD τ).loc cc0_scratch1)) (K : PUnit → sProp 𝕄)
    (out0 : List (View.Piece (Elt Ideal) S256x1024 .f32)) (out1 : Buf (Elt Ideal) ((c : Thread nD τ).loc cc0_scratch0)) (out2 : Buf (Elt Ideal) ((c : Thread nD τ).loc cc0_scratch1))
    (e0 : ∀ f, arg8.view.read (Elt Ideal) (arg8.view.writes (Elt Ideal) f out0) = tile T1 i x0 x1 x2 x3 x4) (e1 : out1 = up x1) (e2 : out2 = down x3)
    (R : iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (expertsM.view.loc (c : Thread nD τ) ↦{fullShare.right} T0)
    ∗ (usedM.view.loc (c : Thread nD τ) ↦{fullShare.right} T1)
      ∗ (∃ d, owns (c : Thread nD τ) arg8 fullShare d)
      ∗ (upM.view.loc (c : Thread nD τ) ↦{fullShare} xa0)
      ∗ (downM.view.loc (c : Thread nD τ) ↦{fullShare} xa1)
      ∗ (iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (expertsM.view.loc (c : Thread nD τ) ↦{fullShare.right} T0)
        ∗ (usedM.view.loc (c : Thread nD τ) ↦{fullShare.right} T1)
        ∗ (∃ f, arg8.view.loc (c : Thread nD τ) ↦[arg8.view.set]{fullShare} arg8.view.writes (Elt Ideal) f out0)
        ∗ (upM.view.loc (c : Thread nD τ) ↦{fullShare} out1)
        ∗ (downM.view.loc (c : Thread nD τ) ↦{fullShare} out2)) -∗ K ⟨⟩))
      ⊢ wp frame (wpE (defs₀ (F := Ideal)) Variants.none c none) Set.univ (cc0_grouped_ffn i expertsM (Memref.isWhole_whole _) usedM (Memref.isWhole_whole _) arg3 harg3 arg4 harg4 arg5 harg5 arg6 harg6 arg7 harg7 arg8 harg8 upM (Memref.isWhole_whole _) downM (Memref.isWhole_whole _)) K) :
    Step c i arg3 harg3 arg4 harg4 arg5 harg5 arg6 harg6 arg7 harg7 arg8 harg8 T0 T1 x0 x1 x2 x3 x4 xa0 xa1 K := by
  subst e1 e2
  unfold Step
  iintro ⟨H0, H1, H2, H3, H4, HT0, HT1, HO, HS0, HS1, Hk⟩
  iapply R
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]; · iexact HO
  isplitl [HS0]; · iexact HS0
  isplitl [HS1]; · iexact HS1
  iintro ⟨H0, H1, H2, H3, H4, HT0, HT1, ⟨%f, HO⟩, HS0, HS1⟩
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO]
  · unfold owns; iexists _; isplitr; swap
    · iexact HO
    · ipureintro; exact e0 f
  isplitl [HS0]; · iexact HS0
  iexact HS1

theorem fillUse_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : Used T1 i) (hs : ¬Spare T1 i) : (fillUse c i arg3 harg3 arg4 harg4 arg5 harg5 arg6 harg6 arg7 harg7 arg8 harg8 T0 T1 x0 x1 x2 x3 x4 hr hu hs).2.1 = up x1 := by
  unfold fillUse
  dsimp only
  exact fresh_up arg4 x1
theorem fillUse_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : Used T1 i) (hs : ¬Spare T1 i) : (fillUse c i arg3 harg3 arg4 harg4 arg5 harg5 arg6 harg6 arg7 harg7 arg8 harg8 T0 T1 x0 x1 x2 x3 x4 hr hu hs).2.2.1 = down x3 := by
  unfold fillUse
  dsimp only
  exact fresh_down arg6 x3
theorem fillUse_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : Used T1 i) (hs : ¬Spare T1 i) (f) : arg8.view.read (Elt Ideal) (arg8.view.writes (Elt Ideal) f (fillUse c i arg3 harg3 arg4 harg4 arg5 harg5 arg6 harg6 arg7 harg7 arg8 harg8 T0 T1 x0 x1 x2 x3 x4 hr hu hs).1) = tile T1 i x0 x1 x2 x3 x4 := by
  unfold fillUse
  dsimp only
  rw [tile, if_pos hu]
  unfold fillUse.sl.HO_1
  refine (LaneScatter.read_whole_store arg8.view f (by decide) inb_S256x1024_S256x1024_0_0 _).trans ?_
  unfold fillUse.sl.v21 fillUse.sl.v43
  refine pay2_congr (View.readAt_rep_full arg3.view x0 _) ?_ (View.readAt_rep_full arg5.view x2 _) ?_ (View.readAt_rep_full arg7.view x4 _)
  · exact load_up arg4 x1
  · exact load_down arg6 x3

/-- The weights are cast afresh; the tile is in use. -/
theorem body_fillUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (xa0 : Buf (Elt Ideal) ((c : Thread nD τ).loc cc0_scratch0)) (xa1 : Buf (Elt Ideal) ((c : Thread nD τ).loc cc0_scratch1)) (keep : ¬Refill T0 i → xa0 = up x1 ∧ xa1 = down x3)
    (hr : Refill T0 i) (hu : Used T1 i) (K : PUnit → sProp 𝕄) : Step c i arg3 harg3 arg4 harg4 arg5 harg5 arg6 harg6 arg7 harg7 arg8 harg8 T0 T1 x0 x1 x2 x3 x4 xa0 xa1 K := by
  have hs : ¬Spare T1 i := fun h => (spare_iff T1 i).1 h hu
  exact step_of_run c i arg3 harg3 arg4 harg4 arg5 harg5 arg6 harg6 arg7 harg7 arg8 harg8 T0 T1 x0 x1 x2 x3 x4 xa0 xa1 K (fillUse c i arg3 harg3 arg4 harg4 arg5 harg5 arg6 harg6 arg7 harg7 arg8 harg8 T0 T1 x0 x1 x2 x3 x4 hr hu hs).1 (fillUse c i arg3 harg3 arg4 harg4 arg5 harg5 arg6 harg6 arg7 harg7 arg8 harg8 T0 T1 x0 x1 x2 x3 x4 hr hu hs).2.1 (fillUse c i arg3 harg3 arg4 harg4 arg5 harg5 arg6 harg6 arg7 harg7 arg8 harg8 T0 T1 x0 x1 x2 x3 x4 hr hu hs).2.2.1
    (fillUse_out c i arg3 harg3 arg4 harg4 arg5 harg5 arg6 harg6 arg7 harg7 arg8 harg8 T0 T1 x0 x1 x2 x3 x4 hr hu hs) (fillUse_up c i arg3 harg3 arg4 harg4 arg5 harg5 arg6 harg6 arg7 harg7 arg8 harg8 T0 T1 x0 x1 x2 x3 x4 hr hu hs) (fillUse_down c i arg3 harg3 arg4 harg4 arg5 harg5 arg6 harg6 arg7 harg7 arg8 harg8 T0 T1 x0 x1 x2 x3 x4 hr hu hs) ((fillUse c i arg3 harg3 arg4 harg4 arg5 harg5 arg6 harg6 arg7 harg7 arg8 harg8 T0 T1 x0 x1 x2 x3 x4 hr hu hs).2.2.2 xa0 xa1 K)

theorem fillSpare_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : ¬Used T1 i) (hs : Spare T1 i) : (fillSpare c i arg3 harg3 arg4 harg4 arg5 harg5 arg6 harg6 arg7 harg7 arg8 harg8 T0 T1 x0 x1 x2 x3 x4 hr hu hs).2.1 = up x1 := by
  unfold fillSpare
  dsimp only
  exact fresh_up arg4 x1
theorem fillSpare_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : ¬Used T1 i) (hs : Spare T1 i) : (fillSpare c i arg3 harg3 arg4 harg4 arg5 harg5 arg6 harg6 arg7 harg7 arg8 harg8 T0 T1 x0 x1 x2 x3 x4 hr hu hs).2.2.1 = down x3 := by
  unfold fillSpare
  dsimp only
  exact fresh_down arg6 x3
theorem fillSpare_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : Refill T0 i) (hu : ¬Used T1 i) (hs : Spare T1 i) (f) : arg8.view.read (Elt Ideal) (arg8.view.writes (Elt Ideal) f (fillSpare c i arg3 harg3 arg4 harg4 arg5 harg5 arg6 harg6 arg7 harg7 arg8 harg8 T0 T1 x0 x1 x2 x3 x4 hr hu hs).1) = tile T1 i x0 x1 x2 x3 x4 := by
  unfold fillSpare
  dsimp only
  rw [tile, if_neg hu]
  exact LaneScatter.read_whole_store arg8.view f (by decide) inb_S256x1024_S256x1024_0_0 _

/-- The weights are cast afresh; the tile is not in use. -/
theorem body_fillSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (xa0 : Buf (Elt Ideal) ((c : Thread nD τ).loc cc0_scratch0)) (xa1 : Buf (Elt Ideal) ((c : Thread nD τ).loc cc0_scratch1)) (keep : ¬Refill T0 i → xa0 = up x1 ∧ xa1 = down x3)
    (hr : Refill T0 i) (hu : ¬Used T1 i) (K : PUnit → sProp 𝕄) : Step c i arg3 harg3 arg4 harg4 arg5 harg5 arg6 harg6 arg7 harg7 arg8 harg8 T0 T1 x0 x1 x2 x3 x4 xa0 xa1 K := by
  have hs : Spare T1 i := (spare_iff T1 i).2 hu
  exact step_of_run c i arg3 harg3 arg4 harg4 arg5 harg5 arg6 harg6 arg7 harg7 arg8 harg8 T0 T1 x0 x1 x2 x3 x4 xa0 xa1 K (fillSpare c i arg3 harg3 arg4 harg4 arg5 harg5 arg6 harg6 arg7 harg7 arg8 harg8 T0 T1 x0 x1 x2 x3 x4 hr hu hs).1 (fillSpare c i arg3 harg3 arg4 harg4 arg5 harg5 arg6 harg6 arg7 harg7 arg8 harg8 T0 T1 x0 x1 x2 x3 x4 hr hu hs).2.1 (fillSpare c i arg3 harg3 arg4 harg4 arg5 harg5 arg6 harg6 arg7 harg7 arg8 harg8 T0 T1 x0 x1 x2 x3 x4 hr hu hs).2.2.1
    (fillSpare_out c i arg3 harg3 arg4 harg4 arg5 harg5 arg6 harg6 arg7 harg7 arg8 harg8 T0 T1 x0 x1 x2 x3 x4 hr hu hs) (fillSpare_up c i arg3 harg3 arg4 harg4 arg5 harg5 arg6 harg6 arg7 harg7 arg8 harg8 T0 T1 x0 x1 x2 x3 x4 hr hu hs) (fillSpare_down c i arg3 harg3 arg4 harg4 arg5 harg5 arg6 harg6 arg7 harg7 arg8 harg8 T0 T1 x0 x1 x2 x3 x4 hr hu hs) ((fillSpare c i arg3 harg3 arg4 harg4 arg5 harg5 arg6 harg6 arg7 harg7 arg8 harg8 T0 T1 x0 x1 x2 x3 x4 hr hu hs).2.2.2 xa0 xa1 K)

theorem keepUse_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : ¬Refill T0 i) (hu : Used T1 i) (hs : ¬Spare T1 i) : (keepUse c i arg3 harg3 arg4 harg4 arg5 harg5 arg6 harg6 arg7 harg7 arg8 harg8 T0 T1 x0 x1 x2 x3 x4 (up x1) (down x3) hr hu hs).2.1 = up x1 := by
  unfold keepUse
  dsimp only

theorem keepUse_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : ¬Refill T0 i) (hu : Used T1 i) (hs : ¬Spare T1 i) : (keepUse c i arg3 harg3 arg4 harg4 arg5 harg5 arg6 harg6 arg7 harg7 arg8 harg8 T0 T1 x0 x1 x2 x3 x4 (up x1) (down x3) hr hu hs).2.2.1 = down x3 := by
  unfold keepUse
  dsimp only

theorem keepUse_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : ¬Refill T0 i) (hu : Used T1 i) (hs : ¬Spare T1 i) (f) : arg8.view.read (Elt Ideal) (arg8.view.writes (Elt Ideal) f (keepUse c i arg3 harg3 arg4 harg4 arg5 harg5 arg6 harg6 arg7 harg7 arg8 harg8 T0 T1 x0 x1 x2 x3 x4 (up x1) (down x3) hr hu hs).1) = tile T1 i x0 x1 x2 x3 x4 := by
  unfold keepUse
  dsimp only
  rw [tile, if_pos hu]
  unfold keepUse.sl.HO_1
  refine (LaneScatter.read_whole_store arg8.view f (by decide) inb_S256x1024_S256x1024_0_0 _).trans ?_

  refine pay2_congr (View.readAt_rep_full arg3.view x0 _) ?_ (View.readAt_rep_full arg5.view x2 _) ?_ (View.readAt_rep_full arg7.view x4 _)
  · exact load_kept _ _ _
  · exact load_kept _ _ _

/-- The weights are kept; the tile is in use. -/
theorem body_keepUse (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (xa0 : Buf (Elt Ideal) ((c : Thread nD τ).loc cc0_scratch0)) (xa1 : Buf (Elt Ideal) ((c : Thread nD τ).loc cc0_scratch1)) (keep : ¬Refill T0 i → xa0 = up x1 ∧ xa1 = down x3)
    (hr : ¬Refill T0 i) (hu : Used T1 i) (K : PUnit → sProp 𝕄) : Step c i arg3 harg3 arg4 harg4 arg5 harg5 arg6 harg6 arg7 harg7 arg8 harg8 T0 T1 x0 x1 x2 x3 x4 xa0 xa1 K := by
  have hs : ¬Spare T1 i := fun h => (spare_iff T1 i).1 h hu
  obtain ⟨rfl, rfl⟩ := keep hr
  exact step_of_run c i arg3 harg3 arg4 harg4 arg5 harg5 arg6 harg6 arg7 harg7 arg8 harg8 T0 T1 x0 x1 x2 x3 x4 (up x1) (down x3) K (keepUse c i arg3 harg3 arg4 harg4 arg5 harg5 arg6 harg6 arg7 harg7 arg8 harg8 T0 T1 x0 x1 x2 x3 x4 (up x1) (down x3) hr hu hs).1 (keepUse c i arg3 harg3 arg4 harg4 arg5 harg5 arg6 harg6 arg7 harg7 arg8 harg8 T0 T1 x0 x1 x2 x3 x4 (up x1) (down x3) hr hu hs).2.1 (keepUse c i arg3 harg3 arg4 harg4 arg5 harg5 arg6 harg6 arg7 harg7 arg8 harg8 T0 T1 x0 x1 x2 x3 x4 (up x1) (down x3) hr hu hs).2.2.1
    (keepUse_out c i arg3 harg3 arg4 harg4 arg5 harg5 arg6 harg6 arg7 harg7 arg8 harg8 T0 T1 x0 x1 x2 x3 x4 hr hu hs) (keepUse_up c i arg3 harg3 arg4 harg4 arg5 harg5 arg6 harg6 arg7 harg7 arg8 harg8 T0 T1 x0 x1 x2 x3 x4 hr hu hs) (keepUse_down c i arg3 harg3 arg4 harg4 arg5 harg5 arg6 harg6 arg7 harg7 arg8 harg8 T0 T1 x0 x1 x2 x3 x4 hr hu hs) ((keepUse c i arg3 harg3 arg4 harg4 arg5 harg5 arg6 harg6 arg7 harg7 arg8 harg8 T0 T1 x0 x1 x2 x3 x4 (up x1) (down x3) hr hu hs).2.2.2 K)

theorem keepSpare_up (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : ¬Refill T0 i) (hu : ¬Used T1 i) (hs : Spare T1 i) : (keepSpare c i arg3 harg3 arg4 harg4 arg5 harg5 arg6 harg6 arg7 harg7 arg8 harg8 T0 T1 x0 x1 x2 x3 x4 (up x1) (down x3) hr hu hs).2.1 = up x1 := by
  unfold keepSpare
  dsimp only

theorem keepSpare_down (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : ¬Refill T0 i) (hu : ¬Used T1 i) (hs : Spare T1 i) : (keepSpare c i arg3 harg3 arg4 harg4 arg5 harg5 arg6 harg6 arg7 harg7 arg8 harg8 T0 T1 x0 x1 x2 x3 x4 (up x1) (down x3) hr hu hs).2.2.1 = down x3 := by
  unfold keepSpare
  dsimp only

theorem keepSpare_out (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (hr : ¬Refill T0 i) (hu : ¬Used T1 i) (hs : Spare T1 i) (f) : arg8.view.read (Elt Ideal) (arg8.view.writes (Elt Ideal) f (keepSpare c i arg3 harg3 arg4 harg4 arg5 harg5 arg6 harg6 arg7 harg7 arg8 harg8 T0 T1 x0 x1 x2 x3 x4 (up x1) (down x3) hr hu hs).1) = tile T1 i x0 x1 x2 x3 x4 := by
  unfold keepSpare
  dsimp only
  rw [tile, if_neg hu]
  exact LaneScatter.read_whole_store arg8.view f (by decide) inb_S256x1024_S256x1024_0_0 _

/-- The weights are kept; the tile is not in use. -/
theorem body_keepSpare (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (xa0 : Buf (Elt Ideal) ((c : Thread nD τ).loc cc0_scratch0)) (xa1 : Buf (Elt Ideal) ((c : Thread nD τ).loc cc0_scratch1)) (keep : ¬Refill T0 i → xa0 = up x1 ∧ xa1 = down x3)
    (hr : ¬Refill T0 i) (hu : ¬Used T1 i) (K : PUnit → sProp 𝕄) : Step c i arg3 harg3 arg4 harg4 arg5 harg5 arg6 harg6 arg7 harg7 arg8 harg8 T0 T1 x0 x1 x2 x3 x4 xa0 xa1 K := by
  have hs : Spare T1 i := (spare_iff T1 i).2 hu
  obtain ⟨rfl, rfl⟩ := keep hr
  exact step_of_run c i arg3 harg3 arg4 harg4 arg5 harg5 arg6 harg6 arg7 harg7 arg8 harg8 T0 T1 x0 x1 x2 x3 x4 (up x1) (down x3) K (keepSpare c i arg3 harg3 arg4 harg4 arg5 harg5 arg6 harg6 arg7 harg7 arg8 harg8 T0 T1 x0 x1 x2 x3 x4 (up x1) (down x3) hr hu hs).1 (keepSpare c i arg3 harg3 arg4 harg4 arg5 harg5 arg6 harg6 arg7 harg7 arg8 harg8 T0 T1 x0 x1 x2 x3 x4 (up x1) (down x3) hr hu hs).2.1 (keepSpare c i arg3 harg3 arg4 harg4 arg5 harg5 arg6 harg6 arg7 harg7 arg8 harg8 T0 T1 x0 x1 x2 x3 x4 (up x1) (down x3) hr hu hs).2.2.1
    (keepSpare_out c i arg3 harg3 arg4 harg4 arg5 harg5 arg6 harg6 arg7 harg7 arg8 harg8 T0 T1 x0 x1 x2 x3 x4 hr hu hs) (keepSpare_up c i arg3 harg3 arg4 harg4 arg5 harg5 arg6 harg6 arg7 harg7 arg8 harg8 T0 T1 x0 x1 x2 x3 x4 hr hu hs) (keepSpare_down c i arg3 harg3 arg4 harg4 arg5 harg5 arg6 harg6 arg7 harg7 arg8 harg8 T0 T1 x0 x1 x2 x3 x4 hr hu hs) ((keepSpare c i arg3 harg3 arg4 harg4 arg5 harg5 arg6 harg6 arg7 harg7 arg8 harg8 T0 T1 x0 x1 x2 x3 x4 (up x1) (down x3) hr hu hs).2.2.2 K)

/-- The body, from scratch buffers that hold this expert's weights wherever they are kept. -/
theorem body (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole)
    (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole)
    (T0 : S288.Idx → Elt Ideal .i32) (T1 : S1.Idx → Elt Ideal .i32) (x0 : S256x1024.Idx → Elt Ideal .f32) (x1 : S1x1024x2048.Idx → Elt Ideal .f32) (x2 : S1x1x2048.Idx → Elt Ideal .f32) (x3 : S1x1024x1024.Idx → Elt Ideal .f32) (x4 : S1x1x1024.Idx → Elt Ideal .f32)
    (xa0 : Buf (Elt Ideal) ((c : Thread nD τ).loc cc0_scratch0)) (xa1 : Buf (Elt Ideal) ((c : Thread nD τ).loc cc0_scratch1)) (keep : ¬Refill T0 i → xa0 = up x1 ∧ xa1 = down x3)
    (K : PUnit → sProp 𝕄) : Step c i arg3 harg3 arg4 harg4 arg5 harg5 arg6 harg6 arg7 harg7 arg8 harg8 T0 T1 x0 x1 x2 x3 x4 xa0 xa1 K := by
  by_cases hr : Refill T0 i
  · by_cases hu : Used T1 i
    · exact body_fillUse c i arg3 harg3 arg4 harg4 arg5 harg5 arg6 harg6 arg7 harg7 arg8 harg8 T0 T1 x0 x1 x2 x3 x4 xa0 xa1 keep hr hu K
    · exact body_fillSpare c i arg3 harg3 arg4 harg4 arg5 harg5 arg6 harg6 arg7 harg7 arg8 harg8 T0 T1 x0 x1 x2 x3 x4 xa0 xa1 keep hr hu K
  · by_cases hu : Used T1 i
    · exact body_keepUse c i arg3 harg3 arg4 harg4 arg5 harg5 arg6 harg6 arg7 harg7 arg8 harg8 T0 T1 x0 x1 x2 x3 x4 xa0 xa1 keep hr hu K
    · exact body_keepSpare c i arg3 harg3 arg4 harg4 arg5 harg5 arg6 harg6 arg7 harg7 arg8 harg8 T0 T1 x0 x1 x2 x3 x4 xa0 xa1 keep hr hu K

end Cert.FfnIdeal.Tab

end
-- ==== Proof.FfnIdealDat.lean ====
/- The pipeline of the experts' feed-forward part at the tables a launch memory holds: the blocks the windows stage, what the
   scratch buffers hold between two points, and the body's obligation at every point. -/
module

public import proofs.«01_k».proof.Proof.FfnIdealBody
public import proofs.«01_k».proof.Proof.FfnTables
public import Idealize.ShloMosaic.Lib.Pipeline.TableIdle

@[expose] public section

set_option maxRecDepth 16384
set_option Elab.async false

noncomputable section

namespace Cert.FfnIdeal.Tab

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra. -/
abbrev EP : Emb (UR sig nD τ) 𝕄 := emb₁

variable (m : (ℓ : Loc nD τ sig) → Buf (Elt Ideal) ℓ) (ρ : Dev nD → PrngReg)

/-! ## The tables of a memory -/

/-- The launch state. -/
abbrev s₀ : MemSt nD τ sig (Elt Ideal) := ⟨m, fun _ => 0, ρ⟩

/-- The two tables in the first device's memory (there is one device). -/
abbrev T0 : S288.Idx → Elt Ideal .i32 := m (((0 : Dev nD) : Thread nD τ).loc main_arg0)
abbrev T1 : S1.Idx → Elt Ideal .i32 := m (((0 : Dev nD) : Thread nD τ).loc main_arg1)
def pf : pre0.Contents (Elt Ideal) := fun | ⟨0, _⟩ => T0 m | ⟨1, _⟩ => T1 m | ⟨_ + 2, h⟩ => absurd h (by simp)

/-- The tables are in range. -/
abbrev Ok : Prop := Cert.Tables.InRange (T0 m) (T1 m)

/-- A point's block index, bounded axis by axis. -/
theorem ok_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- Every block a table names is inside its array. -/
theorem ok (hm : Ok m) : ok0 (F := Ideal) (pf m) := by
  have hT : ∀ j, ((T0 m) j).toNat + 1 ≤ 32 := hm.1
  refine ⟨fun i => ⟨?_, .inl rfl⟩, fun i => ⟨?_, .inl rfl⟩, fun i => ⟨?_, .inl rfl⟩, fun i => ⟨?_, .inl rfl⟩, fun i => ⟨?_, .inl rfl⟩⟩
  · have hi : (BitVec.ofNat 32 (i 0).val).toNat < 288 := by
      have := (i 0).isLt; rw [BitVec.toNat_ofNat]; exact lt_of_le_of_lt (Nat.mod_le _ _) this
    refine ok_cons ?_ (ok_cons (by decide) (fun a => a.elim0))
    have e := Cert.Tables.minsi_toNat _ _ hi (hm.2 ((Rect.unit (s := S1) ![0] S1.size inb_S1_S1_0).emb (Shape.Idx.first (numel1_S1.symm ▸ Nat.one_pos))))
    refine (Nat.mul_le_mul_right 256 (Nat.add_le_add_right e.le 1)).trans ?_
    omega
  · exact ok_cons ((Nat.mul_one _).le.trans (hT _)) (ok_cons (by decide) (ok_cons (by decide) (fun a => a.elim0)))
  · exact ok_cons ((Nat.mul_one _).le.trans (hT _)) (ok_cons (by decide) (ok_cons (by decide) (fun a => a.elim0)))
  · exact ok_cons ((Nat.mul_one _).le.trans (hT _)) (ok_cons (by decide) (ok_cons (by decide) (fun a => a.elim0)))
  · exact ok_cons ((Nat.mul_one _).le.trans (hT _)) (ok_cons (by decide) (ok_cons (by decide) (fun a => a.elim0)))

variable (hm : Ok m)

/-- The tables as the pipeline admits them, and the pipeline at them. -/
def adm : (pcfg0 (F := Ideal)).Adm := ⟨pf m, ok m hm⟩
abbrev cfgA : Pipeline.Cfg sig Λ₀ := cfg0 (F := Ideal) (adm m hm)
abbrev pcs : Fin 1 → Pipeline.Cfg sig Λ₀ := Pipeline.pin (pcfgs (F := Ideal)) fun _ => adm m hm

/-! ## A point: its coordinates, staging buffers and blocks -/

abbrev crd (t : Fin (cfgA m hm).N) : (cfgA m hm).grid.Coords := (cfgA m hm).grid.coords t
abbrev ms0 (t : Fin (cfgA m hm).N) : Memref sig .tc .vmem S256x1024 .f32 := spec0_0.stage ((cfgA m hm).slots t (0 : Fin 6))
abbrev hs0 (t : Fin (cfgA m hm).N) : (ms0 m hm t).IsWhole := hstage0_0 (((cfgA m hm).slots t (0 : Fin 6)).cast nbuf0_0)
abbrev ms1 (t : Fin (cfgA m hm).N) : Memref sig .tc .vmem S1x1024x2048 .f32 := spec0_1.stage ((cfgA m hm).slots t (1 : Fin 6))
abbrev hs1 (t : Fin (cfgA m hm).N) : (ms1 m hm t).IsWhole := hstage0_1 (((cfgA m hm).slots t (1 : Fin 6)).cast nbuf0_1)
abbrev ms2 (t : Fin (cfgA m hm).N) : Memref sig .tc .vmem S1x1x2048 .f32 := spec0_2.stage ((cfgA m hm).slots t (2 : Fin 6))
abbrev hs2 (t : Fin (cfgA m hm).N) : (ms2 m hm t).IsWhole := hstage0_2 (((cfgA m hm).slots t (2 : Fin 6)).cast nbuf0_2)
abbrev ms3 (t : Fin (cfgA m hm).N) : Memref sig .tc .vmem S1x1024x1024 .f32 := spec0_3.stage ((cfgA m hm).slots t (3 : Fin 6))
abbrev hs3 (t : Fin (cfgA m hm).N) : (ms3 m hm t).IsWhole := hstage0_3 (((cfgA m hm).slots t (3 : Fin 6)).cast nbuf0_3)
abbrev ms4 (t : Fin (cfgA m hm).N) : Memref sig .tc .vmem S1x1x1024 .f32 := spec0_4.stage ((cfgA m hm).slots t (4 : Fin 6))
abbrev hs4 (t : Fin (cfgA m hm).N) : (ms4 m hm t).IsWhole := hstage0_4 (((cfgA m hm).slots t (4 : Fin 6)).cast nbuf0_4)
abbrev ms5 (t : Fin (cfgA m hm).N) : Memref sig .tc .vmem S256x1024 .f32 := spec0_5.stage ((cfgA m hm).slots t (5 : Fin 6))
abbrev hs5 (t : Fin (cfgA m hm).N) : (ms5 m hm t).IsWhole := hstage0_5 (((cfgA m hm).slots t (5 : Fin 6)).cast nbuf0_5)

/-- Window `w`'s block at point `t`, read off its array at launch. -/
def iblk (c : Dev nD) (w : Fin (cfgA m hm).W) (t : Fin (cfgA m hm).N) : (((cfgA m hm).win w).xblock (crd m hm t)).Idx → Elt Ideal ((cfgA m hm).win w).elt :=
  (((cfgA m hm).win w).blk t).view.read (Elt Ideal) ((s₀ m ρ).mem (((cfgA m hm).win w).arr.view.loc (c : Thread nD τ)))

/-- The grid's only coordinate is the point. -/
theorem crd_val (t : Fin (cfgA m hm).N) : (crd m hm t 0).val = t.val := (by decide +kernel : ∀ t : Fin grid0.N, (grid0.coords t 0).val = t.val) t

theorem lt_288 (t : Fin (cfgA m hm).N) : t.val < 288 := lt_of_lt_of_eq t.isLt N_0

/-- The word of the table of experts at point `n`. -/
abbrev word (n : ℕ) (hn : n < 288) : Elt Ideal .i32 := T0 m fun a => ⟨n, by have : a = 0 := Subsingleton.elim _ _; subst this; exact hn⟩

theorem here_eq (t : Fin (cfgA m hm).N) : here (T0 m) (crd m hm t) = word m t.val (lt_288 m hm t) := by
  refine congrArg (T0 m) (funext fun a => Fin.ext ?_)
  obtain rfl : a = (0 : Fin 1) := Subsingleton.elim (α := Fin 1) _ _
  show (BitVec.ofNat 32 (crd m hm t 0).val).toNat + 1 * 0 = t.val
  rw [crd_val, BitVec.toNat_ofNat]
  have := lt_288 m hm t
  omega

theorem back_eq (t : Fin (cfgA m hm).N) (h : t.val ≠ 0) : back (T0 m) (crd m hm t) = word m (t.val - 1) (by have := lt_288 m hm t; omega) := by
  refine congrArg (T0 m) (funext fun a => Fin.ext ?_)
  obtain rfl : a = (0 : Fin 1) := Subsingleton.elim (α := Fin 1) _ _
  have ht := lt_288 m hm t
  show (Scalar.maxsi (Scalar.subi (BitVec.ofNat 32 (crd m hm t 0).val) 1#32) 0#32).toNat + 1 * 0 = t.val - 1
  rw [crd_val]
  exact (by decide +kernel : ∀ n : Fin 288, n.val ≠ 0 → (Scalar.maxsi (Scalar.subi (BitVec.ofNat 32 n.val) 1#32) 0#32).toNat + 1 * 0 = n.val - 1) ⟨t.val, ht⟩ h

/-- Weights are kept only where the point before was the same expert's. -/
theorem same_of_kept (t : Fin (cfgA m hm).N) (h : ¬Refill (T0 m) (crd m hm t)) :
    ∃ h0 : t.val ≠ 0, word m t.val (lt_288 m hm t) = word m (t.val - 1) (by have := lt_288 m hm t; omega) := by
  have e : ¬(Scalar.ori (Scalar.cmpi .eq (BitVec.ofNat 32 (crd m hm t 0).val) 0#32) (Scalar.cmpi .ne (here (T0 m) (crd m hm t)) (back (T0 m) (crd m hm t))) = 1#1) := by
    intro hb; apply h; show Scalar.cmpi .ne (Scalar.extui _) 0#32 = 1#1; rw [hb]; decide
  have hor : ∀ a b : BitVec 1, ¬(Scalar.ori a b = 1#1) → a = 0#1 ∧ b = 0#1 := by decide
  obtain ⟨ha, hb⟩ := hor _ _ e
  have h0 : t.val ≠ 0 := by
    intro h0; rw [crd_val, h0] at ha; exact absurd ha (by decide)
  refine ⟨h0, ?_⟩
  rw [here_eq, back_eq m hm t h0] at hb
  by_contra hne
  have : Scalar.cmpi .ne (word m t.val (lt_288 m hm t)) (word m (t.val - 1) (by have := lt_288 m hm t; omega)) = 1#1 := by
    show BitVec.ofBool (_ != _) = 1#1
    rw [bne_iff_ne.2 hne]; rfl
  rw [this] at hb; exact absurd hb (by decide)

/-! ## The blocks named by the tables -/

/-- Where a point reads its expert's weights. -/
theorem idx1 (t : Fin (cfgA m hm).N) : ((cfgA m hm).win (1 : Fin 6)).index t = ![(here (T0 m) (crd m hm t)).toNat, 0, 0] := rfl
theorem idx2 (t : Fin (cfgA m hm).N) : ((cfgA m hm).win (2 : Fin 6)).index t = ![(here (T0 m) (crd m hm t)).toNat, 0, 0] := rfl
theorem idx3 (t : Fin (cfgA m hm).N) : ((cfgA m hm).win (3 : Fin 6)).index t = ![(here (T0 m) (crd m hm t)).toNat, 0, 0] := rfl
theorem idx4 (t : Fin (cfgA m hm).N) : ((cfgA m hm).win (4 : Fin 6)).index t = ![(here (T0 m) (crd m hm t)).toNat, 0, 0] := rfl

/-- The first weights of an expert. -/
def upOf (c : Dev nD) (e : ℕ) (he : e < 32) : S1x1024x2048.Idx → Elt Ideal .f32 :=
  fun y => m ((c : Thread nD τ).loc main_arg3) (fun | ⟨0, _⟩ => (⟨e, he⟩ : Fin 32) | ⟨1, _⟩ => (y 1 : Fin 1024) | ⟨2, _⟩ => (y 2 : Fin 2048) | ⟨_ + 3, h⟩ => absurd h (Nat.not_lt.2 (Nat.le_add_left _ _)))
/-- Its first bias. -/
def upBiasOf (c : Dev nD) (e : ℕ) (he : e < 32) : S1x1x2048.Idx → Elt Ideal .f32 :=
  fun y => m ((c : Thread nD τ).loc main_arg4) (fun | ⟨0, _⟩ => (⟨e, he⟩ : Fin 32) | ⟨1, _⟩ => (y 1 : Fin 1) | ⟨2, _⟩ => (y 2 : Fin 2048) | ⟨_ + 3, h⟩ => absurd h (Nat.not_lt.2 (Nat.le_add_left _ _)))
/-- Its second weights. -/
def downOf (c : Dev nD) (e : ℕ) (he : e < 32) : S1x1024x1024.Idx → Elt Ideal .f32 :=
  fun y => m ((c : Thread nD τ).loc main_arg5) (fun | ⟨0, _⟩ => (⟨e, he⟩ : Fin 32) | ⟨1, _⟩ => (y 1 : Fin 1024) | ⟨2, _⟩ => (y 2 : Fin 1024) | ⟨_ + 3, h⟩ => absurd h (Nat.not_lt.2 (Nat.le_add_left _ _)))
/-- Its second bias. -/
def downBiasOf (c : Dev nD) (e : ℕ) (he : e < 32) : S1x1x1024.Idx → Elt Ideal .f32 :=
  fun y => m ((c : Thread nD τ).loc main_arg6) (fun | ⟨0, _⟩ => (⟨e, he⟩ : Fin 32) | ⟨1, _⟩ => (y 1 : Fin 1) | ⟨2, _⟩ => (y 2 : Fin 1024) | ⟨_ + 3, h⟩ => absurd h (Nat.not_lt.2 (Nat.le_add_left _ _)))

include hm in
theorem word_lt (n : ℕ) (hn : n < 288) : (word m n hn).toNat < 32 := hm.1 _

theorem iblk1 (c : Dev nD) (t : Fin (cfgA m hm).N) :
    (iblk m ρ hm c (1 : Fin 6) t : S1x1024x2048.Idx → Elt Ideal .f32) = upOf m c (word m t.val (lt_288 m hm t)).toNat (word_lt m hm _ _) := by
  funext y
  unfold upOf
  blk_simp [iblk]
  blk_ext [idx1 m hm t, here_eq m hm t]
theorem iblk2 (c : Dev nD) (t : Fin (cfgA m hm).N) :
    (iblk m ρ hm c (2 : Fin 6) t : S1x1x2048.Idx → Elt Ideal .f32) = upBiasOf m c (word m t.val (lt_288 m hm t)).toNat (word_lt m hm _ _) := by
  funext y
  unfold upBiasOf
  blk_simp [iblk]
  blk_ext [idx2 m hm t, here_eq m hm t]
theorem iblk3 (c : Dev nD) (t : Fin (cfgA m hm).N) :
    (iblk m ρ hm c (3 : Fin 6) t : S1x1024x1024.Idx → Elt Ideal .f32) = downOf m c (word m t.val (lt_288 m hm t)).toNat (word_lt m hm _ _) := by
  funext y
  unfold downOf
  blk_simp [iblk]
  blk_ext [idx3 m hm t, here_eq m hm t]
theorem iblk4 (c : Dev nD) (t : Fin (cfgA m hm).N) :
    (iblk m ρ hm c (4 : Fin 6) t : S1x1x1024.Idx → Elt Ideal .f32) = downBiasOf m c (word m t.val (lt_288 m hm t)).toNat (word_lt m hm _ _) := by
  funext y
  unfold downBiasOf
  blk_simp [iblk]
  blk_ext [idx4 m hm t, here_eq m hm t]

/-! ## The invariant and the pipeline's data -/

/-- What the first scratch buffer holds before point `n` (after the first point): the weights of the expert of the point before. -/
def Held (c : Dev nD) (n : ℕ) (a0 : Buf (Elt Ideal) ((c : Thread nD τ).loc cc0_scratch0)) (a1 : Buf (Elt Ideal) ((c : Thread nD τ).loc cc0_scratch1)) : Prop :=
  ∀ (h0 : n ≠ 0) (hn : n - 1 < 288), a0 = up (upOf m c (word m (n - 1) hn).toNat (word_lt m hm _ hn)) ∧ a1 = down (downOf m c (word m (n - 1) hn).toNat (word_lt m hm _ hn))

/-- THE INVARIANT before a point: the scratch buffers hold those weights; the body's halves of the tables. -/
def Phi (c : Dev nD) (n : ℕ) : sProp 𝕄 :=
  iprop(∃ a0 a1, ⌜Held m hm c n a0 a1⌝ ∗ (upM.view.loc (c : Thread nD τ) ↦{fullShare} a0) ∗ (downM.view.loc (c : Thread nD τ) ↦{fullShare} a1)
    ∗ (expertsM.view.loc (c : Thread nD τ) ↦{fullShare.right} T0 m) ∗ (usedM.view.loc (c : Thread nD τ) ↦{fullShare.right} T1 m))

/-- What each window's buffer holds after a point: an input its block, the output its tile. -/
def dats (_ : Fin 1) (c : Dev nD) : Dat τ (Elt Ideal) Unit ℕ (UR sig nD τ) ℕ (cfgA m hm) c where
  A w := (s₀ m ρ).mem (((cfgA m hm).win w).arr.view.loc (c : Thread nD τ))
  after w t := match w with
    | ⟨0, _⟩ => iblk m ρ hm c (0 : Fin 6) t
    | ⟨1, _⟩ => iblk m ρ hm c (1 : Fin 6) t
    | ⟨2, _⟩ => iblk m ρ hm c (2 : Fin 6) t
    | ⟨3, _⟩ => iblk m ρ hm c (3 : Fin 6) t
    | ⟨4, _⟩ => iblk m ρ hm c (4 : Fin 6) t
    | ⟨5, _⟩ => tile (T1 m) (crd m hm t) (iblk m ρ hm c (0 : Fin 6) t) (iblk m ρ hm c (1 : Fin 6) t) (iblk m ρ hm c (2 : Fin 6) t) (iblk m ρ hm c (3 : Fin 6) t) (iblk m ρ hm c (4 : Fin 6) t)
  Φ t := Phi m hm c t.val
  q _ := fullShare
  owed _ := 0

theorem after5 (c : Dev nD) (t : Fin (cfgA m hm).N) : (dats m ρ hm 0 c).after (5 : Fin 6) t
    = tile (T1 m) (crd m hm t) (iblk m ρ hm c (0 : Fin 6) t) (iblk m ρ hm c (1 : Fin 6) t) (iblk m ρ hm c (2 : Fin 6) t) (iblk m ρ hm c (3 : Fin 6) t) (iblk m ρ hm c (4 : Fin 6) t) := rfl
theorem after0 (c : Dev nD) (t : Fin (cfgA m hm).N) : (dats m ρ hm 0 c).after (0 : Fin 6) t = iblk m ρ hm c (0 : Fin 6) t := rfl
theorem after1 (c : Dev nD) (t : Fin (cfgA m hm).N) : (dats m ρ hm 0 c).after (1 : Fin 6) t = iblk m ρ hm c (1 : Fin 6) t := rfl
theorem after2 (c : Dev nD) (t : Fin (cfgA m hm).N) : (dats m ρ hm 0 c).after (2 : Fin 6) t = iblk m ρ hm c (2 : Fin 6) t := rfl
theorem after3 (c : Dev nD) (t : Fin (cfgA m hm).N) : (dats m ρ hm 0 c).after (3 : Fin 6) t = iblk m ρ hm c (3 : Fin 6) t := rfl
theorem after4 (c : Dev nD) (t : Fin (cfgA m hm).N) : (dats m ρ hm 0 c).after (4 : Fin 6) t = iblk m ρ hm c (4 : Fin 6) t := rfl

/-- An input's buffer holds its block when the body runs. -/
theorem before0 (c : Dev nD) (t : Fin (cfgA m hm).N) (d) : (dats m ρ hm 0 c).before (0 : Fin 6) t d = iblk m ρ hm c (0 : Fin 6) t :=
  ((dats m ρ hm 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA m hm).N) (d) : (dats m ρ hm 0 c).before (1 : Fin 6) t d = iblk m ρ hm c (1 : Fin 6) t :=
  ((dats m ρ hm 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA m hm).N) (d) : (dats m ρ hm 0 c).before (2 : Fin 6) t d = iblk m ρ hm c (2 : Fin 6) t :=
  ((dats m ρ hm 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA m hm).N) (d) : (dats m ρ hm 0 c).before (3 : Fin 6) t d = iblk m ρ hm c (3 : Fin 6) t :=
  ((dats m ρ hm 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA m hm).N) (d) : (dats m ρ hm 0 c).before (4 : Fin 6) t d = iblk m ρ hm c (4 : Fin 6) t :=
  ((dats m ρ hm 0 c).before_in_eq_fetched (4 : Fin 6) rfl (fun _ => rfl) (fun _ _ _ => rfl) (fun t => by rw [after4]; unfold Dat.blockOf iblk; rfl) t d).trans
    (by unfold Dat.fetched Dat.blockOf iblk; rfl)

/-- The output is stored at every point. -/
theorem idle5 (t : Fin (cfgA m hm).N) : (cfgA m hm).idle (5 : Fin 6) ((cfgA m hm).grid.coords t) = false := by
  have e : ∀ (i : grid0.Coords) (n : BitVec 32), (!(k0_cond2 i n == 1#1) && !(k0_cond3 i n == 1#1)) = false := fun i n => by
    by_cases h : k0_cond2 i n = 1#1
    · rw [h]; rfl
    · rw [(spare_iff_word i n).2 h]; simp
  exact e _ _

/-- The buffers hold this point's weights wherever they are kept. -/
theorem keep (c : Dev nD) (t : Fin (cfgA m hm).N) (a0 : Buf (Elt Ideal) ((c : Thread nD τ).loc cc0_scratch0)) (a1 : Buf (Elt Ideal) ((c : Thread nD τ).loc cc0_scratch1))
    (h : Held m hm c t.val a0 a1) (hr : ¬Refill (T0 m) (crd m hm t)) : a0 = up (iblk m ρ hm c (1 : Fin 6) t) ∧ a1 = down (iblk m ρ hm c (3 : Fin 6) t) := by
  obtain ⟨h0, e⟩ := same_of_kept m hm t hr
  have hn : t.val - 1 < 288 := by have := lt_288 m hm t; omega
  obtain ⟨e0, e1⟩ := h h0 hn
  rw [iblk1, iblk3, e0, e1]
  constructor
  · congr 2; exact congrArg BitVec.toNat e.symm
  · congr 2; exact congrArg BitVec.toNat e.symm

/-- After a point the buffers hold its weights. -/
theorem held_succ (c : Dev nD) (t : Fin (cfgA m hm).N) : Held m hm c (t.val + 1) (up (iblk m ρ hm c (1 : Fin 6) t)) (down (iblk m ρ hm c (3 : Fin 6) t)) := by
  intro _ hn
  rw [iblk1, iblk3]
  exact ⟨rfl, rfl⟩

/-- The body at point `t`, as the pipeline calls it. -/
abbrev bodyAt (t : Fin (cfgA m hm).N) : Prog (TpuEff nD τ sig (Elt Ideal) Λ₀ .tc) PUnit :=
  cc0_grouped_ffn (crd m hm t) expertsM (Memref.isWhole_whole _) usedM (Memref.isWhole_whole _) (ms0 m hm t) (hs0 m hm t) (ms1 m hm t) (hs1 m hm t) (ms2 m hm t) (hs2 m hm t) (ms3 m hm t) (hs3 m hm t) (ms4 m hm t) (hs4 m hm t) (ms5 m hm t) (hs5 m hm t) upM (Memref.isWhole_whole _) downM (Memref.isWhole_whole _)

set_option maxHeartbeats 4000000 in
/-- THE BODY'S OBLIGATION at point `t`. -/
theorem sound_body (c : Dev nD) (t : Fin (cfgA m hm).N) :
    iprop((dats m ρ hm 0 c).Φ t.castSucc ∗ (dats m ρ hm 0 c).owesAt () t.castSucc
        ∗ (∃ d, owns (c : Thread nD τ) (ms0 m hm t) fullShare ((dats m ρ hm 0 c).before (0 : Fin 6) t d))
        ∗ (∃ d, owns (c : Thread nD τ) (ms1 m hm t) fullShare ((dats m ρ hm 0 c).before (1 : Fin 6) t d))
        ∗ (∃ d, owns (c : Thread nD τ) (ms2 m hm t) fullShare ((dats m ρ hm 0 c).before (2 : Fin 6) t d))
        ∗ (∃ d, owns (c : Thread nD τ) (ms3 m hm t) fullShare ((dats m ρ hm 0 c).before (3 : Fin 6) t d))
        ∗ (∃ d, owns (c : Thread nD τ) (ms4 m hm t) fullShare ((dats m ρ hm 0 c).before (4 : Fin 6) t d))
        ∗ (∃ d, owns (c : Thread nD τ) (ms5 m hm t) fullShare ((dats m ρ hm 0 c).before (5 : Fin 6) t d)))
      ⊢ wp frame (wpE (defs₀ (F := Ideal)) Variants.none c none) Set.univ (bodyAt m hm t) fun _ =>
          iprop((dats m ρ hm 0 c).Φ t.succ ∗ (dats m ρ hm 0 c).owesAt () t.succ
            ∗ bigSep Finset.univ fun w : Fin (cfgA m hm).W =>
                match (cfgA m hm).idle w ((cfgA m hm).grid.coords t) with
                | true =>
                  match ((cfgA m hm).win w).flush t with
                  | false => iprop(∃ d, owns (c : Thread nD τ) (((cfgA m hm).win w).stage ((cfgA m hm).slots t w)) fullShare ((dats m ρ hm 0 c).before w t d))
                  | true => owns (c : Thread nD τ) (((cfgA m hm).win w).stage ((cfgA m hm).slots t w)) fullShare ((dats m ρ hm 0 c).after w t)
                | false => owns (c : Thread nD τ) (((cfgA m hm).win w).stage ((cfgA m hm).slots t w)) fullShare ((dats m ρ hm 0 c).after w t)) := by
  rw [bigSep_W0]
  rewrite [idle5]
  simp only [before0, before1, before2, before3, before4, after0, after1, after2, after3, after4, after5]
  rewrite [show (dats m ρ hm 0 c).Φ t.succ = Phi m hm c (t.val + 1) from rfl, show (dats m ρ hm 0 c).Φ t.castSucc = Phi m hm c t.val from rfl,
    show (dats m ρ hm 0 c).owesAt () t.succ = (dats m ρ hm 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩⟩
  have R := fun K => body c (crd m hm t) (ms0 m hm t) (hs0 m hm t) (ms1 m hm t) (hs1 m hm t) (ms2 m hm t) (hs2 m hm t) (ms3 m hm t) (hs3 m hm t) (ms4 m hm t) (hs4 m hm t) (ms5 m hm t) (hs5 m hm t) (T0 m) (T1 m) (iblk m ρ hm c (0 : Fin 6) t) (iblk m ρ hm c (1 : Fin 6) t) (iblk m ρ hm c (2 : Fin 6) t) (iblk m ρ hm c (3 : Fin 6) t) (iblk m ρ hm c (4 : Fin 6) t) a0 a1 (keep m ρ hm c t a0 a1 ha) K
  unfold Step at R
  iapply R
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, H5, HS0, HS1⟩
  isplitl [HS0 HS1 HT0 HT1]
  · iexists _; iexists _; isplitr; swap
    · isplitl [HS0]; · iexact HS0
      isplitl [HS1]; · iexact HS1
      isplitl [HT0]; · iexact HT0
      iexact HT1
    · ipureintro; exact held_succ m ρ hm c t
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-- The library's form of it. -/
theorem body_obligation (c : Dev nD) : BodyObligation (dats m ρ hm 0 c) (defs₀ (F := Ideal)) Variants.none () Set.univ := fun t => by
  rw [bigSep_W0]
  exact sound_body m ρ hm c t

end Cert.FfnIdeal.Tab

end
-- ==== Proof.FfnIdealFrame.lean ====
/- The whole run of the experts' feed-forward part at the tables a launch memory holds: it ends, every array at the computed
   contents, the arguments unchanged, every counter at zero. -/
module

public import proofs.«01_k».proof.Proof.FfnIdealDat

@[expose] public section

set_option maxRecDepth 16384
set_option Elab.async false

noncomputable section

namespace Cert.FfnIdeal.Tab

open Cert.FfnIdeal Cert.FfnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg) (hm : Ok m)

/-- The launch element of the rounds library. -/
def u₀ : UR sig nD τ :=
  initOf (Pipeline.cells (pcs m hm) ((launch0 (F := Ideal)).cellOf_inj fun _ => adm m hm))
    (Pipeline.launchToks (pcs m hm) ((launch0 (F := Ideal)).cellOf_inj fun _ => adm m hm))

theorem share_eq (c : Dev nD) (w : Fin (cfgA m hm).W) : (dats m ρ hm 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffers; -/
theorem phi_first (c : Dev nD) :
    iprop(BI.emp ∗ Pipeline.prefHeld pre0 c (fun _ => fullShare.right) (adm m hm).1 ∗ Pipeline.scopedRest spec0 c) ⊢ (dats m ρ hm 0 c).Φ 0 := by
  rw [prefHeld_eq, scopedRest0_eq, show (dats m ρ hm 0 c).Φ 0 = Phi m hm c 0 from rfl]
  unfold Phi
  iintro ⟨-, ⟨HT0, HT1⟩, ⟨%a0, HS0⟩, ⟨%a1, HS1⟩⟩
  iexists a0; iexists a1; isplitr; swap
  · isplitl [HS0]; · iexact HS0
    isplitl [HS1]; · iexact HS1
    isplitl [HT0]; · iexact HT0
    iexact HT1
  · ipureintro; intro h; exact absurd rfl h

/-- at the last point it gives the scratch buffers back. -/
theorem phi_last (c : Dev nD) : (dats m ρ hm 0 c).Φ (Fin.last (cfgA m hm).N) ⊢ iprop(BI.emp ∗ Pipeline.scopedRest spec0 c) := by
  rw [scopedRest0_eq, show (dats m ρ hm 0 c).Φ (Fin.last (cfgA m hm).N) = Phi m hm c (cfgA m hm).N from rfl]
  unfold Phi
  iintro ⟨%a0, %a1, -, HS0, HS1, -, -⟩
  isplitr; · iempintro
  isplitl [HS0]
  · iexists a0; iexact HS0
  iexists a1; iexact HS1

/-- What a run ends in: every array at its computed contents, every table as it was. -/
def Ends : PUnit × MemSt nD τ sig (Elt Ideal) → Prop := fun r =>
  ∀ c : Dev nD, (∀ w : Fin (cfgA m hm).W, r.2.mem (((cfgA m hm).win w).arr.view.loc (c : Thread nD τ)) = (dats m ρ hm 0 c).arrAt w (cfgA m hm).N)
    ∧ ∀ j, r.2.mem ((c : Thread nD τ).loc (pre0.ref j)) = (adm m hm).1 j

theorem tables_eq (c : Dev nD) (j : Fin 2) : m ((c : Thread nD τ).loc (pre0.ref j)) = (adm m hm).1 j := by
  obtain rfl : c = (0 : Fin 1) := Subsingleton.elim (α := Fin 1) _ _
  fin_cases j <;> rfl

set_option backward.isDefEq.respectTransparency.types false in
set_option maxHeartbeats 4000000 in
/-- From any memory whose tables are in range, with zero counters: every weakly fair execution ends, with each array at the
    computed contents and every counter at zero. -/
theorem run_ends : θ_run (defs (F := Ideal)) (onTc (τ := τ) (main (F := Ideal))) (s₀ m ρ) (fun r => Ends m ρ hm r ∧ r.2.sem = fun _ => 0) :=
  Pipeline.θ_run_region_noSem_pf_quiescent pcfgs (fun _ => adm m hm) (dats m ρ hm) () ((launch0 (F := Ideal)).cellOf_inj fun _ => adm m hm) (0 : Fin 1)
    (launch0 (F := Ideal)).win.to₀ (launch0 (F := Ideal)).pre EP defs₀ Variants.none m ρ main
    (hbody := fun c => (body_obligation m ρ hm c).loose) (hne := (launch0 (F := Ideal)).block_pos)
    (harr := (launch0 (F := Ideal)).arr_whole) (hstage := (launch0 (F := Ideal)).stage_whole) (howed := fun _ _ => rfl)
    (u₀ := u₀ m hm) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hm) (dats m ρ hm) 0 (launch0 (F := Ideal)).win.arr_inj c (launch0 (F := Ideal)).arr_whole
      (share_eq m ρ hm c) _ _ fun _ => rfl)
    (hpf := tables_eq m hm)
    (X := fun _ => iprop(emp)) (Y := fun _ => iprop(emp)) (Z := fun _ => iprop(emp))
    (hX := fun c => by rw [unscopedRestP0_eq]; iintro -; isplitr <;> iempintro)
    (hin := phi_first m ρ hm)
    (hout := phi_last m ρ hm)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged. -/
theorem args_eq (r : PUnit × MemSt nD τ sig (Elt Ideal)) (h : Ends m ρ hm r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 0).trans (tables_eq m hm c 0).symm, ((h c).2 1).trans (tables_eq m hm c 1).symm,
    ((h c).1 (0 : Fin 6)).trans ((dats m ρ hm 0 c).arrAt_in (0 : Fin 6) rfl _), ((h c).1 (1 : Fin 6)).trans ((dats m ρ hm 0 c).arrAt_in (1 : Fin 6) rfl _),
    ((h c).1 (2 : Fin 6)).trans ((dats m ρ hm 0 c).arrAt_in (2 : Fin 6) rfl _), ((h c).1 (3 : Fin 6)).trans ((dats m ρ hm 0 c).arrAt_in (3 : Fin 6) rfl _),
    ((h c).1 (4 : Fin 6)).trans ((dats m ρ hm 0 c).arrAt_in (4 : Fin 6) rfl _)⟩

/-- THE FRAME: from such a memory every execution ends, nothing faults, the arguments end unchanged, every counter at zero. -/
theorem frame [Cert.Pre_tiles_in_range.Facts] (hp : Cert.Pre_FfnIdeal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  have hm : Ok m := Cert.Tables.inRange_of_pre _ _ _ _ _ _ _ (hp 0)
  (θ_run defs _ _).mono (fun r h => ⟨args_eq m ρ hm r h.1, h.2⟩) (run_ends m ρ hm)

end Cert.FfnIdeal.Tab

end
-- ==== Proof.FfnRefAt.lean ====
/- The reference's experts, read at an index: the hidden rows, the clamped activation, the second product, and the sum over
   the experts, of which one is the tile's. -/
module

public import proofs.«01_k».proof.Proof.Gen.FfnRefIdeal.Run
public import proofs.«01_k».proof.Proof.FfnTables
public import Idealize.ShloMosaic.Lib.Pipeline.ValueKit

@[expose] public section

set_option maxRecDepth 16384

noncomputable section

namespace Cert.FfnRefIdeal.Value

open Cert.FfnRefIdeal Cert.FfnRefIdeal.Gen Idealize.ShloMosaic Idealize.ShloMosaic.TcCoe Idealize.SL.Sem

/-- Every expert's hidden rows. -/
def hidden (x : FVec Ideal S73728x1024 .f32) (w : FVec Ideal S32x1024x2048 .f32) (b : FVec Ideal S32x1x2048 .f32) : FVec Ideal S32x73728x2048 .f32 :=
  addf (transpose S32x73728x2048 [0, 2, 1] (Host.dotGeneral dot_S32x1024x2048_S73728x1024_S32x2048x73728_1_1_02_0_n_n none w x) transposes_S32x2048x73728_S32x73728x2048_0_2_1)
    (broadcastInDim S32x73728x2048 ![0, 1, 2] bcast_S32x1x2048_S32x73728x2048_0_1_2 b)

/-- The clamped gate. -/
def gate (h : FVec Ideal S32x73728x2048 .f32) : FVec Ideal S32x73728x1024 .f32 :=
  minimumf (extractStridedSlice S32x73728x1024 ![0, 0, 0] h slices_S32x73728x2048_S32x73728x1024_0_0_0) (broadcastInDim S32x73728x1024 ![] bcast_S_S32x73728x1024 (constant S_ .f32 0x40E00000#32))

/-- The activation. -/
def activated (h : FVec Ideal S32x73728x2048 .f32) : FVec Ideal S32x73728x1024 .f32 :=
  mulf (addf (minimumf (broadcastInDim S32x73728x1024 ![] bcast_S_S32x73728x1024 (id (constant S_ .f32 0x40E00000#32))) (maximumf (broadcastInDim S32x73728x1024 ![] bcast_S_S32x73728x1024 (id (constant S_ .f32 0xC0E00000#32))) (extractStridedSlice S32x73728x1024 ![0, 0, 1024] h slices_S32x73728x2048_S32x73728x1024_0_0_1024))) (broadcastInDim S32x73728x1024 ![] bcast_S_S32x73728x1024 (constant S_ .f32 0x3F800000#32)))
    (mulf (gate h) (Host.divf (broadcastInDim S32x73728x1024 ![] bcast_S_S32x73728x1024 (constant S_ .f32 0x3F800000#32)) (addf (broadcastInDim S32x73728x1024 ![] bcast_S_S32x73728x1024 (constant S_ .f32 0x3F800000#32)) (Host.exp (Host.negf (mulf (broadcastInDim S32x73728x1024 ![] bcast_S_S32x73728x1024 (constant S_ .f32 0x3FD9DB23#32)) (gate h)))))))

/-- Every expert's output rows. -/
def outputs (g : FVec Ideal S32x73728x1024 .f32) (w : FVec Ideal S32x1024x1024 .f32) (b : FVec Ideal S32x1x1024 .f32) : FVec Ideal S32x73728x1024 .f32 :=
  addf (Host.dotGeneral dot_S32x73728x1024_S32x1024x1024_S32x73728x1024_2_1_1_2_0_0 none g w) (broadcastInDim S32x73728x1024 ![0, 1, 2] bcast_S32x1x1024_S32x73728x1024_0_1_2 b)

/-- The routing weights of the rows. -/
def combine (te : IVec S288 32) (nu : IVec S1 32) : FVec Ideal S73728x32 .f32 :=
  select (broadcastInDim S73728x32 ![0, 1] bcast_S73728x1_S73728x32_0_1 (cmpi .slt (broadcastInDim S73728x1 ![0] bcast_S73728_S73728x1_0 (shapeCast _ (broadcastInDim S288x256 ![0] bcast_S288_S288x256_0 (iotaInDim S288 32 0)) shapeCasts_S288x256_S73728)) (broadcastInDim S73728x1 ![] bcast_S_S73728x1 (shapeCast _ nu shapeCasts_S1_S_))))
    (uitofp .f32 (cmpi .eq (broadcastInDim S73728x32 ![0, 1] bcast_S73728x1_S73728x32_0_1 (broadcastInDim S73728x1 ![0] bcast_S73728_S73728x1_0 (shapeCast _ (broadcastInDim S288x256 ![0] bcast_S288_S288x256_0 te) shapeCasts_S288x256_S73728))) (broadcastInDim S73728x32 ![0, 1] bcast_S1x32_S73728x32_0_1 (iotaInDim S1x32 32 1))))
    (broadcastInDim S73728x32 ![] bcast_S_S73728x32 (id (constant S_ .f32 0x00000000#32)))

/-- The weighted sum over the experts. -/
def total (w : FVec Ideal S73728x32 .f32) (y : FVec Ideal S32x73728x1024 .f32) : FVec Ideal S73728x1024 .f32 :=
  Host.reduceAdd (mulf (broadcastInDim S32x73728x1024 ![0, 1, 2] bcast_S32x73728x1_S32x73728x1024_0_1_2 (broadcastInDim S32x73728x1 ![0, 1] bcast_S32x73728_S32x73728x1_0_1 (transpose S32x73728 [1, 0] w transposes_S73728x32_S32x73728_1_0))) y) (constant S_ .f32 0x00000000#32) reducesTo_S32x73728x1024_S73728x1024_d0 h_S_

/-- The whole of the reference. -/
def experts (te : IVec S288 32) (nu : IVec S1 32) (x : FVec Ideal S73728x1024 .f32) (w1 : FVec Ideal S32x1024x2048 .f32) (b1 : FVec Ideal S32x1x2048 .f32)
    (w2 : FVec Ideal S32x1024x1024 .f32) (b2 : FVec Ideal S32x1x1024 .f32) : FVec Ideal S73728x1024 .f32 :=
  total (combine te nu) (outputs (activated (hidden x w1 b1)) w2 b2)

theorem hidden_at (x : FVec Ideal S73728x1024 .f32) (w : FVec Ideal S32x1024x2048 .f32) (b : FVec Ideal S32x1x2048 .f32) (e : Fin 32) (r : Fin 73728) (f : Fin 2048) :
    hidden x w b (ix3 e r f) = (∑ k : Fin 1024, w (ix3 e k f) * x (ix2 r k)) + b (ix3 e 0 f) := by
  pointwise [hidden]

theorem outputs_at (g : FVec Ideal S32x73728x1024 .f32) (w : FVec Ideal S32x1024x1024 .f32) (b : FVec Ideal S32x1x1024 .f32) (e : Fin 32) (r : Fin 73728) (d : Fin 1024) :
    outputs g w b (ix3 e r d) = (∑ f : Fin 1024, g (ix3 e r f) * w (ix3 e f d)) + b (ix3 e 0 d) := by
  pointwise [outputs]

/-- One value of the clamped activation. -/
def act (g l : EReal) : EReal :=
  (min (Ideal.ofBits .f32 0x40E00000#32) (max (Ideal.ofBits .f32 0xC0E00000#32) l) + 1)
    * (min g (Ideal.ofBits .f32 0x40E00000#32) * Ideal.logistic (Ideal.ofBits .f32 0x3FD9DB23#32 * min g (Ideal.ofBits .f32 0x40E00000#32)))

theorem activated_at (h : FVec Ideal S32x73728x2048 .f32) (e : Fin 32) (r : Fin 73728) (f : Fin 1024) :
    activated h (ix3 e r f) = act (h (ix3 e r ⟨f.val, by omega⟩)) (h (ix3 e r ⟨1024 + f.val, by omega⟩)) := by
  pointwise [activated, gate]
  rfl

theorem combine_at (te : IVec S288 32) (nu : IVec S1 32) (r : Fin 73728) (e : Fin 32) (hn : (nu (ix1 0)).toNat ≤ 288) :
    combine te nu (ix2 r e) = if (r.val / 256 : ℕ) < (nu (ix1 0)).toNat ∧ (te (ix1 ⟨r.val / 256, by omega⟩)).toNat = e.val then 1 else 0 := by
  pointwise [combine]
  have hr : r.val / 256 < 288 := by omega
  have hl : (IntOp.cmpi .slt (BitVec.ofNat 32 (r.val / 256)) (nu (ix1 0)) = 1#1) ↔ r.val / 256 < (nu (ix1 0)).toNat := by
    have hw : (BitVec.ofNat 32 (r.val / 256)).toNat = r.val / 256 := by rw [BitVec.toNat_ofNat]; omega
    rw [show IntOp.cmpi .slt (BitVec.ofNat 32 (r.val / 256)) (nu (ix1 0)) = BitVec.ofBool (BitVec.slt (BitVec.ofNat 32 (r.val / 256)) (nu (ix1 0))) from rfl,
      Cert.Tables.ofBool_one, Cert.Tables.slt_iff _ _ (by omega) hn, hw]
  have he : (IntOp.cmpi .eq (te (ix1 ⟨r.val / 256, hr⟩)) (BitVec.ofNat 32 e.val) = 1#1) ↔ (te (ix1 ⟨r.val / 256, hr⟩)).toNat = e.val := by
    rw [show IntOp.cmpi .eq (te (ix1 ⟨r.val / 256, hr⟩)) (BitVec.ofNat 32 e.val) = BitVec.ofBool (te (ix1 ⟨r.val / 256, hr⟩) == BitVec.ofNat 32 e.val) from rfl,
      Cert.Tables.ofBool_one, beq_iff_eq, ← BitVec.toNat_inj, BitVec.toNat_ofNat, Nat.mod_eq_of_lt (by omega)]
  have one : (FloatOps.uitofp .f32 (1#1) : Ideal .f32) = 1 := by show ((_ : ℝ) : EReal) = 1; norm_num
  have zero : (FloatOps.uitofp .f32 (0#1) : Ideal .f32) = 0 := by show ((_ : ℝ) : EReal) = 0; norm_num
  have bit : ∀ b : BitVec 1, b = 1#1 ∨ b = 0#1 := by decide
  by_cases h1 : r.val / 256 < (nu (ix1 0)).toNat
  · rw [hl.2 h1]
    by_cases h2 : (te (ix1 ⟨r.val / 256, hr⟩)).toNat = e.val
    · rw [he.2 h2, if_pos ⟨h1, h2⟩]; exact one
    · rw [(bit _).resolve_left (mt he.1 h2), if_neg (fun h => h2 h.2)]; exact zero
  · rw [(bit _).resolve_left (mt hl.1 h1), if_neg (fun h => h1 h.1)]
    exact Ideal.ofBits_zero_f32

theorem total_at (w : FVec Ideal S73728x32 .f32) (y : FVec Ideal S32x73728x1024 .f32) (r : Fin 73728) (d : Fin 1024) :
    total w y (ix2 r d) = ∑ e : Fin 32, w (ix2 r e) * y (ix3 e r d) := by
  pointwise [total]

/-- What expert `e` makes of row `r`, as a sum over the hidden units of sums over the columns. -/
def expert (x : Fin 1024 → EReal) (w1 : Fin 1024 → Fin 2048 → EReal) (b1 : Fin 2048 → EReal) (w2 : Fin 1024 → Fin 1024 → EReal) (b2 : Fin 1024 → EReal) (d : Fin 1024) : EReal :=
  (∑ f : Fin 1024, act ((∑ k : Fin 1024, x k * w1 k ⟨f.val, by omega⟩) + b1 ⟨f.val, by omega⟩)
    ((∑ k : Fin 1024, x k * w1 k ⟨1024 + f.val, by omega⟩) + b1 ⟨1024 + f.val, by omega⟩) * w2 f d) + b2 d

theorem outputs_activated_at (x : FVec Ideal S73728x1024 .f32) (w1 : FVec Ideal S32x1024x2048 .f32) (b1 : FVec Ideal S32x1x2048 .f32)
    (w2 : FVec Ideal S32x1024x1024 .f32) (b2 : FVec Ideal S32x1x1024 .f32) (e : Fin 32) (r : Fin 73728) (d : Fin 1024) :
    outputs (activated (hidden x w1 b1)) w2 b2 (ix3 e r d)
      = expert (fun k => x (ix2 r k)) (fun k f => w1 (ix3 e k f)) (fun f => b1 (ix3 e 0 f)) (fun f d => w2 (ix3 e f d)) (fun d => b2 (ix3 e 0 d)) d := by
  rw [outputs_at, expert]
  refine congrArg (· + _) (Finset.sum_congr rfl fun f _ => ?_)
  rw [activated_at, hidden_at, hidden_at]
  simp only [mul_comm (w1 _)]

/-- A row of a tile in use holds what the tile's expert makes of it. -/
theorem experts_used (te : IVec S288 32) (nu : IVec S1 32) (x : FVec Ideal S73728x1024 .f32) (w1 : FVec Ideal S32x1024x2048 .f32) (b1 : FVec Ideal S32x1x2048 .f32)
    (w2 : FVec Ideal S32x1024x1024 .f32) (b2 : FVec Ideal S32x1x1024 .f32) (hn : (nu (ix1 0)).toNat ≤ 288) (r : Fin 73728) (d : Fin 1024)
    (hu : r.val / 256 < (nu (ix1 0)).toNat) (e : Fin 32) (he : (te (ix1 ⟨r.val / 256, by omega⟩)).toNat = e.val) :
    experts te nu x w1 b1 w2 b2 (ix2 r d)
      = expert (fun k => x (ix2 r k)) (fun k f => w1 (ix3 e k f)) (fun f => b1 (ix3 e 0 f)) (fun f d => w2 (ix3 e f d)) (fun d => b2 (ix3 e 0 d)) d := by
  rw [experts, total_at, Finset.sum_eq_single e]
  · rw [combine_at _ _ _ _ hn, if_pos ⟨hu, he⟩, one_mul, outputs_activated_at]
  · intro e' _ hne
    rw [combine_at _ _ _ _ hn, if_neg (fun h => hne (Fin.ext (h.2.symm.trans he))), zero_mul]
  · exact fun h => absurd (Finset.mem_univ e) h

/-- A row of a tile not in use holds zero. -/
theorem experts_spare (te : IVec S288 32) (nu : IVec S1 32) (x : FVec Ideal S73728x1024 .f32) (w1 : FVec Ideal S32x1024x2048 .f32) (b1 : FVec Ideal S32x1x2048 .f32)
    (w2 : FVec Ideal S32x1024x1024 .f32) (b2 : FVec Ideal S32x1x1024 .f32) (hn : (nu (ix1 0)).toNat ≤ 288) (r : Fin 73728) (d : Fin 1024)
    (hu : ¬ r.val / 256 < (nu (ix1 0)).toNat) : experts te nu x w1 b1 w2 b2 (ix2 r d) = 0 := by
  rw [experts, total_at]
  exact Finset.sum_eq_zero fun e _ => by rw [combine_at _ _ _ _ hn, if_neg (fun h => hu h.1), zero_mul]

/-- What the program's run leaves, with its name. -/
theorem run_experts (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39) = experts (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono (fun _ h => h) (run (F := Ideal) m ρ)

end Cert.FfnRefIdeal.Value

end
-- ==== Proof.FfnIdealValue.lean ====
/- What the kernel leaves in its result, read at an index: a row of a tile in use holds what the tile's expert makes of it, a
   row of any other tile zero. -/
module

public import proofs.«01_k».proof.Proof.FfnIdealFrame
public import proofs.«01_k».proof.Proof.FfnRefAt
public import Idealize.ShloMosaic.Lib.Pipeline.ValueKit
public import Idealize.ShloMosaic.Lib.Ring

@[expose] public section

set_option maxRecDepth 16384

noncomputable section

namespace Cert.FfnIdeal.Tab

open Cert.FfnIdeal Cert.FfnIdeal.Gen
open Idealize.ShloMosaic
open Idealize.ShloMosaic.TcCoe Idealize.ShloMosaic.Tactic
open Idealize.SL.Sem
open Cert.FfnRefIdeal.Value (act expert)

/-! ## The cast weights -/

/-- A row block of the first weights, cast and stored, is that block. -/
theorem up_piece (x : S1x1024x2048.Idx → Elt Ideal .f32) (o : ℕ) (inb : ∀ a, (![o, 0] : Fin 2 → ℕ) a + S128x2048.size a ≤ S1024x2048.size a) (inb' : ∀ a, (![0, o, 0] : Fin 3 → ℕ) a + S1x128x2048.size a ≤ S1x1024x2048.size a)
    (pay : Vec Ideal S1x128x2048 .f32 → FVec Ideal S128x2048 .bf16) (hp : ∀ v a b, pay v (ix2 a b) = v (ix3 0 a b)) (k : Fin 1024) (f : Fin 2048)
    (y : S128x2048.Idx) (hy : (Rect.unit (s := S1024x2048) ![o, 0] S128x2048.size inb).emb y = ix2 k f) :
    pay (View.ld x (Rect.unit (s := S1x1024x2048) ![0, o, 0] S1x128x2048.size inb')) y = x (ix3 0 k f) := by
  have e0 := congrArg Fin.val (congrFun hy 0)
  have e1 := congrArg Fin.val (congrFun hy 1)
  rw [eq_ix2 y]
  refine (hp _ _ _).trans (congrArg x (funext fun a => Fin.ext ?_))
  match a with
  | ⟨0, _⟩ => rfl
  | ⟨1, _⟩ => exact e0
  | ⟨2, _⟩ => exact e1
/-- A row block of the second weights likewise. -/
theorem down_piece (x : S1x1024x1024.Idx → Elt Ideal .f32) (o : ℕ) (inb : ∀ a, (![o, 0] : Fin 2 → ℕ) a + S128x1024.size a ≤ S1024x1024.size a) (inb' : ∀ a, (![0, o, 0] : Fin 3 → ℕ) a + S1x128x1024.size a ≤ S1x1024x1024.size a)
    (pay : Vec Ideal S1x128x1024 .f32 → FVec Ideal S128x1024 .bf16) (hp : ∀ v a b, pay v (ix2 a b) = v (ix3 0 a b)) (k : Fin 1024) (f : Fin 1024)
    (y : S128x1024.Idx) (hy : (Rect.unit (s := S1024x1024) ![o, 0] S128x1024.size inb).emb y = ix2 k f) :
    pay (View.ld x (Rect.unit (s := S1x1024x1024) ![0, o, 0] S1x128x1024.size inb')) y = x (ix3 0 k f) := by
  have e0 := congrArg Fin.val (congrFun hy 0)
  have e1 := congrArg Fin.val (congrFun hy 1)
  rw [eq_ix2 y]
  refine (hp _ _ _).trans (congrArg x (funext fun a => Fin.ext ?_))
  match a with
  | ⟨0, _⟩ => rfl
  | ⟨1, _⟩ => exact e0
  | ⟨2, _⟩ => exact e1

/-- The first weights of a block as the scratch buffer holds them. -/
theorem up_at (x : S1x1024x2048.Idx → Elt Ideal .f32) (k : Fin 1024) (f : Fin 2048) : up x (ix2 k f) = x (ix3 0 k f) := by
  refine View.canon_eq_of_allAt _ _ _ (View.cover_of_tiledL (s := S1024x2048) (upPieces (View.ld x)) ![128, 2048] (by sl_kernel_rfl) _) ?_
  intro p hp y hy
  simp only [upPieces, List.mem_cons, List.not_mem_nil, or_false] at hp
  rcases hp with rfl | rfl | rfl | rfl | rfl | rfl | rfl | rfl
  · exact up_piece x 896 inb_S1024x2048_S128x2048_896_0 inb_S1x1024x2048_S1x128x2048_0_896_0 k0_pay11 (fun v a b => by pointwise [k0_pay11]) k f y hy
  · exact up_piece x 768 inb_S1024x2048_S128x2048_768_0 inb_S1x1024x2048_S1x128x2048_0_768_0 k0_pay10 (fun v a b => by pointwise [k0_pay10]) k f y hy
  · exact up_piece x 640 inb_S1024x2048_S128x2048_640_0 inb_S1x1024x2048_S1x128x2048_0_640_0 k0_pay9 (fun v a b => by pointwise [k0_pay9]) k f y hy
  · exact up_piece x 512 inb_S1024x2048_S128x2048_512_0 inb_S1x1024x2048_S1x128x2048_0_512_0 k0_pay8 (fun v a b => by pointwise [k0_pay8]) k f y hy
  · exact up_piece x 384 inb_S1024x2048_S128x2048_384_0 inb_S1x1024x2048_S1x128x2048_0_384_0 k0_pay7 (fun v a b => by pointwise [k0_pay7]) k f y hy
  · exact up_piece x 256 inb_S1024x2048_S128x2048_256_0 inb_S1x1024x2048_S1x128x2048_0_256_0 k0_pay6 (fun v a b => by pointwise [k0_pay6]) k f y hy
  · exact up_piece x 128 inb_S1024x2048_S128x2048_128_0 inb_S1x1024x2048_S1x128x2048_0_128_0 k0_pay5 (fun v a b => by pointwise [k0_pay5]) k f y hy
  · exact up_piece x 0 inb_S1024x2048_S128x2048_0_0 inb_S1x1024x2048_S1x128x2048_0_0_0 k0_pay4 (fun v a b => by pointwise [k0_pay4]) k f y hy
/-- Its second weights. -/
theorem down_at (x : S1x1024x1024.Idx → Elt Ideal .f32) (f : Fin 1024) (d : Fin 1024) : down x (ix2 f d) = x (ix3 0 f d) := by
  refine View.canon_eq_of_allAt _ _ _ (View.cover_of_tiledL (s := S1024x1024) (downPieces (View.ld x)) ![128, 1024] (by sl_kernel_rfl) _) ?_
  intro p hp y hy
  simp only [downPieces, List.mem_cons, List.not_mem_nil, or_false] at hp
  rcases hp with rfl | rfl | rfl | rfl | rfl | rfl | rfl | rfl
  · exact down_piece x 896 inb_S1024x1024_S128x1024_896_0 inb_S1x1024x1024_S1x128x1024_0_896_0 k0_pay1 (fun v a b => by pointwise [k0_pay1]) f d y hy
  · exact down_piece x 768 inb_S1024x1024_S128x1024_768_0 inb_S1x1024x1024_S1x128x1024_0_768_0 k0_pay18 (fun v a b => by pointwise [k0_pay18]) f d y hy
  · exact down_piece x 640 inb_S1024x1024_S128x1024_640_0 inb_S1x1024x1024_S1x128x1024_0_640_0 k0_pay17 (fun v a b => by pointwise [k0_pay17]) f d y hy
  · exact down_piece x 512 inb_S1024x1024_S128x1024_512_0 inb_S1x1024x1024_S1x128x1024_0_512_0 k0_pay16 (fun v a b => by pointwise [k0_pay16]) f d y hy
  · exact down_piece x 384 inb_S1024x1024_S128x1024_384_0 inb_S1x1024x1024_S1x128x1024_0_384_0 k0_pay15 (fun v a b => by pointwise [k0_pay15]) f d y hy
  · exact down_piece x 256 inb_S1024x1024_S128x1024_256_0 inb_S1x1024x1024_S1x128x1024_0_256_0 k0_pay14 (fun v a b => by pointwise [k0_pay14]) f d y hy
  · exact down_piece x 128 inb_S1024x1024_S128x1024_128_0 inb_S1x1024x1024_S1x128x1024_0_128_0 k0_pay13 (fun v a b => by pointwise [k0_pay13]) f d y hy
  · exact down_piece x 0 inb_S1024x1024_S128x1024_0_0 inb_S1x1024x1024_S1x128x1024_0_0_0 k0_pay12 (fun v a b => by pointwise [k0_pay12]) f d y hy

/-! ## The tile of a point -/

/-- What the body computes of a row. -/
theorem pay_at (x0 : Vec Ideal S256x1024 .f32) (u : Vec Ideal S1024x2048 .bf16) (b1 : Vec Ideal S1x1x2048 .f32) (w : Vec Ideal S1024x1024 .bf16) (b2 : Vec Ideal S1x1x1024 .f32) (r : Fin 256) (d : Fin 1024) :
    k0_pay2 x0 u b1 w b2 (ix2 r d)
      = expert (fun k => x0 (ix2 r k)) (fun k f => u (ix2 k f)) (fun f => b1 (ix3 0 0 f)) (fun f d => w (ix2 f d)) (fun d => b2 (ix3 0 0 d)) d := by
  pointwise [k0_pay2]
  rfl

theorem spare_at (r : Fin 256) (d : Fin 1024) : (k0_pay3 (F := Ideal)) (ix2 r d) = 0 := by
  pointwise [k0_pay3]

variable (m : (ℓ : Loc nD τ sig) → Buf (Elt Ideal) ℓ) (ρ : Dev nD → PrngReg) (hm : Ok m)

/-- The number of tiles in use. -/
abbrev inUse : ℕ := (T1 m (ix1 0)).toNat

/-- A table of one word has one index. -/
theorem one_idx (j j' : S1.Idx) : j = j' := funext fun a => by
  match a with
  | ⟨0, _⟩ => exact Subsingleton.elim (α := Fin 1) _ _
/-- The count the body loads. -/
theorem count_eq : count (T1 m) = T1 m (ix1 0) := congrArg (T1 m) (one_idx _ _)

/-! ## The blocks of an expert, at an index -/

theorem upOf_at (c : Dev nD) (e : ℕ) (he : e < 32) (k : Fin 1024) (f : Fin 2048) : upOf m c e he (ix3 0 k f) = m ((c : Thread nD τ).loc main_arg3) (ix3 (⟨e, he⟩ : Fin 32) k f) :=
  congrArg (m ((c : Thread nD τ).loc main_arg3)) (funext fun a => by match a with | ⟨0, _⟩ => rfl | ⟨1, _⟩ => rfl | ⟨2, _⟩ => rfl)
theorem upBiasOf_at (c : Dev nD) (e : ℕ) (he : e < 32) (f : Fin 2048) : upBiasOf m c e he (ix3 0 0 f) = m ((c : Thread nD τ).loc main_arg4) (ix3 (⟨e, he⟩ : Fin 32) (0 : Fin 1) f) :=
  congrArg (m ((c : Thread nD τ).loc main_arg4)) (funext fun a => by match a with | ⟨0, _⟩ => rfl | ⟨1, _⟩ => rfl | ⟨2, _⟩ => rfl)
theorem downOf_at (c : Dev nD) (e : ℕ) (he : e < 32) (f : Fin 1024) (d : Fin 1024) : downOf m c e he (ix3 0 f d) = m ((c : Thread nD τ).loc main_arg5) (ix3 (⟨e, he⟩ : Fin 32) f d) :=
  congrArg (m ((c : Thread nD τ).loc main_arg5)) (funext fun a => by match a with | ⟨0, _⟩ => rfl | ⟨1, _⟩ => rfl | ⟨2, _⟩ => rfl)
theorem downBiasOf_at (c : Dev nD) (e : ℕ) (he : e < 32) (d : Fin 1024) : downBiasOf m c e he (ix3 0 0 d) = m ((c : Thread nD τ).loc main_arg6) (ix3 (⟨e, he⟩ : Fin 32) (0 : Fin 1) d) :=
  congrArg (m ((c : Thread nD τ).loc main_arg6)) (funext fun a => by match a with | ⟨0, _⟩ => rfl | ⟨1, _⟩ => rfl | ⟨2, _⟩ => rfl)

/-! ## The tiles -/

/-- A tile is in use where its number is below the count. -/
theorem used_iff (t : Fin (cfgA m hm).N) : Used (T1 m) (crd m hm t) ↔ t.val < inUse m := by
  have ht := lt_288 m hm t
  have hw : (BitVec.ofNat 32 t.val).toNat = t.val := by rw [BitVec.toNat_ofNat]; omega
  refine (bit_one ((BitVec.ofNat 32 (crd m hm t 0).val).slt (count (T1 m)))).trans ?_
  rw [crd_val, count_eq]
  exact (Cert.Tables.slt_iff _ _ (by omega) (hm.2 _).2).trans (by rw [hw])

/-- The rows a tile reads, where it is in use. -/
theorem idx0 (t : Fin (cfgA m hm).N) (hu : t.val < inUse m) : ((cfgA m hm).win (0 : Fin 6)).index t = ![t.val, 0] := by
  have ht := lt_288 m hm t
  have hw : (BitVec.ofNat 32 t.val).toNat = t.val := by rw [BitVec.toNat_ofNat]; omega
  have e : ((cfgA m hm).win (0 : Fin 6)).index t = ![(Scalar.minsi (BitVec.ofNat 32 (crd m hm t 0).val) (Scalar.subi (count (T1 m)) 1#32)).toNat, 0] := rfl
  rw [e, crd_val, count_eq, Cert.Tables.minsi_toNat _ _ (by omega) (hm.2 _), hw, Nat.min_eq_left (by change t.val ≤ inUse m - 1; omega)]

/-- The rows it writes. -/
theorem idx5 (t : Fin (cfgA m hm).N) : ((cfgA m hm).win (5 : Fin 6)).index t = ![t.val, 0] := by
  have ht := lt_288 m hm t
  have e : ((cfgA m hm).win (5 : Fin 6)).index t = ![(BitVec.ofNat 32 (crd m hm t 0).val).toNat, 0] := rfl
  rw [e, crd_val, BitVec.toNat_ofNat, Nat.mod_eq_of_lt (by omega)]

/-- Every tile is written back. -/
theorem flush5 (t : Fin (cfgA m hm).N) : ((cfgA m hm).win (5 : Fin 6)).flush t = true :=
  (by decide +kernel : ∀ t : Fin grid0.N, Pipeline.Window.flushOf grid0 true cc0_transform_5 t = true) t

/-- The tiles cover the result. -/
theorem covers5 : ((cfgA m hm).win (5 : Fin 6)).Covers := by
  refine ⟨(by decide : ∀ a : Fin 2, 0 < (![256, 1024] : Fin 2 → ℕ) a), fun β => ?_⟩
  have h0 : (β (0 : Fin 2)).val < 288 := lt_of_lt_of_eq (β (0 : Fin 2)).isLt (show ((73728 + 256 - 1) / 256 : ℕ) = 288 by norm_num)
  have h1 : (β (1 : Fin 2)).val < 1 := lt_of_lt_of_eq (β (1 : Fin 2)).isLt (show ((1024 + 1024 - 1) / 1024 : ℕ) = 1 by norm_num)
  refine ⟨⟨(β (0 : Fin 2)).val, lt_of_lt_of_eq h0 N_0.symm⟩, flush5 m hm _, fun a => ?_⟩
  rw [idx5]
  match a with
  | ⟨0, _⟩ => exact ⟨rfl, .inl rfl⟩
  | ⟨1, _⟩ => exact ⟨(Nat.lt_one_iff.1 h1).symm, .inl rfl⟩

/-- The rows of a tile in use. -/
theorem iblk0 (c : Dev nD) (t : Fin (cfgA m hm).N) (hu : t.val < inUse m) (r : Fin 256) (k : Fin 1024) :
    (iblk m ρ hm c (0 : Fin 6) t : S256x1024.Idx → Elt Ideal .f32) (ix2 r k) = m ((c : Thread nD τ).loc main_arg2) (ix2 (⟨256 * t.val + r.val, by have := lt_288 m hm t; omega⟩ : Fin 73728) k) := by
  blk_simp [iblk]
  blk_ext [idx0 m hm t hu]

/-- What a tile holds: the reference's rows. -/
theorem tile_at (c : Dev nD) (t : Fin (cfgA m hm).N) (r : Fin 256) (d : Fin 1024) :
    tile (T1 m) (crd m hm t) (iblk m ρ hm c (0 : Fin 6) t) (iblk m ρ hm c (1 : Fin 6) t) (iblk m ρ hm c (2 : Fin 6) t) (iblk m ρ hm c (3 : Fin 6) t) (iblk m ρ hm c (4 : Fin 6) t) (ix2 r d)
      = Cert.FfnRefIdeal.Value.experts (T0 m) (T1 m) (m ((c : Thread nD τ).loc main_arg2)) (m ((c : Thread nD τ).loc main_arg3)) (m ((c : Thread nD τ).loc main_arg4))
          (m ((c : Thread nD τ).loc main_arg5)) (m ((c : Thread nD τ).loc main_arg6)) (ix2 (⟨256 * t.val + r.val, by have := lt_288 m hm t; omega⟩ : Fin 73728) d) := by
  have ht := lt_288 m hm t
  have hq : (256 * t.val + r.val) / 256 = t.val := by omega
  unfold tile
  by_cases hu : t.val < inUse m
  · rw [if_pos ((used_iff m hm t).2 hu), pay_at]
    refine Eq.trans ?_ (Cert.FfnRefIdeal.Value.experts_used _ _ _ _ _ _ _ (hm.2 _).2 _ _ (by show _ / 256 < _; rw [hq]; exact hu) ⟨(word m t.val ht).toNat, word_lt m hm _ _⟩ ?_).symm
    · simp only [up_at, down_at, iblk0 m ρ hm c t hu, iblk1, iblk2, iblk3, iblk4, upOf_at, upBiasOf_at, downOf_at, downBiasOf_at]
    · refine congrArg (fun j => (T0 m j).toNat) (funext fun a => Fin.ext ?_)
      obtain rfl : a = (0 : Fin 1) := Subsingleton.elim (α := Fin 1) _ _
      exact hq
  · rw [if_neg (fun h => hu ((used_iff m hm t).1 h)), spare_at]
    exact (Cert.FfnRefIdeal.Value.experts_spare _ _ _ _ _ _ _ (hm.2 _).2 _ _ (by show ¬ _ / 256 < _; rw [hq]; exact hu)).symm

/-- THE RESULT ARRAY of the kernel. -/
theorem final (c : Dev nD) : (dats m ρ hm 0 c).arrAt (5 : Fin 6) (cfgA m hm).N
    = Cert.FfnRefIdeal.Value.experts (T0 m) (T1 m) (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m ρ hm 0 c).arrAt_eq_of_covers (5 : Fin 6) _ (covers5 m hm) fun t _ y => ?_
  blk_simp
  rw [after5]
  have e : (((cfgA m hm).win (5 : Fin 6)).blk t).view.emb y = ix2 (⟨256 * t.val + (y (0 : Fin 2)).val, by have := lt_288 m hm t; have : (y (0 : Fin 2)).val < 256 := (y (0 : Fin 2)).isLt; omega⟩ : Fin 73728) (y (1 : Fin 2)) := by
    blk_ext [idx5 m hm t]
  rw [e]
  exact (congrArg _ (eq_ix2 y)).trans (tile_at m ρ hm c t (y (0 : Fin 2)) (y (1 : Fin 2)))

end Cert.FfnIdeal.Tab

end
-- ==== Proof.FfnClaim.lean ====
/- The claims about the experts' feed-forward part. -/
module

public import proofs.«01_k».proof.Defs
public import proofs.«01_k».proof.Proof.FfnIdealValue

@[expose] public section

set_option maxRecDepth 16384

noncomputable section

namespace Cert.FfnIdeal.Tab

open Idealize.ShloMosaic Idealize.ShloMosaic.TcCoe Idealize.SL.Sem Cert.FfnIdeal

/-- The kernel's run from tables in range: its result is the reference's, its arguments end unchanged. -/
theorem run_experts (m : (ℓ : Loc nD τ sig) → Buf (Elt Ideal) ℓ) (ρ : Dev nD → PrngReg) (hm : Ok m) :
    θ_run (defs (F := Ideal)) (onTc (τ := τ) (main (F := Ideal))) ⟨m, fun _ => 0, ρ⟩ (fun r => ∀ c : Dev nD,
      r.2.mem ((c.tc : Thread nD τ).loc main_v0) = Cert.FfnRefIdeal.Value.experts (T0 m) (T1 m) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 (5 : Fin 6)).trans (final m ρ hm c), args_eq m ρ hm r h.1 c⟩) (run_ends m ρ hm)

/-- The reference's result, from the kernel's memory. -/
theorem experts_of_agree (m : (ℓ : Loc nD τ sig) → Buf (Elt Ideal) ℓ) (m' : (ℓ : Loc Cert.FfnRefIdeal.nD Cert.FfnRefIdeal.τ Cert.FfnRefIdeal.sig) → Buf (Elt Ideal) ℓ) (c : Dev nD)
    (h : m' ((c.tc : Thread Cert.FfnRefIdeal.nD Cert.FfnRefIdeal.τ).loc Cert.FfnRefIdeal.main_arg0) = m ((c.tc : Thread nD τ).loc main_arg0)
      ∧ m' ((c.tc : Thread Cert.FfnRefIdeal.nD Cert.FfnRefIdeal.τ).loc Cert.FfnRefIdeal.main_arg1) = m ((c.tc : Thread nD τ).loc main_arg1)
      ∧ m' ((c.tc : Thread Cert.FfnRefIdeal.nD Cert.FfnRefIdeal.τ).loc Cert.FfnRefIdeal.main_arg2) = m ((c.tc : Thread nD τ).loc main_arg2)
      ∧ m' ((c.tc : Thread Cert.FfnRefIdeal.nD Cert.FfnRefIdeal.τ).loc Cert.FfnRefIdeal.main_arg3) = m ((c.tc : Thread nD τ).loc main_arg3)
      ∧ m' ((c.tc : Thread Cert.FfnRefIdeal.nD Cert.FfnRefIdeal.τ).loc Cert.FfnRefIdeal.main_arg4) = m ((c.tc : Thread nD τ).loc main_arg4)
      ∧ m' ((c.tc : Thread Cert.FfnRefIdeal.nD Cert.FfnRefIdeal.τ).loc Cert.FfnRefIdeal.main_arg5) = m ((c.tc : Thread nD τ).loc main_arg5)
      ∧ m' ((c.tc : Thread Cert.FfnRefIdeal.nD Cert.FfnRefIdeal.τ).loc Cert.FfnRefIdeal.main_arg6) = m ((c.tc : Thread nD τ).loc main_arg6)) :
    Cert.FfnRefIdeal.Value.experts (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1))
        (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))
        (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5))
        (m' ((c.tc : Thread Cert.FfnRefIdeal.nD Cert.FfnRefIdeal.τ).loc Cert.FfnRefIdeal.main_arg6))
      = Cert.FfnRefIdeal.Value.experts (T0 m) (T1 m) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  obtain ⟨h0, h1, h2, h3, h4, h5, h6⟩ := h
  rw [h0, h1, h2, h3, h4, h5, h6]
  obtain rfl : c = 0 := Subsingleton.elim (α := Fin 1) _ _
  rfl

/-- The kernel and the reference end with equal results. -/
theorem algebraic (hT : Cert.Pre_tiles_in_range.Facts) : Cert.algebraic_FfnIdeal_FfnRefIdeal (hFfnIdeal := Cert.FfnIdeal.Gen.facts) (hFfnRefIdeal := Cert.FfnRefIdeal.Gen.facts) := fun m g m' g' hpre hagree =>
  ⟨_, run_experts m g (Cert.Tables.inRange_of_pre _ _ _ _ _ _ _ (hpre 0)),
    (θ_run Cert.FfnRefIdeal.defs _ _).mono (fun _ h c => ⟨(h c).1.trans (experts_of_agree m m' c (hagree c)), (h c).2⟩) (Cert.FfnRefIdeal.Value.run_experts m' g')⟩

/-- The reference ends with its counters at zero and its arguments as they were. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run_experts m ρ)

end Cert.FfnIdeal.Tab

end
-- ==== Proof.lean ====
/- The certificate: the claims of the calls, put together. -/
module

public import proofs.«01_k».proof.Proof.Ctx1Claim
public import proofs.«01_k».proof.Proof.CtxClaim
public import proofs.«01_k».proof.Proof.MlaClaim
public import proofs.«01_k».proof.Proof.FfnFrame
public import proofs.«01_k».proof.Proof.FfnClaim
public import proofs.«01_k».proof.Proof.Gen.Pre_finite_queries_and_keys
public import proofs.«01_k».proof.Proof.Gen.Pre_tiles_in_range

@[expose] public section

noncomputable section

namespace Cert.Proof

open Idealize.ShloMosaic Idealize.SL.Sem

theorem claim : Cert.Claim := ⟨Cert.Mla.Gen.facts, Cert.MlaIdeal.Gen.facts, Cert.MlaRefIdeal.Gen.facts, Cert.Ffn.Gen.facts, Cert.FfnIdeal.Gen.facts, Cert.FfnRefIdeal.Gen.facts,
  Cert.Ctx.Gen.facts, Cert.CtxIdeal.Gen.facts, Cert.CtxRefIdeal.Gen.facts,
  Cert.Ctx1.Gen.facts, Cert.Ctx1Ideal.Gen.facts, Cert.CtxRef1Ideal.Gen.facts,
  Cert.Pre_finite_queries_and_keys.Gen.facts, Cert.Pre_tiles_in_range.Gen.facts,
  fun m ρ _ => Cert.Mla.Gen.frame m ρ, fun m ρ _ => Cert.MlaIdeal.Gen.frame m ρ, fun m ρ _ => Cert.MlaIdeal.Gen.frame m ρ,
  Cert.MlaIdeal.Value.frame_ref, fun m ρ _ => Cert.MlaIdeal.Value.frame_ref m ρ trivial,
  fun m ρ hp => Cert.Ffn.Tab.frame m ρ hp, fun m ρ hp => Cert.FfnIdeal.Tab.frame m ρ hp,
  Cert.FfnIdeal.Tab.frame_ref, fun m ρ _ => Cert.FfnIdeal.Tab.frame_ref m ρ trivial,
  fun m ρ _ => Cert.Ctx.Gen.frame m ρ, fun m ρ _ => Cert.CtxIdeal.Gen.frame m ρ, Cert.CtxIdeal.Value.frame_ref,
  fun m ρ _ => Cert.Ctx1.Gen.frame m ρ, fun m ρ _ => Cert.Ctx1Ideal.Gen.frame m ρ, Cert.Ctx1Ideal.Value.frame_ref,
  Cert.MlaIdeal.Value.preserves, Cert.MlaIdeal.Value.algebraic _, trivial, Cert.FfnIdeal.Tab.algebraic _,
  trivial, Cert.CtxIdeal.Value.algebraic, trivial, Cert.Ctx1Ideal.Value.algebraic⟩

end Cert.Proof

end
